-- ==== Defs.lean ====
def Pre_Kernel [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v156)) (v1 : (c : Dev Cert.KernelIdeal.nD) → Buf (Elt Ideal) ((c.tc : Thread Cert.KernelIdeal.nD Cert.KernelIdeal.τ).loc Cert.KernelIdeal.main_v155_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v156) = v0 c
          ∧ r.2.mem ((c.tc : Thread Cert.KernelIdeal.nD Cert.KernelIdeal.τ).loc Cert.KernelIdeal.main_v155_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel) (hPre_inputs_ok := hPre_inputs_ok)
    ∧ quiescent_KernelIdeal (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal (hKernelIdeal := hKernelIdeal) (hReferenceIdeal := hReferenceIdeal) (hPre_inputs_ok := hPre_inputs_ok)
-- ==== Pre_inputs_ok.lean ====
abbrev S50000 : Shape := ⟨1, ![50000]⟩
abbrev S50000x128 : Shape := ⟨2, ![50000, 128]⟩
abbrev S131072x128 : Shape := ⟨2, ![131072, 128]⟩
abbrev S64x128 : Shape := ⟨2, ![64, 128]⟩
abbrev S512x512 : Shape := ⟨2, ![512, 512]⟩
abbrev S128x128 : Shape := ⟨2, ![128, 128]⟩
abbrev S128 : Shape := ⟨1, ![128]⟩
abbrev S131072 : Shape := ⟨1, ![131072]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S131072x128 : S_.BroadcastsInDim S131072x128 (![] : Fin 0 → Fin S131072x128.rank)
  reducesTo_S131072x128_S_d0_1 : S131072x128.ReducesTo [0, 1] S_
  bcast_S_S64x128 : S_.BroadcastsInDim S64x128 (![] : Fin 0 → Fin S64x128.rank)
  reducesTo_S64x128_S_d0_1 : S64x128.ReducesTo [0, 1] S_
  bcast_S_S512x512 : S_.BroadcastsInDim S512x512 (![] : Fin 0 → Fin S512x512.rank)
  reducesTo_S512x512_S_d0_1 : S512x512.ReducesTo [0, 1] S_

variable [Facts]

def fn_where {F : FTy → Type} [FloatOps F] (arg0 : IVec S131072 1) (arg1 : IVec S131072 32) (arg2 : IVec S131072 32) : IVec S131072 32 :=
  let v0 : IVec S131072 32 := select arg0 arg1 arg2
  v0

def fn_floor_divide {F : FTy → Type} [FloatOps F] (arg0 : IVec S131072 32) (arg1 : IVec S_ 32) : IVec S131072 32 :=
  let v0 : IVec S_ 32 := id arg1
  let v1 : IVec S131072 32 := broadcastInDim S131072 ![] bcast_S_S131072 v0
  let v2 : IVec S131072 32 := Host.divsi arg0 v1
  let v3 : IVec S131072 32 := signi arg0
  let v4 : IVec S_ 32 := signi v0
  let v5 : IVec S131072 32 := broadcastInDim S131072 ![] bcast_S_S131072 v4
  let v6 : IVec S131072 1 := cmpi .ne v3 v5
  let v7 : IVec S131072 32 := broadcastInDim S131072 ![] bcast_S_S131072 v0
  let v8 : IVec S131072 32 := Host.remsi arg0 v7
  let c : IVec S_ 32 := constantI S_ 32 0#32
  let v9 : IVec S131072 32 := broadcastInDim S131072 ![] bcast_S_S131072 c
  let v10 : IVec S131072 1 := cmpi .ne v8 v9
  let v11 : IVec S131072 1 := andi v6 v10
  let c_0 : IVec S_ 32 := constantI S_ 32 1#32
  let v12 : IVec S131072 32 := broadcastInDim S131072 ![] bcast_S_S131072 c_0
  let v13 : IVec S131072 32 := subi v2 v12
  let v14 : IVec S131072 32 := fn_where (F := F) v11 v13 v2
  v14

def fn_part2 {F : FTy → Type} [FloatOps F] (main_arg5 : FVec F S512x512 .f32) (main_arg6 : FVec F S512x512 .f32) (main_v32 : IVec S_ 1) (main_v33 : FVec F S64x128 .f32) : IVec S_ 1 :=
  let main_cst_12 : FVec F S_ .f32 := constant S_ .f32 0x7F800000#32
  let main_v34 : FVec F S64x128 .f32 := broadcastInDim S64x128 ![] bcast_S_S64x128 main_cst_12
  let main_v35 : IVec S64x128 1 := cmpf .olt main_v33 main_v34
  let main_c_13 : IVec S_ 1 := constantI S_ 1 1#1
  let main_v36 : IVec S_ 1 := (fun x v => Host.reduce IntOp.andi x v reducesTo_S64x128_S_d0_1 h_S_) main_v35 main_c_13
  let main_v37 : IVec S_ 1 := andi main_v32 main_v36
  let main_v38 : FVec F S512x512 .f32 := Host.absf main_arg5
  let main_cst_14 : FVec F S_ .f32 := constant S_ .f32 0x7F800000#32
  let main_v39 : FVec F S512x512 .f32 := broadcastInDim S512x512 ![] bcast_S_S512x512 main_cst_14
  let main_v40 : IVec S512x512 1 := cmpf .olt main_v38 main_v39
  let main_c_15 : IVec S_ 1 := constantI S_ 1 1#1
  let main_v41 : IVec S_ 1 := (fun x v => Host.reduce IntOp.andi x v reducesTo_S512x512_S_d0_1 h_S_) main_v40 main_c_15
  let main_v42 : IVec S_ 1 := andi main_v37 main_v41
  let main_v43 : FVec F S512x512 .f32 := Host.absf main_arg6
  let main_cst_16 : FVec F S_ .f32 := constant S_ .f32 0x7F800000#32
  let main_v44 : FVec F S512x512 .f32 := broadcastInDim S512x512 ![] bcast_S_S512x512 main_cst_16
  let main_v45 : IVec S512x512 1 := cmpf .olt main_v43 main_v44
  let main_c_17 : IVec S_ 1 := constantI S_ 1 1#1
  let main_v46 : IVec S_ 1 := (fun x v => Host.reduce IntOp.andi x v reducesTo_S512x512_S_d0_1 h_S_) main_v45 main_c_17
  let main_v47 : IVec S_ 1 := andi main_v42 main_v46
  main_v47

def fn_part1 {F : FTy → Type} [FloatOps F] (main_arg1 : FVec F S50000x128 .f32) (main_arg2 : FVec F S131072x128 .f32) (main_arg3 : FVec F S64x128 .f32) (main_arg4 : FVec F S64x128 .f32) (main_arg5 : FVec F S512x512 .f32) (main_arg6 : FVec F S512x512 .f32) (main_v12 : IVec S_ 1) (main_v15 : IVec S131072 1) (main_c_6 : IVec S_ 1) : IVec S_ 1 :=
  let main_v16 : IVec S_ 1 := (fun x v => Host.reduce IntOp.andi x v reducesTo_S131072_S_d0 h_S_) main_v15 main_c_6
  let main_v17 : IVec S_ 1 := andi main_v12 main_v16
  let main_v18 : FVec F S50000x128 .f32 := Host.absf main_arg1
  let main_cst : FVec F S_ .f32 := constant S_ .f32 0x7F800000#32
  let main_v19 : FVec F S50000x128 .f32 := broadcastInDim S50000x128 ![] bcast_S_S50000x128 main_cst
  let main_v20 : IVec S50000x128 1 := cmpf .olt main_v18 main_v19
  let main_c_7 : IVec S_ 1 := constantI S_ 1 1#1
  let main_v21 : IVec S_ 1 := (fun x v => Host.reduce IntOp.andi x v reducesTo_S50000x128_S_d0_1 h_S_) main_v20 main_c_7
  let main_v22 : IVec S_ 1 := andi main_v17 main_v21
  let main_v23 : FVec F S131072x128 .f32 := Host.absf main_arg2
  let main_cst_8 : FVec F S_ .f32 := constant S_ .f32 0x7F800000#32
  let main_v24 : FVec F S131072x128 .f32 := broadcastInDim S131072x128 ![] bcast_S_S131072x128 main_cst_8
  let main_v25 : IVec S131072x128 1 := cmpf .olt main_v23 main_v24
  let main_c_9 : IVec S_ 1 := constantI S_ 1 1#1
  let main_v26 : IVec S_ 1 := (fun x v => Host.reduce IntOp.andi x v reducesTo_S131072x128_S_d0_1 h_S_) main_v25 main_c_9
  let main_v27 : IVec S_ 1 := andi main_v22 main_v26
  let main_v28 : FVec F S64x128 .f32 := Host.absf main_arg3
  let main_cst_10 : FVec F S_ .f32 := constant S_ .f32 0x7F800000#32
  let main_v29 : FVec F S64x128 .f32 := broadcastInDim S64x128 ![] bcast_S_S64x128 main_cst_10
  let main_v30 : IVec S64x128 1 := cmpf .olt main_v28 main_v29
  let main_c_11 : IVec S_ 1 := constantI S_ 1 1#1
  let main_v31 : IVec S_ 1 := (fun x v => Host.reduce IntOp.andi x v reducesTo_S64x128_S_d0_1 h_S_) main_v30 main_c_11
  let main_v32 : IVec S_ 1 := andi main_v27 main_v31
  let main_v33 : FVec F S64x128 .f32 := Host.absf main_arg4
  fn_part2 (F := F) main_arg5 main_arg6 main_v32 main_v33

def fn {F : FTy → Type} [FloatOps F] (main_arg0 : FVec F S50000 .f32) (main_arg1 : FVec F S50000x128 .f32) (main_arg2 : FVec F S131072x128 .f32) (main_arg3 : FVec F S64x128 .f32) (main_arg4 : FVec F S64x128 .f32) (main_arg5 : FVec F S512x512 .f32) (main_arg6 : FVec F S512x512 .f32) (main_arg7 : FVec F S128x128 .f32) (main_arg8 : FVec F S128 .f32) (main_arg9 : IVec S131072 32) (main_arg10 : IVec S131072 32) (main_arg11 : IVec S131072 32) : IVec S_ 1 :=
  let main_c : IVec S_ 32 := constantI S_ 32 0#32
  let main_v0 : IVec S131072 32 := broadcastInDim S131072 ![] bcast_S_S131072 main_c
  let main_v1 : IVec S131072 1 := cmpi .sge main_arg9 main_v0
  let main_c_0 : IVec S_ 32 := constantI S_ 32 50000#32
  let main_v2 : IVec S131072 32 := broadcastInDim S131072 ![] bcast_S_S131072 main_c_0
  let main_v3 : IVec S131072 1 := cmpi .slt main_arg9 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  let main_c_2 : IVec S_ 32 := constantI S_ 32 0#32
  let main_v6 : IVec S131072 32 := broadcastInDim S131072 ![] bcast_S_S131072 main_c_2
  let main_v7 : IVec S131072 1 := cmpi .sge main_arg10 main_v6
  let main_c_3 : IVec S_ 32 := constantI S_ 32 50000#32
  let main_v8 : IVec S131072 32 := broadcastInDim S131072 ![] bcast_S_S131072 main_c_3
  let main_v9 : IVec S131072 1 := cmpi .slt main_arg10 main_v8
  let main_v10 : IVec S131072 1 := andi main_v7 main_v9
  let main_c_4 : IVec S_ 1 := constantI S_ 1 1#1
  let main_v11 : IVec S_ 1 := (fun x v => Host.reduce IntOp.andi x v reducesTo_S131072_S_d0 h_S_) main_v10 main_c_4
  let main_v12 : IVec S_ 1 := andi main_v5 main_v11
  let main_v13 : IVec S131072 32 := iotaInDim S131072 32 0
  let main_c_5 : IVec S_ 32 := constantI S_ 32 2048#32
  let main_v14 : IVec S131072 32 := fn_floor_divide (F := F) main_v13 main_c_5
  let main_v15 : IVec S131072 1 := cmpi .eq main_arg11 main_v14
  let main_c_6 : IVec S_ 1 := constantI S_ 1 1#1
  fn_part1 (F := F) main_arg1 main_arg2 main_arg3 main_arg4 main_arg5 main_arg6 main_v12 main_v15 main_c_6
-- ==== Kernel.lean ====
abbrev S50000 : Shape := ⟨1, ![50000]⟩
abbrev S50000x128 : Shape := ⟨2, ![50000, 128]⟩
abbrev S131072x128 : Shape := ⟨2, ![131072, 128]⟩
abbrev S64x128 : Shape := ⟨2, ![64, 128]⟩
abbrev S512x512 : Shape := ⟨2, ![512, 512]⟩
abbrev S128x128 : Shape := ⟨2, ![128, 128]⟩
abbrev S128 : Shape := ⟨1, ![128]⟩
abbrev S131072 : Shape := ⟨1, ![131072]⟩
abbrev S512x128 : Shape := ⟨2, ![512, 128]⟩
abbrev S128x512 : Shape := ⟨2, ![128, 512]⟩
abbrev S64x512 : Shape := ⟨2, ![64, 512]⟩
abbrev S512 : Shape := ⟨1, ![512]⟩
abbrev S_ : Shape := ⟨0, ![]⟩
abbrev S64x1x512 : Shape := ⟨3, ![64, 1, 512]⟩
abbrev S256x1x512 : Shape := ⟨3, ![256, 1, 512]⟩
abbrev S1x1x512 : Shape := ⟨3, ![1, 1, 512]⟩
abbrev S1x512 : Shape := ⟨2, ![1, 512]⟩
abbrev S131072x1 : Shape := ⟨2, ![131072, 1]⟩
abbrev S64x2048 : Shape := ⟨2, ![64, 2048]⟩
abbrev S64 : Shape := ⟨1, ![64]⟩
abbrev S64x1 : Shape := ⟨2, ![64, 1]⟩
abbrev S8192 : Shape := ⟨1, ![8192]⟩
abbrev S8192x1 : Shape := ⟨2, ![8192, 1]⟩
abbrev S8192x128 : Shape := ⟨2, ![8192, 128]⟩
abbrev S50000x1 : Shape := ⟨2, ![50000, 1]⟩
abbrev S1x128 : Shape := ⟨2, ![1, 128]⟩
abbrev S2000x1 : Shape := ⟨2, ![2000, 1]⟩
abbrev S2000x128 : Shape := ⟨2, ![2000, 128]⟩

abbrev nBuf : Table → Nat
  | .hbm => 210
  | .local .tc .vmem => 38
  | .local .scVector .vmem => 2
  | _ => 0

abbrev hbmTy0_0 (i : Nat) : BufTy := match i % 128 with
  | 0 => ⟨S50000, .f32⟩
  | 1 => ⟨S50000x128, .f32⟩
  | 2 => ⟨S131072x128, .f32⟩
  | 3 => ⟨S64x128, .f32⟩
  | 4 => ⟨S64x128, .f32⟩
  | 5 => ⟨S512x512, .f32⟩
  | 6 => ⟨S512x512, .f32⟩
  | 7 => ⟨S128x128, .f32⟩
  | 8 => ⟨S128, .f32⟩
  | 9 => ⟨S131072, .i32⟩
  | 10 => ⟨S131072, .i32⟩
  | 11 => ⟨S131072, .i32⟩
  | 12 => ⟨S512x128, .f32⟩
  | 13 => ⟨S128x512, .f32⟩
  | 14 => ⟨S128x512, .bf16⟩
  | 15 => ⟨S512x128, .f32⟩
  | 16 => ⟨S128x512, .f32⟩
  | 17 => ⟨S128x512, .bf16⟩
  | 18 => ⟨S512x128, .f32⟩
  | 19 => ⟨S128x512, .f32⟩
  | 20 => ⟨S128x512, .bf16⟩
  | 21 => ⟨S512x128, .f32⟩
  | 22 => ⟨S128x512, .f32⟩
  | 23 => ⟨S128x512, .bf16⟩
  | 24 => ⟨S512x128, .f32⟩
  | 25 => ⟨S128x512, .f32⟩
  | 26 => ⟨S128x512, .bf16⟩
  | 27 => ⟨S512x128, .f32⟩
  | 28 => ⟨S128x512, .f32⟩
  | 29 => ⟨S128x512, .bf16⟩
  | 30 => ⟨S512x128, .f32⟩
  | 31 => ⟨S128x512, .f32⟩
  | 32 => ⟨S128x512, .bf16⟩
  | 33 => ⟨S512x128, .f32⟩
  | 34 => ⟨S128x512, .f32⟩
  | 35 => ⟨S128x512, .bf16⟩
  | 36 => ⟨S128x128, .f32⟩
  | 37 => ⟨S128x128, .bf16⟩
  | 38 => ⟨S64x512, .f32⟩
  | 39 => ⟨S64x512, .f32⟩
  | 40 => ⟨S131072x128, .f32⟩
  | 41 => ⟨S131072x128, .f32⟩
  | 42 => ⟨S64x1x512, .f32⟩
  | 43 => ⟨S64x1x512, .f32⟩
  | 44 => ⟨S256x1x512, .f32⟩
  | 45 => ⟨S131072, .f32⟩
  | 46 => ⟨S_, .f32⟩
  | 47 => ⟨S131072, .f32⟩
  | 48 => ⟨S131072, .f32⟩
  | 49 => ⟨S131072, .f32⟩
  | 50 => ⟨S_, .f32⟩
  | 51 => ⟨S50000, .f32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S50000, .f32⟩
  | 61 => ⟨S_, .f32⟩
  | 62 => ⟨S50000, .f32⟩
  | 63 => ⟨S50000, .f32⟩
  | 64 => ⟨S50000, .f32⟩
  | 65 => ⟨S_, .f32⟩
  | 66 => ⟨S50000, .f32⟩
  | 67 => ⟨S50000, .f32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072, .f32⟩
  | 77 => ⟨S131072, .f32⟩
  | 78 => ⟨S131072, .f32⟩
  | 79 => ⟨S_, .f32⟩
  | 80 => ⟨S50000, .f32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S50000, .f32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S131072, .f32⟩
  | 99 => ⟨S131072, .f32⟩
  | 100 => ⟨S_, .i32⟩
  | 101 => ⟨S131072, .i32⟩
  | 102 => ⟨S131072, .i1⟩
  | 103 => ⟨S_, .i32⟩
  | 104 => ⟨S131072, .i32⟩
  | 105 => ⟨S131072, .i32⟩
  | 106 => ⟨S131072, .i32⟩
  | 107 => ⟨S131072x1, .i32⟩
  | 108 => ⟨S131072, .f32⟩
  | 109 => ⟨S131072, .f32⟩
  | 110 => ⟨S64x2048, .f32⟩
  | 111 => ⟨S64x128, .f32⟩
  | 112 => ⟨S64x128, .i32⟩
  | 113 => ⟨S64, .i32⟩
  | 114 => ⟨S64x1, .i32⟩
  | 115 => ⟨S_, .i32⟩
  | 116 => ⟨S64x1, .i32⟩
  | 117 => ⟨S64x1, .i32⟩
  | 118 => ⟨S64x128, .i32⟩
  | 119 => ⟨S64x128, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S50000, .f32⟩

abbrev hbmTy0_1 (i : Nat) : BufTy := match i % 128 with
  | 0 => ⟨S8192x1, .i32⟩
  | 1 => ⟨S8192, .i32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192, .f32⟩
  | 29 => ⟨S_, .f32⟩
  | 30 => ⟨S50000, .f32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S50000, .f32⟩
  | 40 => ⟨S_, .f32⟩
  | 41 => ⟨S50000, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S_, .f32⟩
  | 51 => ⟨S8192, .f32⟩
  | 52 => ⟨S50000, .f32⟩
  | 53 => ⟨S8192x1, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x128, .f32⟩
  | 63 => ⟨S8192x128, .f32⟩
  | 64 => ⟨S8192x128, .f32⟩
  | 65 => ⟨S_, .f32⟩
  | 66 => ⟨S50000x128, .f32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S50000x128, .f32⟩
  | 76 => ⟨S50000x1, .f32⟩
  | 77 => ⟨S50000x1, .f32⟩
  | 78 => ⟨S1x128, .f32⟩
  | 79 => ⟨S50000x1, .f32⟩
  | 80 => ⟨S50000x128, .f32⟩
  | 81 => ⟨S50000, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (nBuf tb) → BufTy
  | .hbm, ⟨i, _⟩ => hbmTy i
  | .local .tc .vmem, ⟨0, _⟩ => ⟨S64x128, .f32⟩
  | .local .tc .vmem, ⟨1, _⟩ => ⟨S64x128, .f32⟩
  | .local .tc .vmem, ⟨2, _⟩ => ⟨S128x512, .bf16⟩
  | .local .tc .vmem, ⟨3, _⟩ => ⟨S128x512, .bf16⟩
  | .local .tc .vmem, ⟨4, _⟩ => ⟨S128x512, .bf16⟩
  | .local .tc .vmem, ⟨5, _⟩ => ⟨S128x512, .bf16⟩
  | .local .tc .vmem, ⟨6, _⟩ => ⟨S64x512, .f32⟩
  | .local .tc .vmem, ⟨7, _⟩ => ⟨S64x512, .f32⟩
  | .local .tc .vmem, ⟨8, _⟩ => ⟨S512x128, .f32⟩
  | .local .tc .vmem, ⟨9, _⟩ => ⟨S512x128, .f32⟩
  | .local .tc .vmem, ⟨10, _⟩ => ⟨S512x128, .f32⟩
  | .local .tc .vmem, ⟨11, _⟩ => ⟨S512x128, .f32⟩
  | .local .tc .vmem, ⟨12, _⟩ => ⟨S512x128, .f32⟩
  | .local .tc .vmem, ⟨13, _⟩ => ⟨S512x128, .f32⟩
  | .local .tc .vmem, ⟨14, _⟩ => ⟨S128x512, .bf16⟩
  | .local .tc .vmem, ⟨15, _⟩ => ⟨S128x512, .bf16⟩
  | .local .tc .vmem, ⟨16, _⟩ => ⟨S128x512, .bf16⟩
  | .local .tc .vmem, ⟨17, _⟩ => ⟨S128x512, .bf16⟩
  | .local .tc .vmem, ⟨18, _⟩ => ⟨S1x1x512, .f32⟩
  | .local .tc .vmem, ⟨19, _⟩ => ⟨S1x1x512, .f32⟩
  | .local .tc .vmem, ⟨20, _⟩ => ⟨S1x1x512, .f32⟩
  | .local .tc .vmem, ⟨21, _⟩ => ⟨S1x1x512, .f32⟩
  | .local .tc .vmem, ⟨22, _⟩ => ⟨S1x1x512, .f32⟩
  | .local .tc .vmem, ⟨23, _⟩ => ⟨S1x1x512, .f32⟩
  | .local .tc .vmem, ⟨24, _⟩ => ⟨S2000x1, .f32⟩
  | .local .tc .vmem, ⟨25, _⟩ => ⟨S2000x1, .f32⟩
  | .local .tc .vmem, ⟨26, _⟩ => ⟨S2000x1, .f32⟩
  | .local .tc .vmem, ⟨27, _⟩ => ⟨S2000x1, .f32⟩
  | .local .tc .vmem, ⟨28, _⟩ => ⟨S2000x128, .f32⟩
  | .local .tc .vmem, ⟨29, _⟩ => ⟨S2000x128, .f32⟩
  | .local .tc .vmem, ⟨30, _⟩ => ⟨S2000x128, .f32⟩
  | .local .tc .vmem, ⟨31, _⟩ => ⟨S2000x128, .f32⟩
  | .local .tc .vmem, ⟨32, _⟩ => ⟨S128x128, .bf16⟩
  | .local .tc .vmem, ⟨33, _⟩ => ⟨S1x128, .f32⟩
  | .local .tc .vmem, ⟨34, _⟩ => ⟨S2000x1, .f32⟩
  | .local .tc .vmem, ⟨35, _⟩ => ⟨S2000x1, .f32⟩
  | .local .tc .vmem, ⟨36, _⟩ => ⟨S2000x128, .f32⟩
  | .local .tc .vmem, ⟨37, _⟩ => ⟨S2000x128, .f32⟩
  | .local .scVector .vmem, ⟨0, _⟩ => ⟨S512, .i32⟩
  | .local .scVector .vmem, ⟨1, _⟩ => ⟨S512x128, .f32⟩
  | _, _ => ⟨S50000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTables nBuf rfl bufTy 4 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v27_0 : Ref sig .tc := ⟨.hbm, 40, rfl⟩
abbrev main_v27_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_0 : Ref sig .tc := ⟨.hbm, 50, rfl⟩
abbrev main_v35 : Ref sig .tc := ⟨.hbm, 51, rfl⟩
abbrev main_c : Ref sig .tc := ⟨.hbm, 52, rfl⟩
abbrev main_v36 : Ref sig .tc := ⟨.hbm, 53, rfl⟩
abbrev main_v37 : Ref sig .tc := ⟨.hbm, 54, rfl⟩
abbrev main_c_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_c_4 : Ref sig .tc := ⟨.hbm, 68, rfl⟩
abbrev main_v48 : Ref sig .tc := ⟨.hbm, 69, rfl⟩
abbrev main_v49 : Ref sig .tc := ⟨.hbm, 70, rfl⟩
abbrev main_c_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_c_7 : Ref sig .tc := ⟨.hbm, 81, rfl⟩
abbrev main_v58 : Ref sig .tc := ⟨.hbm, 82, rfl⟩
abbrev main_v59 : Ref sig .tc := ⟨.hbm, 83, rfl⟩
abbrev main_c_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_9 : Ref sig .tc := ⟨.hbm, 90, rfl⟩
abbrev main_v65 : Ref sig .tc := ⟨.hbm, 91, rfl⟩
abbrev main_v66 : Ref sig .tc := ⟨.hbm, 92, rfl⟩
abbrev main_c_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_11 : Ref sig .tc := ⟨.hbm, 100, rfl⟩
abbrev main_v73 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_values : Ref sig .tc := ⟨.hbm, 111, rfl⟩
abbrev main_indices : Ref sig .tc := ⟨.hbm, 112, rfl⟩
abbrev main_v82 : Ref sig .tc := ⟨.hbm, 113, rfl⟩
abbrev main_v83 : Ref sig .tc := ⟨.hbm, 114, rfl⟩
abbrev main_c_13 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_14 : Ref sig .tc := ⟨.hbm, 121, rfl⟩
abbrev main_v89 : Ref sig .tc := ⟨.hbm, 122, rfl⟩
abbrev main_v90 : Ref sig .tc := ⟨.hbm, 123, rfl⟩
abbrev main_c_15 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_16 : Ref sig .tc := ⟨.hbm, 130, rfl⟩
abbrev main_v96 : Ref sig .tc := ⟨.hbm, 131, rfl⟩
abbrev main_v97 : Ref sig .tc := ⟨.hbm, 132, rfl⟩
abbrev main_c_17 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_18 : Ref sig .tc := ⟨.hbm, 139, rfl⟩
abbrev main_v103 : Ref sig .tc := ⟨.hbm, 140, rfl⟩
abbrev main_v104 : Ref sig .tc := ⟨.hbm, 141, rfl⟩
abbrev main_c_19 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_c_20 : Ref sig .tc := ⟨.hbm, 148, rfl⟩
abbrev main_v110 : Ref sig .tc := ⟨.hbm, 149, rfl⟩
abbrev main_v111 : Ref sig .tc := ⟨.hbm, 150, rfl⟩
abbrev main_c_21 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_22 : Ref sig .tc := ⟨.hbm, 157, rfl⟩
abbrev main_v117 : Ref sig .tc := ⟨.hbm, 158, rfl⟩
abbrev main_c_23 : Ref sig .tc := ⟨.hbm, 159, rfl⟩
abbrev main_v118 : Ref sig .tc := ⟨.hbm, 160, rfl⟩
abbrev main_v119 : Ref sig .tc := ⟨.hbm, 161, rfl⟩
abbrev main_c_24 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_25 : Ref sig .tc := ⟨.hbm, 168, rfl⟩
abbrev main_v125 : Ref sig .tc := ⟨.hbm, 169, rfl⟩
abbrev main_c_26 : Ref sig .tc := ⟨.hbm, 170, rfl⟩
abbrev main_v126 : Ref sig .tc := ⟨.hbm, 171, rfl⟩
abbrev main_v127 : Ref sig .tc := ⟨.hbm, 172, rfl⟩
abbrev main_c_27 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_28 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_c_29 : Ref sig .tc := ⟨.hbm, 182, rfl⟩
abbrev main_v135 : Ref sig .tc := ⟨.hbm, 183, rfl⟩
abbrev main_v136 : Ref sig .tc := ⟨.hbm, 184, rfl⟩
abbrev main_c_30 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_31 : Ref sig .tc := ⟨.hbm, 193, rfl⟩
abbrev main_v144 : Ref sig .tc := ⟨.hbm, 194, rfl⟩
abbrev main_c_32 : Ref sig .tc := ⟨.hbm, 195, rfl⟩
abbrev main_v145 : Ref sig .tc := ⟨.hbm, 196, rfl⟩
abbrev main_v146 : Ref sig .tc := ⟨.hbm, 197, rfl⟩
abbrev main_c_33 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155_0 : Ref sig .tc := ⟨.hbm, 207, rfl⟩
abbrev main_v155_1 : Ref sig .tc := ⟨.hbm, 208, rfl⟩
abbrev main_v156 : Ref sig .tc := ⟨.hbm, 209, rfl⟩
abbrev main_arg1_scv : Ref sig .scVector := ⟨.hbm, 1, rfl⟩
abbrev main_arg9_scv : Ref sig .scVector := ⟨.hbm, 9, rfl⟩
abbrev main_arg10_scv : Ref sig .scVector := ⟨.hbm, 10, rfl⟩
abbrev main_v27_0_scv : Ref sig .scVector := ⟨.hbm, 40, rfl⟩
abbrev main_v27_1_scv : Ref sig .scVector := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc2_stg8_0 : Ref sig .tc := ⟨.vmem, 20, rfl⟩
abbrev cc2_stg8_1 : Ref sig .tc := ⟨.vmem, 21, rfl⟩
abbrev cc2_stg9_0 : Ref sig .tc := ⟨.vmem, 22, rfl⟩
abbrev cc2_stg9_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc2_sem0_0 : DmaSem sig := 41
abbrev cc2_sem0_1 : DmaSem sig := 42
abbrev cc2_sem1_0 : DmaSem sig := 43
abbrev cc2_sem1_1 : DmaSem sig := 44
abbrev cc2_sem2_0 : DmaSem sig := 45
abbrev cc2_sem2_1 : DmaSem sig := 46
abbrev cc2_sem3_0 : DmaSem sig := 47
abbrev cc2_sem4_0 : DmaSem sig := 48
abbrev cc2_sem5_0 : DmaSem sig := 49
abbrev cc2_sem6_0 : DmaSem sig := 50
abbrev cc2_sem7_0 : DmaSem sig := 51
abbrev cc2_sem7_1 : DmaSem sig := 52
abbrev cc2_sem8_0 : DmaSem sig := 53
abbrev cc2_sem8_1 : DmaSem sig := 54
abbrev cc2_sem9_0 : DmaSem sig := 55
abbrev cc2_sem9_1 : DmaSem sig := 56
abbrev cc3_sem0_0 : DmaSem sig := 57
abbrev cc3_sem0_1 : DmaSem sig := 58
abbrev cc3_sem1_0 : DmaSem sig := 59
abbrev cc3_sem1_1 : DmaSem sig := 60
abbrev cc3_sem2_0 : DmaSem sig := 61
abbrev cc3_sem2_1 : DmaSem sig := 62
abbrev cc3_sem3_0 : DmaSem sig := 63
abbrev cc3_sem3_1 : DmaSem sig := 64
abbrev cc3_sem4_0 : DmaSem sig := 65
abbrev cc3_sem5_0 : DmaSem sig := 66
abbrev cc3_sem6_0 : DmaSem sig := 67
abbrev cc3_sem6_1 : DmaSem sig := 68
abbrev cc3_sem7_0 : DmaSem sig := 69
abbrev cc3_sem7_1 : DmaSem sig := 70
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  let c0_i32_72_r1 : BitVec 32 := 0#32
  ![v3.toNat, 0]
abbrev grid2 : Pipeline.Grid := ⟨1, ![256], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_8 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x512 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000 : Shape := ⟨1, ![50000]⟩
abbrev S50000x128 : Shape := ⟨2, ![50000, 128]⟩
abbrev S131072x128 : Shape := ⟨2, ![131072, 128]⟩
abbrev S64x128 : Shape := ⟨2, ![64, 128]⟩
abbrev S512x512 : Shape := ⟨2, ![512, 512]⟩
abbrev S128x128 : Shape := ⟨2, ![128, 128]⟩
abbrev S128 : Shape := ⟨1, ![128]⟩
abbrev S131072 : Shape := ⟨1, ![131072]⟩
abbrev S_ : Shape := ⟨0, ![]⟩
abbrev S131072x1 : Shape := ⟨2, ![131072, 1]⟩
abbrev S131072x512 : Shape := ⟨2, ![131072, 512]⟩
abbrev S50000x1 : Shape := ⟨2, ![50000, 1]⟩
abbrev S1x131072 : Shape := ⟨2, ![1, 131072]⟩
abbrev S50000x131072 : Shape := ⟨2, ![50000, 131072]⟩
abbrev S64x2048 : Shape := ⟨2, ![64, 2048]⟩
abbrev S64 : Shape := ⟨1, ![64]⟩
abbrev S64x1 : Shape := ⟨2, ![64, 1]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩

abbrev nBuf : Space → Nat
  | .hbm => 224
  | .vmem => 0
  | .smem => 0
  | _ => 0

abbrev hbmTy0_0 (i : Nat) : BufTy := match i % 128 with
  | 0 => ⟨S50000, .f32⟩
  | 1 => ⟨S50000x128, .f32⟩
  | 2 => ⟨S131072x128, .f32⟩
  | 3 => ⟨S64x128, .f32⟩
  | 4 => ⟨S64x128, .f32⟩
  | 5 => ⟨S512x512, .f32⟩
  | 6 => ⟨S512x512, .f32⟩
  | 7 => ⟨S128x128, .f32⟩
  | 8 => ⟨S128, .f32⟩
  | 9 => ⟨S131072, .i32⟩
  | 10 => ⟨S131072, .i32⟩
  | 11 => ⟨S131072, .i32⟩
  | 12 => ⟨S_, .i32⟩
  | 13 => ⟨S131072, .i32⟩
  | 14 => ⟨S131072, .i1⟩
  | 15 => ⟨S_, .i32⟩
  | 16 => ⟨S131072, .i32⟩
  | 17 => ⟨S131072, .i32⟩
  | 18 => ⟨S131072, .i32⟩
  | 19 => ⟨S131072x1, .i32⟩
  | 20 => ⟨S131072x128, .f32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S131072x128, .f32⟩
  | 30 => ⟨S_, .i32⟩
  | 31 => ⟨S131072, .i32⟩
  | 32 => ⟨S131072, .i1⟩
  | 33 => ⟨S_, .i32⟩
  | 34 => ⟨S131072, .i32⟩
  | 35 => ⟨S131072, .i32⟩
  | 36 => ⟨S131072, .i32⟩
  | 37 => ⟨S131072x1, .i32⟩
  | 38 => ⟨S131072x128, .f32⟩
  | 39 => ⟨S_, .i32⟩
  | 40 => ⟨S131072, .i32⟩
  | 41 => ⟨S131072, .i1⟩
  | 42 => ⟨S_, .i32⟩
  | 43 => ⟨S131072, .i32⟩
  | 44 => ⟨S131072, .i32⟩
  | 45 => ⟨S131072, .i32⟩
  | 46 => ⟨S131072x1, .i32⟩
  | 47 => ⟨S131072x128, .f32⟩
  | 48 => ⟨S131072x512, .f32⟩
  | 49 => ⟨S131072x512, .f32⟩
  | 50 => ⟨S512x512, .f32⟩
  | 51 => ⟨S131072x512, .f32⟩
  | 52 => ⟨S512x512, .f32⟩
  | 53 => ⟨S131072x512, .f32⟩
  | 54 => ⟨S131072x512, .f32⟩
  | 55 => ⟨S_, .f32⟩
  | 56 => ⟨S131072, .f32⟩
  | 57 => ⟨S50000, .i32⟩
  | 58 => ⟨S50000x1, .i32⟩
  | 59 => ⟨S1x131072, .i32⟩
  | 60 => ⟨S50000x131072, .i32⟩
  | 61 => ⟨S50000x131072, .i32⟩
  | 62 => ⟨S50000x131072, .i1⟩
  | 63 => ⟨S1x131072, .f32⟩
  | 64 => ⟨S_, .f32⟩
  | 65 => ⟨S_, .f32⟩
  | 66 => ⟨S50000x131072, .f32⟩
  | 67 => ⟨S50000x131072, .f32⟩
  | 68 => ⟨S50000x131072, .f32⟩
  | 69 => ⟨S_, .f32⟩
  | 70 => ⟨S50000, .f32⟩
  | 71 => ⟨S50000, .f32⟩
  | 72 => ⟨S_, .f32⟩
  | 73 => ⟨S50000, .f32⟩
  | 74 => ⟨S50000, .i1⟩
  | 75 => ⟨S_, .f32⟩
  | 76 => ⟨S_, .f32⟩
  | 77 => ⟨S50000, .f32⟩
  | 78 => ⟨S50000, .f32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S131072x1, .i32⟩
  | 87 => ⟨S131072, .f32⟩
  | 88 => ⟨S131072, .f32⟩
  | 89 => ⟨S131072, .f32⟩
  | 90 => ⟨S_, .f32⟩
  | 91 => ⟨S50000, .f32⟩
  | 92 => ⟨S131072x1, .i32⟩
  | 93 => ⟨S50000, .f32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S131072, .f32⟩
  | 103 => ⟨S131072, .f32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072, .f32⟩
  | 113 => ⟨S131072, .f32⟩
  | 114 => ⟨S64x2048, .f32⟩
  | 115 => ⟨S64x128, .f32⟩
  | 116 => ⟨S64x128, .i32⟩
  | 117 => ⟨S64, .i32⟩
  | 118 => ⟨S64x1, .i32⟩
  | 119 => ⟨S_, .i32⟩
  | 120 => ⟨S64x1, .i32⟩
  | 121 => ⟨S64x1, .i32⟩
  | 122 => ⟨S64x128, .i32⟩
  | 123 => ⟨S64x128, .i32⟩
  | 124 => ⟨S8192, .i32⟩
  | 125 => ⟨S_, .i32⟩
  | 126 => ⟨S8192, .i32⟩
  | 127 => ⟨S8192, .i1⟩
  | _ => ⟨S50000, .f32⟩

abbrev hbmTy0_1 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S8192, .i32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192, .i32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192, .f32⟩
  | 33 => ⟨S_, .f32⟩
  | 34 => ⟨S50000, .f32⟩
  | 35 => ⟨S8192, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S50000, .f32⟩
  | 45 => ⟨S8192x1, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192x128, .f32⟩
  | 55 => ⟨S8192x128, .f32⟩
  | 56 => ⟨S8192x128, .f32⟩
  | 57 => ⟨S_, .f32⟩
  | 58 => ⟨S50000x128, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S50000x128, .f32⟩
  | 68 => ⟨S_, .i1⟩
  | 69 => ⟨S50000, .i1⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S_, .i1⟩
  | 79 => ⟨S8192, .i1⟩
  | 80 => ⟨S50000, .i1⟩
  | 81 => ⟨S50000x1, .i1⟩
  | 82 => ⟨S50000x128, .i1⟩
  | 83 => ⟨S50000x128, .f32⟩
  | 84 => ⟨S128x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .i1⟩
  | 92 => ⟨S_, .f32⟩
  | 93 => ⟨S50000x128, .f32⟩
  | 94 => ⟨S50000x128, .f32⟩
  | 95 => ⟨S50000x128, .f32⟩
  | _ => ⟨S50000, .f32⟩

abbrev hbmTy (i : Nat) : BufTy := match i / 128 with
  | 0 => hbmTy0_0 i
  | 1 => hbmTy0_1 i
  | _ => ⟨S50000, .f32⟩

abbrev bufTy : (tb : Table) → Fin (tcTables nBuf tb) → BufTy
  | .hbm, ⟨i, _⟩ => hbmTy i
  | _, _ => ⟨S50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_cst_10 : Ref sig .tc := ⟨.hbm, 75, rfl⟩
abbrev main_call1_v0 : Ref sig .tc := ⟨.hbm, 76, rfl⟩
abbrev main_call1_v1 : Ref sig .tc := ⟨.hbm, 77, rfl⟩
abbrev main_v48 : Ref sig .tc := ⟨.hbm, 78, rfl⟩
abbrev main_c_11 : Ref sig .tc := ⟨.hbm, 79, rfl⟩
abbrev main_v49 : Ref sig .tc := ⟨.hbm, 80, rfl⟩
abbrev main_v50 : Ref sig .tc := ⟨.hbm, 81, rfl⟩
abbrev main_c_12 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_c_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_values : Ref sig .tc := ⟨.hbm, 115, rfl⟩
abbrev main_indices : Ref sig .tc := ⟨.hbm, 116, rfl⟩
abbrev main_v78 : Ref sig .tc := ⟨.hbm, 117, rfl⟩
abbrev main_v79 : Ref sig .tc := ⟨.hbm, 118, rfl⟩
abbrev main_c_18 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_19 : Ref sig .tc := ⟨.hbm, 125, rfl⟩
abbrev main_v85 : Ref sig .tc := ⟨.hbm, 126, rfl⟩
abbrev main_v86 : Ref sig .tc := ⟨.hbm, 127, rfl⟩
abbrev main_c_20 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_21 : Ref sig .tc := ⟨.hbm, 134, rfl⟩
abbrev main_v92 : Ref sig .tc := ⟨.hbm, 135, rfl⟩
abbrev main_v93 : Ref sig .tc := ⟨.hbm, 136, rfl⟩
abbrev main_c_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_23 : Ref sig .tc := ⟨.hbm, 143, rfl⟩
abbrev main_v99 : Ref sig .tc := ⟨.hbm, 144, rfl⟩
abbrev main_v100 : Ref sig .tc := ⟨.hbm, 145, rfl⟩
abbrev main_c_24 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_25 : Ref sig .tc := ⟨.hbm, 152, rfl⟩
abbrev main_v106 : Ref sig .tc := ⟨.hbm, 153, rfl⟩
abbrev main_v107 : Ref sig .tc := ⟨.hbm, 154, rfl⟩
abbrev main_c_26 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_27 : Ref sig .tc := ⟨.hbm, 161, rfl⟩
abbrev main_v113 : Ref sig .tc := ⟨.hbm, 162, rfl⟩
abbrev main_v114 : Ref sig .tc := ⟨.hbm, 163, rfl⟩
abbrev main_c_28 : Ref sig .tc := ⟨.hbm, 164, rfl⟩
abbrev main_v115 : Ref sig .tc := ⟨.hbm, 165, rfl⟩
abbrev main_v116 : Ref sig .tc := ⟨.hbm, 166, rfl⟩
abbrev main_c_29 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_c_30 : Ref sig .tc := ⟨.hbm, 174, rfl⟩
abbrev main_v123 : Ref sig .tc := ⟨.hbm, 175, rfl⟩
abbrev main_v124 : Ref sig .tc := ⟨.hbm, 176, rfl⟩
abbrev main_c_31 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_cst_32 : Ref sig .tc := ⟨.hbm, 185, rfl⟩
abbrev main_v132 : Ref sig .tc := ⟨.hbm, 186, rfl⟩
abbrev main_c_33 : Ref sig .tc := ⟨.hbm, 187, rfl⟩
abbrev main_v133 : Ref sig .tc := ⟨.hbm, 188, rfl⟩
abbrev main_v134 : Ref sig .tc := ⟨.hbm, 189, rfl⟩
abbrev main_c_34 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_c_35 : Ref sig .tc := ⟨.hbm, 196, rfl⟩
abbrev main_v140 : Ref sig .tc := ⟨.hbm, 197, rfl⟩
abbrev main_c_36 : Ref sig .tc := ⟨.hbm, 198, rfl⟩
abbrev main_v141 : Ref sig .tc := ⟨.hbm, 199, rfl⟩
abbrev main_v142 : Ref sig .tc := ⟨.hbm, 200, rfl⟩
abbrev main_c_37 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_c_38 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_call2_v0 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_call3_cst : Ref sig .tc := ⟨.hbm, 217, rfl⟩
abbrev main_call3_v0 : Ref sig .tc := ⟨.hbm, 218, rfl⟩
abbrev main_call3_v1 : Ref sig .tc := ⟨.hbm, 219, rfl⟩
abbrev main_call3_cst_0 : Ref sig .tc := ⟨.hbm, 220, rfl⟩
abbrev main_call3_v2 : Ref sig .tc := ⟨.hbm, 221, rfl⟩
abbrev main_call3_v3 : Ref sig .tc := ⟨.hbm, 222, rfl⟩
abbrev main_v156 : Ref sig .tc := ⟨.hbm, 223, rfl⟩

abbrev nD : Nat := 1
abbrev τ : Topo := Topo.v7x

variable {F : FTy → Type} [FloatOps F]
-- ==== Proof.Tile.Base.lean ====
/-
  The SparseCore gather call as the launch theorem sees it: the configuration, the ghost state, and one WINDOW of a
  tile's work as a program of its own.
-/
module

public import proofs.«01_k».proof.KernelIdeal
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The place of the pipelines' own rounds. -/
abbrev EP : Emb UP (MT nD τ sig (HIx 1) (Elt F) ℕ UU ℕ) := (Emb.inl : Emb UP (UP × Counters)).trans embR

/-! ## A tile's coordinates and its scratch -/

abbrev cV (L : grid1.Coords) : Fin τ.nSC := (L 0).castLE hcore1
abbrev jV (L : grid1.Coords) : Fin τ.nSub := (L 1).castLE hsub1
/-- The tile's thread. -/
abbrev tV (d : Dev nD) (L : grid1.Coords) : Thread nD τ := V d (cV L) (jV L)

/-- The tile's list of row numbers and its buffer of rows. -/
abbrev sM : Memref sig .scVector .vmem S512 .i32 := Memref.whole cc1_scratch0
abbrev rM : Memref sig .scVector .vmem S512x128 .f32 := Memref.whole cc1_scratch1
/-- The table of nodes, whole, as the tile addresses it in an indexed copy. -/
abbrev xM : Memref sig .scVector .hbm S50000x128 .f32 := Memref.whole main_arg1_scv
abbrev xS : Memref sig .scVector .hbm S50000x128 .f32 :=
  xM.slice (Rect.unit (s := S50000x128) ![0, 0] S50000x128.size inb_S50000x128_S50000x128_0_0) (fun _ => rfl)

variable [FloatOps F]

/-- ONE WINDOW of a tile: 512 row numbers are copied in from `iS`, the table's rows they name are gathered, and the
    rows are copied out to `oS`; each copy is waited for before the next begins. -/
def window (L : grid1.Coords) (iS : Memref sig .scVector .hbm S512 .i32) (oS : Memref sig .scVector .hbm S512x128 .f32)
    (a b : DmaSem sig) : Prog (TpuEff nD τ sig (Elt F) Λ₀ (.scVector (cV L) (jV L))) PUnit := do
  Prog.lift (.enqueueDma iS (.here sM) (.dma a) (View.wordExact_bits rfl) (Memref.isWhole_whole cc1_scratch0).wordExact ⟨Or.inl rfl, trivial⟩)
  Prog.lift (.waitDma2 a iS sM (View.wordExact_bits rfl) (Memref.isWhole_whole cc1_scratch0).wordExact)
  SparseCore.enqueueIndirectGather rfl xS rM gathers_S50000x128_S512x128 sM rfl cc1_scratch2.sem (View.wordExact_bits rfl) rfl (Or.inl rfl)
  SparseCore.waitIndirectGather cc1_scratch2.sem xS rM (View.wordExact_bits rfl) (Memref.isWhole_whole cc1_scratch1).wordExact
  Prog.lift (.enqueueDma rM (.here oS) (.dma b) (Memref.isWhole_whole cc1_scratch1).wordExact (View.wordExact_bits rfl) ⟨Or.inl rfl, trivial⟩)
  Prog.lift (.waitDma2 b rM oS (Memref.isWhole_whole cc1_scratch1).wordExact (View.wordExact_bits rfl))

/-- Windows one after another. -/
def runAll {p : Proc τ} {Λ : Labels} : List (Prog (TpuEff nD τ sig (Elt F) Λ p) PUnit) → Prog (TpuEff nD τ sig (Elt F) Λ p) PUnit
  | [] => pure ⟨⟩
  | w :: ws => do w; runAll ws

/-- Window `r` of the row numbers `iM`, and of the rows `oM`, on the tile at `L`. -/
abbrev iWin (iM : Memref sig .scVector .hbm S131072 .i32) (L : grid1.Coords) (r : Fin 8) : Memref sig .scVector .hbm S512 .i32 :=
  iM.slice (Rect.unit (s := S131072) (k1_off1 L (BitVec.ofNat 32 (512 * r.val))) S512.size (k1_off1_inb L r)) (fun _ => rfl)
abbrev oWin (oM : Memref sig .scVector .hbm S131072x128 .f32) (L : grid1.Coords) (r : Fin 8) : Memref sig .scVector .hbm S512x128 .f32 :=
  oM.slice (Rect.unit (s := S131072x128) (k1_off2 L (BitVec.ofNat 32 (512 * r.val))) S512x128.size (k1_off2_inb L r)) (fun _ => rfl)

/-- The semaphores of window `k` of the sixteen: the one of the copy in, the one of the copy out. -/
def semA (k : Fin 16) : DmaSem sig := (⟨9 + 2 * k.val, by have := k.isLt; show _ < 71; omega⟩ : Fin 71)
def semB (k : Fin 16) : DmaSem sig := (⟨10 + 2 * k.val, by have := k.isLt; show _ < 71; omega⟩ : Fin 71)

/-- The eight windows of one array of row numbers; their semaphores begin at window `8 h`. -/
def half (L : grid1.Coords) (iM : Memref sig .scVector .hbm S131072 .i32) (oM : Memref sig .scVector .hbm S131072x128 .f32) (h : Fin 2) :
    Prog (TpuEff nD τ sig (Elt F) Λ₀ (.scVector (cV L) (jV L))) PUnit :=
  runAll ((List.finRange 8).map fun r => window L (iWin iM L r) (oWin oM L r)
    (semA ⟨8 * h.val + r.val, by omega⟩) (semB ⟨8 * h.val + r.val, by omega⟩))

set_option maxRecDepth 65536 in
/-- The printed body of the gather is the eight windows of the one array, then the eight of the other. -/
theorem body_eq (L : grid1.Coords) (iM iM' : Memref sig .scVector .hbm S131072 .i32) (hi hi') (oM oM' : Memref sig .scVector .hbm S131072x128 .f32) (ho ho') :
    cc1__gather_body (F := F) L xM (Memref.isWhole_whole _) iM hi iM' hi' oM ho oM' ho' sM (Memref.isWhole_whole _) rM (Memref.isWhole_whole _)
      cc1_scratch2 cc1_scoped0 cc1_scoped1 cc1_scoped2 cc1_scoped3 cc1_scoped4 cc1_scoped5 cc1_scoped6 cc1_scoped7 cc1_scoped8 cc1_scoped9
      cc1_scoped10 cc1_scoped11 cc1_scoped12 cc1_scoped13 cc1_scoped14 cc1_scoped15 cc1_scoped16 cc1_scoped17 cc1_scoped18 cc1_scoped19
      cc1_scoped20 cc1_scoped21 cc1_scoped22 cc1_scoped23 cc1_scoped24 cc1_scoped25 cc1_scoped26 cc1_scoped27 cc1_scoped28 cc1_scoped29
      cc1_scoped30 cc1_scoped31
      = (do half L iM oM 0; half L iM' oM' 1) := by
  rfl

end Cert.Proof.Tile

end
-- ==== Proof.Host.Ops.lean ====
/-
  The host operations of the kernel's @main, stretch by stretch between its four kernel calls, and @main as those
  stretches and calls in order.
-/
module

public import proofs.«01_k».proof.Proof.Tile.Base
public import Idealize.ShloMosaic.Lib.Pipeline.Frame

@[expose] public section

noncomputable section

namespace Cert.Proof.Host

open Cert.KernelIdeal Cert.KernelIdeal.Gen
open Idealize.ShloMosaic Idealize.ShloMosaic.TcCoe Idealize.SL.Sem Idealize.ShloMosaic.StableHlo

variable {F : FTy → Type} [FloatOps F]

/-- Before the first kernel: the weights cut into blocks of 128 columns, transposed and rounded to bf16. -/
def opsPrep : List (HloOp τ sig (Elt F)) :=
  [ unary main_arg5 main_v0 ((extractStridedSlice S512x128 ![0, 0] · slices_S512x512_S512x128_0_0) : (⟨S512x512, .f32⟩ : BufTy).Contents (Elt F) → (⟨S512x128, .f32⟩ : BufTy).Contents (Elt F)),
    unary main_v0 main_v1 ((transpose S128x512 [1, 0] · transposes_S512x128_S128x512_1_0) : (⟨S512x128, .f32⟩ : BufTy).Contents (Elt F) → (⟨S128x512, .f32⟩ : BufTy).Contents (Elt F)),
    unary main_v1 main_v2 ((truncf .bf16 · bitsLt_bf16_f32) : (⟨S128x512, .f32⟩ : BufTy).Contents (Elt F) → (⟨S128x512, .bf16⟩ : BufTy).Contents (Elt F)),
    unary main_arg5 main_v3 ((extractStridedSlice S512x128 ![0, 128] · slices_S512x512_S512x128_0_128) : (⟨S512x512, .f32⟩ : BufTy).Contents (Elt F) → (⟨S512x128, .f32⟩ : BufTy).Contents (Elt F)),
    unary main_v3 main_v4 ((transpose S128x512 [1, 0] · transposes_S512x128_S128x512_1_0) : (⟨S512x128, .f32⟩ : BufTy).Contents (Elt F) → (⟨S128x512, .f32⟩ : BufTy).Contents (Elt F)),
    unary main_v4 main_v5 ((truncf .bf16 · bitsLt_bf16_f32) : (⟨S128x512, .f32⟩ : BufTy).Contents (Elt F) → (⟨S128x512, .bf16⟩ : BufTy).Contents (Elt F)),
    unary main_arg5 main_v6 ((extractStridedSlice S512x128 ![0, 256] · slices_S512x512_S512x128_0_256) : (⟨S512x512, .f32⟩ : BufTy).Contents (Elt F) → (⟨S512x128, .f32⟩ : BufTy).Contents (Elt F)),
    unary main_v6 main_v7 ((transpose S128x512 [1, 0] · transposes_S512x128_S128x512_1_0) : (⟨S512x128, .f32⟩ : BufTy).Contents (Elt F) → (⟨S128x512, .f32⟩ : BufTy).Contents (Elt F)),
    unary main_v7 main_v8 ((truncf .bf16 · bitsLt_bf16_f32) : (⟨S128x512, .f32⟩ : BufTy).Contents (Elt F) → (⟨S128x512, .bf16⟩ : BufTy).Contents (Elt F)),
    unary main_arg5 main_v9 ((extractStridedSlice S512x128 ![0, 384] · slices_S512x512_S512x128_0_384) : (⟨S512x512, .f32⟩ : BufTy).Contents (Elt F) → (⟨S512x128, .f32⟩ : BufTy).Contents (Elt F)),
    unary main_v9 main_v10 ((transpose S128x512 [1, 0] · transposes_S512x128_S128x512_1_0) : (⟨S512x128, .f32⟩ : BufTy).Contents (Elt F) → (⟨S128x512, .f32⟩ : BufTy).Contents (Elt F)),
    unary main_v10 main_v11 ((truncf .bf16 · bitsLt_bf16_f32) : (⟨S128x512, .f32⟩ : BufTy).Contents (Elt F) → (⟨S128x512, .bf16⟩ : BufTy).Contents (Elt F)),
    unary main_arg6 main_v12 ((extractStridedSlice S512x128 ![0, 0] · slices_S512x512_S512x128_0_0) : (⟨S512x512, .f32⟩ : BufTy).Contents (Elt F) → (⟨S512x128, .f32⟩ : BufTy).Contents (Elt F)),
    unary main_v12 main_v13 ((transpose S128x512 [1, 0] · transposes_S512x128_S128x512_1_0) : (⟨S512x128, .f32⟩ : BufTy).Contents (Elt F) → (⟨S128x512, .f32⟩ : BufTy).Contents (Elt F)),
    unary main_v13 main_v14 ((truncf .bf16 · bitsLt_bf16_f32) : (⟨S128x512, .f32⟩ : BufTy).Contents (Elt F) → (⟨S128x512, .bf16⟩ : BufTy).Contents (Elt F)),
    unary main_arg6 main_v15 ((extractStridedSlice S512x128 ![0, 128] · slices_S512x512_S512x128_0_128) : (⟨S512x512, .f32⟩ : BufTy).Contents (Elt F) → (⟨S512x128, .f32⟩ : BufTy).Contents (Elt F)),
    unary main_v15 main_v16 ((transpose S128x512 [1, 0] · transposes_S512x128_S128x512_1_0) : (⟨S512x128, .f32⟩ : BufTy).Contents (Elt F) → (⟨S128x512, .f32⟩ : BufTy).Contents (Elt F)),
    unary main_v16 main_v17 ((truncf .bf16 · bitsLt_bf16_f32) : (⟨S128x512, .f32⟩ : BufTy).Contents (Elt F) → (⟨S128x512, .bf16⟩ : BufTy).Contents (Elt F)),
    unary main_arg6 main_v18 ((extractStridedSlice S512x128 ![0, 256] · slices_S512x512_S512x128_0_256) : (⟨S512x512, .f32⟩ : BufTy).Contents (Elt F) → (⟨S512x128, .f32⟩ : BufTy).Contents (Elt F)),
    unary main_v18 main_v19 ((transpose S128x512 [1, 0] · transposes_S512x128_S128x512_1_0) : (⟨S512x128, .f32⟩ : BufTy).Contents (Elt F) → (⟨S128x512, .f32⟩ : BufTy).Contents (Elt F)),
    unary main_v19 main_v20 ((truncf .bf16 · bitsLt_bf16_f32) : (⟨S128x512, .f32⟩ : BufTy).Contents (Elt F) → (⟨S128x512, .bf16⟩ : BufTy).Contents (Elt F)),
    unary main_arg6 main_v21 ((extractStridedSlice S512x128 ![0, 384] · slices_S512x512_S512x128_0_384) : (⟨S512x512, .f32⟩ : BufTy).Contents (Elt F) → (⟨S512x128, .f32⟩ : BufTy).Contents (Elt F)),
    unary main_v21 main_v22 ((transpose S128x512 [1, 0] · transposes_S512x128_S128x512_1_0) : (⟨S512x128, .f32⟩ : BufTy).Contents (Elt F) → (⟨S128x512, .f32⟩ : BufTy).Contents (Elt F)),
    unary main_v22 main_v23 ((truncf .bf16 · bitsLt_bf16_f32) : (⟨S128x512, .f32⟩ : BufTy).Contents (Elt F) → (⟨S128x512, .bf16⟩ : BufTy).Contents (Elt F)),
    unary main_arg7 main_v24 ((transpose S128x128 [1, 0] · transposes_S128x128_S128x128_1_0) : (⟨S128x128, .f32⟩ : BufTy).Contents (Elt F) → (⟨S128x128, .f32⟩ : BufTy).Contents (Elt F)),
    unary main_v24 main_v25 ((truncf .bf16 · bitsLt_bf16_f32) : (⟨S128x128, .f32⟩ : BufTy).Contents (Elt F) → (⟨S128x128, .bf16⟩ : BufTy).Contents (Elt F)) ]

/-- Between the gather and the logits: the queries' projections as [64, 1, 512]. -/
def opsShape : List (HloOp τ sig (Elt F)) :=
  [ reshape main_v26_0 main_v28 (rfl : (.f32 : EltTy) = .f32) shapeCasts_S64x512_S64x1x512,
    reshape main_v26_1 main_v29 (rfl : (.f32 : EltTy) = .f32) shapeCasts_S64x512_S64x1x512 ]

/-- After the logits, to the denominators' logarithm. -/
def opsMid0 : List (HloOp τ sig (Elt F)) :=
  [ reshape main_v30 main_v31 (rfl : (.f32 : EltTy) = .f32) shapeCasts_S256x1x512_S131072,
    nullary main_cst (constant S_ .f32 0x3D800000#32),
    unary main_cst main_v32 (broadcastInDim S131072 ![] bcast_S_S131072 : (⟨S_, .f32⟩ : BufTy).Contents (Elt F) → (⟨S131072, .f32⟩ : BufTy).Contents (Elt F)),
    binary main_v31 main_v32 main_v33 (mulf : (⟨S131072, .f32⟩ : BufTy).Contents (Elt F) → (⟨S131072, .f32⟩ : BufTy).Contents (Elt F) → (⟨S131072, .f32⟩ : BufTy).Contents (Elt F)),
    unary main_v33 main_v34 (Host.exp : (⟨S131072, .f32⟩ : BufTy).Contents (Elt F) → (⟨S131072, .f32⟩ : BufTy).Contents (Elt F)),
    nullary main_cst_0 (constant S_ .f32 0x00000000#32),
    unary main_cst_0 main_v35 (broadcastInDim S50000 ![] bcast_S_S50000 : (⟨S_, .f32⟩ : BufTy).Contents (Elt F) → (⟨S50000, .f32⟩ : BufTy).Contents (Elt F)),
    nullary main_c (constantI S_ 32 0#32),
    unary main_c main_v36 (broadcastInDim S131072 ![] bcast_S_S131072 : (⟨S_, .i32⟩ : BufTy).Contents (Elt F) → (⟨S131072, .i32⟩ : BufTy).Contents (Elt F)),
    binary main_arg9 main_v36 main_v37 (cmpi .slt : (⟨S131072, .i32⟩ : BufTy).Contents (Elt F) → (⟨S131072, .i32⟩ : BufTy).Contents (Elt F) → (⟨S131072, .i1⟩ : BufTy).Contents (Elt F)),
    nullary main_c_1 (constantI S_ 32 50000#32),
    unary main_c_1 main_v38 (broadcastInDim S131072 ![] bcast_S_S131072 : (⟨S_, .i32⟩ : BufTy).Contents (Elt F) → (⟨S131072, .i32⟩ : BufTy).Contents (Elt F)),
    binary main_arg9 main_v38 main_v39 (addi : (⟨S131072, .i32⟩ : BufTy).Contents (Elt F) → (⟨S131072, .i32⟩ : BufTy).Contents (Elt F) → (⟨S131072, .i32⟩ : BufTy).Contents (Elt F)),
    ternary main_v37 main_v39 main_arg9 main_v40 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v40 main_v41 (broadcastInDim S131072x1 ![0] bcast_S131072_S131072x1_0 : (⟨S131072, .i32⟩ : BufTy).Contents (Elt F) → (⟨S131072x1, .i32⟩ : BufTy).Contents (Elt F)),
    ternary main_v35 main_v41 main_v34 main_v42 ((fun x i u => Host.scatterAdd scatter_S50000_S131072x1_S131072_n_0_0_1 x i u) : (⟨S50000, .f32⟩ : BufTy).Contents (Elt F) → (⟨S131072x1, .i32⟩ : BufTy).Contents (Elt F) → (⟨S131072, .f32⟩ : BufTy).Contents (Elt F) → (⟨S50000, .f32⟩ : BufTy).Contents (Elt F)),
    nullary main_cst_2 (constant S_ .f32 0x0DA24260#32),
    unary main_cst_2 main_v43 (broadcastInDim S50000 ![] bcast_S_S50000 : (⟨S_, .f32⟩ : BufTy).Contents (Elt F) → (⟨S50000, .f32⟩ : BufTy).Contents (Elt F)),
    binary main_v42 main_v43 main_v44 (addf : (⟨S50000, .f32⟩ : BufTy).Contents (Elt F) → (⟨S50000, .f32⟩ : BufTy).Contents (Elt F) → (⟨S50000, .f32⟩ : BufTy).Contents (Elt F)),
    unary main_v44 main_v45 (Host.log : (⟨S50000, .f32⟩ : BufTy).Contents (Elt F) → (⟨S50000, .f32⟩ : BufTy).Contents (Elt F)),
    nullary main_cst_3 (constant S_ .f32 0x41800000#32),
    unary main_cst_3 main_v46 (broadcastInDim S50000 ![] bcast_S_S50000 : (⟨S_, .f32⟩ : BufTy).Contents (Elt F) → (⟨S50000, .f32⟩ : BufTy).Contents (Elt F)),
    binary main_v46 main_v45 main_v47 (mulf : (⟨S50000, .f32⟩ : BufTy).Contents (Elt F) → (⟨S50000, .f32⟩ : BufTy).Contents (Elt F) → (⟨S50000, .f32⟩ : BufTy).Contents (Elt F)),
    nullary main_c_4 (constantI S_ 32 0#32),
    unary main_c_4 main_v48 (broadcastInDim S131072 ![] bcast_S_S131072 : (⟨S_, .i32⟩ : BufTy).Contents (Elt F) → (⟨S131072, .i32⟩ : BufTy).Contents (Elt F)),
    binary main_arg9 main_v48 main_v49 (cmpi .slt : (⟨S131072, .i32⟩ : BufTy).Contents (Elt F) → (⟨S131072, .i32⟩ : BufTy).Contents (Elt F) → (⟨S131072, .i1⟩ : BufTy).Contents (Elt F)),
    nullary main_c_5 (constantI S_ 32 50000#32),
    unary main_c_5 main_v50 (broadcastInDim S131072 ![] bcast_S_S131072 : (⟨S_, .i32⟩ : BufTy).Contents (Elt F) → (⟨S131072, .i32⟩ : BufTy).Contents (Elt F)),
    binary main_arg9 main_v50 main_v51 (addi : (⟨S131072, .i32⟩ : BufTy).Contents (Elt F) → (⟨S131072, .i32⟩ : BufTy).Contents (Elt F) → (⟨S131072, .i32⟩ : BufTy).Contents (Elt F)) ]

/-- The softmax over the edges of a node, the scores, the best 128 edges of each query. -/
def opsMid1 : List (HloOp τ sig (Elt F)) :=
  [ ternary main_v49 main_v51 main_arg9 main_v52 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v52 main_v53 (broadcastInDim S131072x1 ![0] bcast_S131072_S131072x1_0 : (⟨S131072, .i32⟩ : BufTy).Contents (Elt F) → (⟨S131072x1, .i32⟩ : BufTy).Contents (Elt F)),
    binary main_v47 main_v53 main_v54 ((fun x i => Host.gather gather_S50000_S131072x1_S131072_n_0_n_n_0_1_1 x i) : (⟨S50000, .f32⟩ : BufTy).Contents (Elt F) → (⟨S131072x1, .i32⟩ : BufTy).Contents (Elt F) → (⟨S131072, .f32⟩ : BufTy).Contents (Elt F)),
    binary main_v31 main_v54 main_v55 (subf : (⟨S131072, .f32⟩ : BufTy).Contents (Elt F) → (⟨S131072, .f32⟩ : BufTy).Contents (Elt F) → (⟨S131072, .f32⟩ : BufTy).Contents (Elt F)),
    unary main_v55 main_v56 (Host.exp : (⟨S131072, .f32⟩ : BufTy).Contents (Elt F) → (⟨S131072, .f32⟩ : BufTy).Contents (Elt F)),
    nullary main_cst_6 (constant S_ .f32 0x00000000#32),
    unary main_cst_6 main_v57 (broadcastInDim S50000 ![] bcast_S_S50000 : (⟨S_, .f32⟩ : BufTy).Contents (Elt F) → (⟨S50000, .f32⟩ : BufTy).Contents (Elt F)),
    nullary main_c_7 (constantI S_ 32 0#32),
    unary main_c_7 main_v58 (broadcastInDim S131072 ![] bcast_S_S131072 : (⟨S_, .i32⟩ : BufTy).Contents (Elt F) → (⟨S131072, .i32⟩ : BufTy).Contents (Elt F)),
    binary main_arg9 main_v58 main_v59 (cmpi .slt : (⟨S131072, .i32⟩ : BufTy).Contents (Elt F) → (⟨S131072, .i32⟩ : BufTy).Contents (Elt F) → (⟨S131072, .i1⟩ : BufTy).Contents (Elt F)),
    nullary main_c_8 (constantI S_ 32 50000#32),
    unary main_c_8 main_v60 (broadcastInDim S131072 ![] bcast_S_S131072 : (⟨S_, .i32⟩ : BufTy).Contents (Elt F) → (⟨S131072, .i32⟩ : BufTy).Contents (Elt F)),
    binary main_arg9 main_v60 main_v61 (addi : (⟨S131072, .i32⟩ : BufTy).Contents (Elt F) → (⟨S131072, .i32⟩ : BufTy).Contents (Elt F) → (⟨S131072, .i32⟩ : BufTy).Contents (Elt F)),
    ternary main_v59 main_v61 main_arg9 main_v62 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v62 main_v63 (broadcastInDim S131072x1 ![0] bcast_S131072_S131072x1_0 : (⟨S131072, .i32⟩ : BufTy).Contents (Elt F) → (⟨S131072x1, .i32⟩ : BufTy).Contents (Elt F)),
    ternary main_v57 main_v63 main_v56 main_v64 ((fun x i u => Host.scatterAdd scatter_S50000_S131072x1_S131072_n_0_0_1 x i u) : (⟨S50000, .f32⟩ : BufTy).Contents (Elt F) → (⟨S131072x1, .i32⟩ : BufTy).Contents (Elt F) → (⟨S131072, .f32⟩ : BufTy).Contents (Elt F) → (⟨S50000, .f32⟩ : BufTy).Contents (Elt F)),
    nullary main_c_9 (constantI S_ 32 0#32),
    unary main_c_9 main_v65 (broadcastInDim S131072 ![] bcast_S_S131072 : (⟨S_, .i32⟩ : BufTy).Contents (Elt F) → (⟨S131072, .i32⟩ : BufTy).Contents (Elt F)),
    binary main_arg9 main_v65 main_v66 (cmpi .slt : (⟨S131072, .i32⟩ : BufTy).Contents (Elt F) → (⟨S131072, .i32⟩ : BufTy).Contents (Elt F) → (⟨S131072, .i1⟩ : BufTy).Contents (Elt F)),
    nullary main_c_10 (constantI S_ 32 50000#32),
    unary main_c_10 main_v67 (broadcastInDim S131072 ![] bcast_S_S131072 : (⟨S_, .i32⟩ : BufTy).Contents (Elt F) → (⟨S131072, .i32⟩ : BufTy).Contents (Elt F)),
    binary main_arg9 main_v67 main_v68 (addi : (⟨S131072, .i32⟩ : BufTy).Contents (Elt F) → (⟨S131072, .i32⟩ : BufTy).Contents (Elt F) → (⟨S131072, .i32⟩ : BufTy).Contents (Elt F)),
    ternary main_v66 main_v68 main_arg9 main_v69 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v69 main_v70 (broadcastInDim S131072x1 ![0] bcast_S131072_S131072x1_0 : (⟨S131072, .i32⟩ : BufTy).Contents (Elt F) → (⟨S131072x1, .i32⟩ : BufTy).Contents (Elt F)),
    binary main_v64 main_v70 main_v71 ((fun x i => Host.gather gather_S50000_S131072x1_S131072_n_0_n_n_0_1_1 x i) : (⟨S50000, .f32⟩ : BufTy).Contents (Elt F) → (⟨S131072x1, .i32⟩ : BufTy).Contents (Elt F) → (⟨S131072, .f32⟩ : BufTy).Contents (Elt F)),
    binary main_v56 main_v71 main_v72 (Host.divf : (⟨S131072, .f32⟩ : BufTy).Contents (Elt F) → (⟨S131072, .f32⟩ : BufTy).Contents (Elt F) → (⟨S131072, .f32⟩ : BufTy).Contents (Elt F)),
    nullary main_c_11 (constantI S_ 32 0#32),
    unary main_c_11 main_v73 (broadcastInDim S131072 ![] bcast_S_S131072 : (⟨S_, .i32⟩ : BufTy).Contents (Elt F) → (⟨S131072, .i32⟩ : BufTy).Contents (Elt F)),
    binary main_arg9 main_v73 main_v74 (cmpi .slt : (⟨S131072, .i32⟩ : BufTy).Contents (Elt F) → (⟨S131072, .i32⟩ : BufTy).Contents (Elt F) → (⟨S131072, .i1⟩ : BufTy).Contents (Elt F)),
    nullary main_c_12 (constantI S_ 32 50000#32),
    unary main_c_12 main_v75 (broadcastInDim S131072 ![] bcast_S_S131072 : (⟨S_, .i32⟩ : BufTy).Contents (Elt F) → (⟨S131072, .i32⟩ : BufTy).Contents (Elt F)),
    binary main_arg9 main_v75 main_v76 (addi : (⟨S131072, .i32⟩ : BufTy).Contents (Elt F) → (⟨S131072, .i32⟩ : BufTy).Contents (Elt F) → (⟨S131072, .i32⟩ : BufTy).Contents (Elt F)),
    ternary main_v74 main_v76 main_arg9 main_v77 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v77 main_v78 (broadcastInDim S131072x1 ![0] bcast_S131072_S131072x1_0 : (⟨S131072, .i32⟩ : BufTy).Contents (Elt F) → (⟨S131072x1, .i32⟩ : BufTy).Contents (Elt F)),
    binary main_arg0 main_v78 main_v79 ((fun x i => Host.gather gather_S50000_S131072x1_S131072_n_0_n_n_0_1_1 x i) : (⟨S50000, .f32⟩ : BufTy).Contents (Elt F) → (⟨S131072x1, .i32⟩ : BufTy).Contents (Elt F) → (⟨S131072, .f32⟩ : BufTy).Contents (Elt F)),
    binary main_v72 main_v79 main_v80 (mulf : (⟨S131072, .f32⟩ : BufTy).Contents (Elt F) → (⟨S131072, .f32⟩ : BufTy).Contents (Elt F) → (⟨S131072, .f32⟩ : BufTy).Contents (Elt F)),
    reshape main_v80 main_v81 (rfl : (.f32 : EltTy) = .f32) shapeCasts_S131072_S64x2048,
    unary main_v81 main_values ((fun x => (Host.topK S64x128 1 (FloatOps.cmpfTotal .gt) x sliceFits_S64x2048_S64x128).1) : (⟨S64x2048, .f32⟩ : BufTy).Contents (Elt F) → (⟨S64x128, .f32⟩ : BufTy).Contents (Elt F)),
    unary main_v81 main_indices ((fun x => (Host.topK S64x128 1 (FloatOps.cmpfTotal .gt) x sliceFits_S64x2048_S64x128).2) : (⟨S64x2048, .f32⟩ : BufTy).Contents (Elt F) → (⟨S64x128, .i32⟩ : BufTy).Contents (Elt F)),
    nullary main_v82 (iotaInDim S64 32 0),
    unary main_v82 main_v83 (broadcastInDim S64x1 ![0] bcast_S64_S64x1_0 : (⟨S64, .i32⟩ : BufTy).Contents (Elt F) → (⟨S64x1, .i32⟩ : BufTy).Contents (Elt F)),
    nullary main_c_13 (constantI S_ 32 2048#32),
    unary main_c_13 main_v84 (broadcastInDim S64x1 ![] bcast_S_S64x1 : (⟨S_, .i32⟩ : BufTy).Contents (Elt F) → (⟨S64x1, .i32⟩ : BufTy).Contents (Elt F)),
    binary main_v83 main_v84 main_v85 (muli : (⟨S64x1, .i32⟩ : BufTy).Contents (Elt F) → (⟨S64x1, .i32⟩ : BufTy).Contents (Elt F) → (⟨S64x1, .i32⟩ : BufTy).Contents (Elt F)),
    unary main_v85 main_v86 (broadcastInDim S64x128 ![0, 1] bcast_S64x1_S64x128_0_1 : (⟨S64x1, .i32⟩ : BufTy).Contents (Elt F) → (⟨S64x128, .i32⟩ : BufTy).Contents (Elt F)),
    binary main_indices main_v86 main_v87 (addi : (⟨S64x128, .i32⟩ : BufTy).Contents (Elt F) → (⟨S64x128, .i32⟩ : BufTy).Contents (Elt F) → (⟨S64x128, .i32⟩ : BufTy).Contents (Elt F)),
    reshape main_v87 main_v88 (rfl : (.i32 : EltTy) = .i32) shapeCasts_S64x128_S8192,
    nullary main_c_14 (constantI S_ 32 0#32),
    unary main_c_14 main_v89 (broadcastInDim S8192 ![] bcast_S_S8192 : (⟨S_, .i32⟩ : BufTy).Contents (Elt F) → (⟨S8192, .i32⟩ : BufTy).Contents (Elt F)),
    binary main_v88 main_v89 main_v90 (cmpi .slt : (⟨S8192, .i32⟩ : BufTy).Contents (Elt F) → (⟨S8192, .i32⟩ : BufTy).Contents (Elt F) → (⟨S8192, .i1⟩ : BufTy).Contents (Elt F)),
    nullary main_c_15 (constantI S_ 32 131072#32),
    unary main_c_15 main_v91 (broadcastInDim S8192 ![] bcast_S_S8192 : (⟨S_, .i32⟩ : BufTy).Contents (Elt F) → (⟨S8192, .i32⟩ : BufTy).Contents (Elt F)),
    binary main_v88 main_v91 main_v92 (addi : (⟨S8192, .i32⟩ : BufTy).Contents (Elt F) → (⟨S8192, .i32⟩ : BufTy).Contents (Elt F) → (⟨S8192, .i32⟩ : BufTy).Contents (Elt F)),
    ternary main_v90 main_v92 main_v88 main_v93 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v93 main_v94 (broadcastInDim S8192x1 ![0] bcast_S8192_S8192x1_0 : (⟨S8192, .i32⟩ : BufTy).Contents (Elt F) → (⟨S8192x1, .i32⟩ : BufTy).Contents (Elt F)),
    binary main_arg9 main_v94 main_v95 ((fun x i => Host.gather gather_S131072_S8192x1_S8192_n_0_n_n_0_1_1 x i) : (⟨S131072, .i32⟩ : BufTy).Contents (Elt F) → (⟨S8192x1, .i32⟩ : BufTy).Contents (Elt F) → (⟨S8192, .i32⟩ : BufTy).Contents (Elt F)),
    nullary main_c_16 (constantI S_ 32 0#32),
    unary main_c_16 main_v96 (broadcastInDim S8192 ![] bcast_S_S8192 : (⟨S_, .i32⟩ : BufTy).Contents (Elt F) → (⟨S8192, .i32⟩ : BufTy).Contents (Elt F)),
    binary main_v88 main_v96 main_v97 (cmpi .slt : (⟨S8192, .i32⟩ : BufTy).Contents (Elt F) → (⟨S8192, .i32⟩ : BufTy).Contents (Elt F) → (⟨S8192, .i1⟩ : BufTy).Contents (Elt F)),
    nullary main_c_17 (constantI S_ 32 131072#32) ]

/-- What the chosen edges name and carry, and the scatters into the nodes. -/
def opsMid2 : List (HloOp τ sig (Elt F)) :=
  [ unary main_c_17 main_v98 (broadcastInDim S8192 ![] bcast_S_S8192 : (⟨S_, .i32⟩ : BufTy).Contents (Elt F) → (⟨S8192, .i32⟩ : BufTy).Contents (Elt F)),
    binary main_v88 main_v98 main_v99 (addi : (⟨S8192, .i32⟩ : BufTy).Contents (Elt F) → (⟨S8192, .i32⟩ : BufTy).Contents (Elt F) → (⟨S8192, .i32⟩ : BufTy).Contents (Elt F)),
    ternary main_v97 main_v99 main_v88 main_v100 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v100 main_v101 (broadcastInDim S8192x1 ![0] bcast_S8192_S8192x1_0 : (⟨S8192, .i32⟩ : BufTy).Contents (Elt F) → (⟨S8192x1, .i32⟩ : BufTy).Contents (Elt F)),
    binary main_arg10 main_v101 main_v102 ((fun x i => Host.gather gather_S131072_S8192x1_S8192_n_0_n_n_0_1_1 x i) : (⟨S131072, .i32⟩ : BufTy).Contents (Elt F) → (⟨S8192x1, .i32⟩ : BufTy).Contents (Elt F) → (⟨S8192, .i32⟩ : BufTy).Contents (Elt F)),
    nullary main_c_18 (constantI S_ 32 0#32),
    unary main_c_18 main_v103 (broadcastInDim S8192 ![] bcast_S_S8192 : (⟨S_, .i32⟩ : BufTy).Contents (Elt F) → (⟨S8192, .i32⟩ : BufTy).Contents (Elt F)),
    binary main_v88 main_v103 main_v104 (cmpi .slt : (⟨S8192, .i32⟩ : BufTy).Contents (Elt F) → (⟨S8192, .i32⟩ : BufTy).Contents (Elt F) → (⟨S8192, .i1⟩ : BufTy).Contents (Elt F)),
    nullary main_c_19 (constantI S_ 32 131072#32),
    unary main_c_19 main_v105 (broadcastInDim S8192 ![] bcast_S_S8192 : (⟨S_, .i32⟩ : BufTy).Contents (Elt F) → (⟨S8192, .i32⟩ : BufTy).Contents (Elt F)),
    binary main_v88 main_v105 main_v106 (addi : (⟨S8192, .i32⟩ : BufTy).Contents (Elt F) → (⟨S8192, .i32⟩ : BufTy).Contents (Elt F) → (⟨S8192, .i32⟩ : BufTy).Contents (Elt F)),
    ternary main_v104 main_v106 main_v88 main_v107 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v107 main_v108 (broadcastInDim S8192x1 ![0] bcast_S8192_S8192x1_0 : (⟨S8192, .i32⟩ : BufTy).Contents (Elt F) → (⟨S8192x1, .i32⟩ : BufTy).Contents (Elt F)),
    binary main_v72 main_v108 main_v109 ((fun x i => Host.gather gather_S131072_S8192x1_S8192_n_0_n_n_0_1_1 x i) : (⟨S131072, .f32⟩ : BufTy).Contents (Elt F) → (⟨S8192x1, .i32⟩ : BufTy).Contents (Elt F) → (⟨S8192, .f32⟩ : BufTy).Contents (Elt F)),
    nullary main_c_20 (constantI S_ 32 0#32),
    unary main_c_20 main_v110 (broadcastInDim S8192 ![] bcast_S_S8192 : (⟨S_, .i32⟩ : BufTy).Contents (Elt F) → (⟨S8192, .i32⟩ : BufTy).Contents (Elt F)),
    binary main_v88 main_v110 main_v111 (cmpi .slt : (⟨S8192, .i32⟩ : BufTy).Contents (Elt F) → (⟨S8192, .i32⟩ : BufTy).Contents (Elt F) → (⟨S8192, .i1⟩ : BufTy).Contents (Elt F)),
    nullary main_c_21 (constantI S_ 32 131072#32),
    unary main_c_21 main_v112 (broadcastInDim S8192 ![] bcast_S_S8192 : (⟨S_, .i32⟩ : BufTy).Contents (Elt F) → (⟨S8192, .i32⟩ : BufTy).Contents (Elt F)),
    binary main_v88 main_v112 main_v113 (addi : (⟨S8192, .i32⟩ : BufTy).Contents (Elt F) → (⟨S8192, .i32⟩ : BufTy).Contents (Elt F) → (⟨S8192, .i32⟩ : BufTy).Contents (Elt F)),
    ternary main_v111 main_v113 main_v88 main_v114 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v114 main_v115 (broadcastInDim S8192x1 ![0] bcast_S8192_S8192x1_0 : (⟨S8192, .i32⟩ : BufTy).Contents (Elt F) → (⟨S8192x1, .i32⟩ : BufTy).Contents (Elt F)),
    binary main_v80 main_v115 main_v116 ((fun x i => Host.gather gather_S131072_S8192x1_S8192_n_0_n_n_0_1_1 x i) : (⟨S131072, .f32⟩ : BufTy).Contents (Elt F) → (⟨S8192x1, .i32⟩ : BufTy).Contents (Elt F) → (⟨S8192, .f32⟩ : BufTy).Contents (Elt F)),
    nullary main_cst_22 (constant S_ .f32 0x00000000#32),
    unary main_cst_22 main_v117 (broadcastInDim S50000 ![] bcast_S_S50000 : (⟨S_, .f32⟩ : BufTy).Contents (Elt F) → (⟨S50000, .f32⟩ : BufTy).Contents (Elt F)),
    nullary main_c_23 (constantI S_ 32 0#32),
    unary main_c_23 main_v118 (broadcastInDim S8192 ![] bcast_S_S8192 : (⟨S_, .i32⟩ : BufTy).Contents (Elt F) → (⟨S8192, .i32⟩ : BufTy).Contents (Elt F)),
    binary main_v102 main_v118 main_v119 (cmpi .slt : (⟨S8192, .i32⟩ : BufTy).Contents (Elt F) → (⟨S8192, .i32⟩ : BufTy).Contents (Elt F) → (⟨S8192, .i1⟩ : BufTy).Contents (Elt F)),
    nullary main_c_24 (constantI S_ 32 50000#32),
    unary main_c_24 main_v120 (broadcastInDim S8192 ![] bcast_S_S8192 : (⟨S_, .i32⟩ : BufTy).Contents (Elt F) → (⟨S8192, .i32⟩ : BufTy).Contents (Elt F)),
    binary main_v102 main_v120 main_v121 (addi : (⟨S8192, .i32⟩ : BufTy).Contents (Elt F) → (⟨S8192, .i32⟩ : BufTy).Contents (Elt F) → (⟨S8192, .i32⟩ : BufTy).Contents (Elt F)),
    ternary main_v119 main_v121 main_v102 main_v122 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v122 main_v123 (broadcastInDim S8192x1 ![0] bcast_S8192_S8192x1_0 : (⟨S8192, .i32⟩ : BufTy).Contents (Elt F) → (⟨S8192x1, .i32⟩ : BufTy).Contents (Elt F)),
    ternary main_v117 main_v123 main_v116 main_v124 ((fun x i u => Host.scatterAdd scatter_S50000_S8192x1_S8192_n_0_0_1 x i u) : (⟨S50000, .f32⟩ : BufTy).Contents (Elt F) → (⟨S8192x1, .i32⟩ : BufTy).Contents (Elt F) → (⟨S8192, .f32⟩ : BufTy).Contents (Elt F) → (⟨S50000, .f32⟩ : BufTy).Contents (Elt F)),
    nullary main_cst_25 (constant S_ .f32 0x00000000#32),
    unary main_cst_25 main_v125 (broadcastInDim S50000 ![] bcast_S_S50000 : (⟨S_, .f32⟩ : BufTy).Contents (Elt F) → (⟨S50000, .f32⟩ : BufTy).Contents (Elt F)),
    nullary main_c_26 (constantI S_ 32 0#32),
    unary main_c_26 main_v126 (broadcastInDim S8192 ![] bcast_S_S8192 : (⟨S_, .i32⟩ : BufTy).Contents (Elt F) → (⟨S8192, .i32⟩ : BufTy).Contents (Elt F)),
    binary main_v95 main_v126 main_v127 (cmpi .slt : (⟨S8192, .i32⟩ : BufTy).Contents (Elt F) → (⟨S8192, .i32⟩ : BufTy).Contents (Elt F) → (⟨S8192, .i1⟩ : BufTy).Contents (Elt F)),
    nullary main_c_27 (constantI S_ 32 50000#32),
    unary main_c_27 main_v128 (broadcastInDim S8192 ![] bcast_S_S8192 : (⟨S_, .i32⟩ : BufTy).Contents (Elt F) → (⟨S8192, .i32⟩ : BufTy).Contents (Elt F)),
    binary main_v95 main_v128 main_v129 (addi : (⟨S8192, .i32⟩ : BufTy).Contents (Elt F) → (⟨S8192, .i32⟩ : BufTy).Contents (Elt F) → (⟨S8192, .i32⟩ : BufTy).Contents (Elt F)),
    ternary main_v127 main_v129 main_v95 main_v130 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v130 main_v131 (broadcastInDim S8192x1 ![0] bcast_S8192_S8192x1_0 : (⟨S8192, .i32⟩ : BufTy).Contents (Elt F) → (⟨S8192x1, .i32⟩ : BufTy).Contents (Elt F)),
    nullary main_cst_28 (constant S_ .f32 0x3F800000#32),
    unary main_cst_28 main_v132 (broadcastInDim S8192 ![] bcast_S_S8192 : (⟨S_, .f32⟩ : BufTy).Contents (Elt F) → (⟨S8192, .f32⟩ : BufTy).Contents (Elt F)),
    ternary main_v125 main_v131 main_v132 main_v133 ((fun x i u => Host.scatterAdd scatter_S50000_S8192x1_S8192_n_0_0_1 x i u) : (⟨S50000, .f32⟩ : BufTy).Contents (Elt F) → (⟨S8192x1, .i32⟩ : BufTy).Contents (Elt F) → (⟨S8192, .f32⟩ : BufTy).Contents (Elt F) → (⟨S50000, .f32⟩ : BufTy).Contents (Elt F)),
    unary main_v109 main_v134 (broadcastInDim S8192x1 ![0] bcast_S8192_S8192x1_0 : (⟨S8192, .f32⟩ : BufTy).Contents (Elt F) → (⟨S8192x1, .f32⟩ : BufTy).Contents (Elt F)),
    nullary main_c_29 (constantI S_ 32 0#32),
    unary main_c_29 main_v135 (broadcastInDim S8192 ![] bcast_S_S8192 : (⟨S_, .i32⟩ : BufTy).Contents (Elt F) → (⟨S8192, .i32⟩ : BufTy).Contents (Elt F)),
    binary main_v102 main_v135 main_v136 (cmpi .slt : (⟨S8192, .i32⟩ : BufTy).Contents (Elt F) → (⟨S8192, .i32⟩ : BufTy).Contents (Elt F) → (⟨S8192, .i1⟩ : BufTy).Contents (Elt F)),
    nullary main_c_30 (constantI S_ 32 50000#32),
    unary main_c_30 main_v137 (broadcastInDim S8192 ![] bcast_S_S8192 : (⟨S_, .i32⟩ : BufTy).Contents (Elt F) → (⟨S8192, .i32⟩ : BufTy).Contents (Elt F)),
    binary main_v102 main_v137 main_v138 (addi : (⟨S8192, .i32⟩ : BufTy).Contents (Elt F) → (⟨S8192, .i32⟩ : BufTy).Contents (Elt F) → (⟨S8192, .i32⟩ : BufTy).Contents (Elt F)),
    ternary main_v136 main_v138 main_v102 main_v139 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v139 main_v140 (broadcastInDim S8192x1 ![0] bcast_S8192_S8192x1_0 : (⟨S8192, .i32⟩ : BufTy).Contents (Elt F) → (⟨S8192x1, .i32⟩ : BufTy).Contents (Elt F)),
    binary main_arg1 main_v140 main_v141 ((fun x i => Host.gather gather_S50000x128_S8192x1_S8192x128_1_0_n_n_0_1_1128 x i) : (⟨S50000x128, .f32⟩ : BufTy).Contents (Elt F) → (⟨S8192x1, .i32⟩ : BufTy).Contents (Elt F) → (⟨S8192x128, .f32⟩ : BufTy).Contents (Elt F)),
    unary main_v134 main_v142 (broadcastInDim S8192x128 ![0, 1] bcast_S8192x1_S8192x128_0_1 : (⟨S8192x1, .f32⟩ : BufTy).Contents (Elt F) → (⟨S8192x128, .f32⟩ : BufTy).Contents (Elt F)),
    binary main_v142 main_v141 main_v143 (mulf : (⟨S8192x128, .f32⟩ : BufTy).Contents (Elt F) → (⟨S8192x128, .f32⟩ : BufTy).Contents (Elt F) → (⟨S8192x128, .f32⟩ : BufTy).Contents (Elt F)),
    nullary main_cst_31 (constant S_ .f32 0x00000000#32) ]

/-- The last scatter, and the operands of the last kernel as it takes them. -/
def opsMid3 : List (HloOp τ sig (Elt F)) :=
  [ unary main_cst_31 main_v144 (broadcastInDim S50000x128 ![] bcast_S_S50000x128 : (⟨S_, .f32⟩ : BufTy).Contents (Elt F) → (⟨S50000x128, .f32⟩ : BufTy).Contents (Elt F)),
    nullary main_c_32 (constantI S_ 32 0#32),
    unary main_c_32 main_v145 (broadcastInDim S8192 ![] bcast_S_S8192 : (⟨S_, .i32⟩ : BufTy).Contents (Elt F) → (⟨S8192, .i32⟩ : BufTy).Contents (Elt F)),
    binary main_v95 main_v145 main_v146 (cmpi .slt : (⟨S8192, .i32⟩ : BufTy).Contents (Elt F) → (⟨S8192, .i32⟩ : BufTy).Contents (Elt F) → (⟨S8192, .i1⟩ : BufTy).Contents (Elt F)),
    nullary main_c_33 (constantI S_ 32 50000#32),
    unary main_c_33 main_v147 (broadcastInDim S8192 ![] bcast_S_S8192 : (⟨S_, .i32⟩ : BufTy).Contents (Elt F) → (⟨S8192, .i32⟩ : BufTy).Contents (Elt F)),
    binary main_v95 main_v147 main_v148 (addi : (⟨S8192, .i32⟩ : BufTy).Contents (Elt F) → (⟨S8192, .i32⟩ : BufTy).Contents (Elt F) → (⟨S8192, .i32⟩ : BufTy).Contents (Elt F)),
    ternary main_v146 main_v148 main_v95 main_v149 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v149 main_v150 (broadcastInDim S8192x1 ![0] bcast_S8192_S8192x1_0 : (⟨S8192, .i32⟩ : BufTy).Contents (Elt F) → (⟨S8192x1, .i32⟩ : BufTy).Contents (Elt F)),
    ternary main_v144 main_v150 main_v143 main_v151 ((fun x i u => Host.scatterAdd scatter_S50000x128_S8192x1_S8192x128_1_0_0_1 x i u) : (⟨S50000x128, .f32⟩ : BufTy).Contents (Elt F) → (⟨S8192x1, .i32⟩ : BufTy).Contents (Elt F) → (⟨S8192x128, .f32⟩ : BufTy).Contents (Elt F) → (⟨S50000x128, .f32⟩ : BufTy).Contents (Elt F)),
    reshape main_v124 main_v152 (rfl : (.f32 : EltTy) = .f32) shapeCasts_S50000_S50000x1,
    reshape main_v133 main_v153 (rfl : (.f32 : EltTy) = .f32) shapeCasts_S50000_S50000x1,
    reshape main_arg8 main_v154 (rfl : (.f32 : EltTy) = .f32) shapeCasts_S128_S1x128 ]

/-- After the last kernel: the scores as a vector. -/
def opsEnd : List (HloOp τ sig (Elt F)) :=
  [ reshape main_v155_0 main_v156 (rfl : (.f32 : EltTy) = .f32) shapeCasts_S50000x1_S50000 ]

/-- An operation over the TensorCore's buffers that leaves none unwritten. -/
def Plain (op : HloOp τ sig (Elt F)) : Prop := op.bufs ⊆ tcRefs τ sig ∧ op.fresh = ∅

theorem Plain.nullary {y : Ref sig .tc} (v : y.ty.Contents (Elt F)) (hy) : Plain (StableHlo.nullary (τ := τ) y v hy) := ⟨nullary_bufs_sub .., rfl⟩
theorem Plain.unary {x y : Ref sig .tc} (f : x.ty.Contents (Elt F) → y.ty.Contents (Elt F)) (hx hy) : Plain (StableHlo.unary (τ := τ) x y f hx hy) := ⟨unary_bufs_sub .., rfl⟩
theorem Plain.binary {a b y : Ref sig .tc} (f : a.ty.Contents (Elt F) → b.ty.Contents (Elt F) → y.ty.Contents (Elt F)) (ha hb hy) :
    Plain (StableHlo.binary (τ := τ) a b y f ha hb hy) := ⟨binary_bufs_sub .., rfl⟩
theorem Plain.ternary {c a b y : Ref sig .tc} (f : c.ty.Contents (Elt F) → a.ty.Contents (Elt F) → b.ty.Contents (Elt F) → y.ty.Contents (Elt F)) (hc ha hb hy) :
    Plain (StableHlo.ternary (τ := τ) c a b y f hc ha hb hy) := ⟨ternary_bufs_sub .., rfl⟩
theorem Plain.reshape {x y : Ref sig .tc} (he hn hx hy) : Plain (F := F) (StableHlo.reshape x y he hn hx hy) := ⟨reshape_bufs_sub .., rfl⟩

set_option maxRecDepth 8192 in
theorem opsPrep_plain : ∀ op ∈ opsPrep (F := F), Plain op := by
  simp only [opsPrep, List.forall_mem_cons, Plain.nullary, Plain.unary, Plain.binary, Plain.ternary, Plain.reshape, true_and, List.not_mem_nil, false_imp_iff, implies_true]

set_option maxRecDepth 8192 in
theorem opsShape_plain : ∀ op ∈ opsShape (F := F), Plain op := by
  simp only [opsShape, List.forall_mem_cons, Plain.nullary, Plain.unary, Plain.binary, Plain.ternary, Plain.reshape, true_and, List.not_mem_nil, false_imp_iff, implies_true]

set_option maxRecDepth 8192 in
theorem opsMid0_plain : ∀ op ∈ opsMid0 (F := F), Plain op := by
  simp only [opsMid0, List.forall_mem_cons, Plain.nullary, Plain.unary, Plain.binary, Plain.ternary, Plain.reshape, true_and, List.not_mem_nil, false_imp_iff, implies_true]

set_option maxRecDepth 8192 in
theorem opsMid1_plain : ∀ op ∈ opsMid1 (F := F), Plain op := by
  simp only [opsMid1, List.forall_mem_cons, Plain.nullary, Plain.unary, Plain.binary, Plain.ternary, Plain.reshape, true_and, List.not_mem_nil, false_imp_iff, implies_true]

set_option maxRecDepth 8192 in
theorem opsMid2_plain : ∀ op ∈ opsMid2 (F := F), Plain op := by
  simp only [opsMid2, List.forall_mem_cons, Plain.nullary, Plain.unary, Plain.binary, Plain.ternary, Plain.reshape, true_and, List.not_mem_nil, false_imp_iff, implies_true]

set_option maxRecDepth 8192 in
theorem opsMid3_plain : ∀ op ∈ opsMid3 (F := F), Plain op := by
  simp only [opsMid3, List.forall_mem_cons, Plain.nullary, Plain.unary, Plain.binary, Plain.ternary, Plain.reshape, true_and, List.not_mem_nil, false_imp_iff, implies_true]

set_option maxRecDepth 8192 in
theorem opsEnd_plain : ∀ op ∈ opsEnd (F := F), Plain op := by
  simp only [opsEnd, List.forall_mem_cons, Plain.nullary, Plain.unary, Plain.binary, Plain.ternary, Plain.reshape, true_and, List.not_mem_nil, false_imp_iff, implies_true]

/-! ## @main in those stretches -/

set_option maxRecDepth 8192 in
theorem main_part0_eq (d : Dev nD) : main_part0 (F := F) d = (do
    seq opsPrep; Prog.lift (.customCall (SparseCore.inner (Pipeline.entry 0)) ()); sc.run d 0
    seq opsShape; Prog.lift (.customCall (SparseCore.inner (Pipeline.entry 1)) ()); seq opsMid0) := rfl
set_option maxRecDepth 8192 in
theorem main_part1_eq (d : Dev nD) : main_part1 (F := F) d = seq opsMid1 := rfl
set_option maxRecDepth 8192 in
theorem main_part2_eq (d : Dev nD) : main_part2 (F := F) d = seq opsMid2 := rfl
set_option maxRecDepth 8192 in
theorem main_part3_eq (d : Dev nD) : main_part3 (F := F) d = (do
    seq opsMid3; Prog.lift (.customCall (SparseCore.inner (Pipeline.entry 2)) ()); seq opsEnd) := rfl

/-! ## What each stretch writes -/

def writtenPrep : List (Ref sig .tc) :=
  [main_v0, main_v1, main_v2, main_v3, main_v4, main_v5, main_v6, main_v7, main_v8, main_v9, main_v10, main_v11,
    main_v12, main_v13, main_v14, main_v15, main_v16, main_v17, main_v18, main_v19, main_v20, main_v21, main_v22,
    main_v23, main_v24, main_v25]

theorem opsPrep_keeps (V : Valuation τ sig (Elt F)) (r : Ref sig .tc) (h : r ∉ writtenPrep) : after opsPrep V (Proc.devRef .tc r) = V (Proc.devRef .tc r) :=
  after_of_writes_sub opsPrep V (forall_writes_sub_of_map rfl) h

def writtenShape : List (Ref sig .tc) :=
  [main_v28, main_v29]

theorem opsShape_keeps (V : Valuation τ sig (Elt F)) (r : Ref sig .tc) (h : r ∉ writtenShape) : after opsShape V (Proc.devRef .tc r) = V (Proc.devRef .tc r) :=
  after_of_writes_sub opsShape V (forall_writes_sub_of_map rfl) h

def writtenMid0 : List (Ref sig .tc) :=
  [main_v31, main_cst, main_v32, main_v33, main_v34, main_cst_0, main_v35, main_c, main_v36, main_v37, main_c_1,
    main_v38, main_v39, main_v40, main_v41, main_v42, main_cst_2, main_v43, main_v44, main_v45, main_cst_3,
    main_v46, main_v47, main_c_4, main_v48, main_v49, main_c_5, main_v50, main_v51]

theorem opsMid0_keeps (V : Valuation τ sig (Elt F)) (r : Ref sig .tc) (h : r ∉ writtenMid0) : after opsMid0 V (Proc.devRef .tc r) = V (Proc.devRef .tc r) :=
  after_of_writes_sub opsMid0 V (forall_writes_sub_of_map rfl) h

def writtenMid1 : List (Ref sig .tc) :=
  [main_v52, main_v53, main_v54, main_v55, main_v56, main_cst_6, main_v57, main_c_7, main_v58, main_v59,
    main_c_8, main_v60, main_v61, main_v62, main_v63, main_v64, main_c_9, main_v65, main_v66, main_c_10, main_v67,
    main_v68, main_v69, main_v70, main_v71, main_v72, main_c_11, main_v73, main_v74, main_c_12, main_v75,
    main_v76, main_v77, main_v78, main_v79, main_v80, main_v81, main_values, main_indices, main_v82, main_v83,
    main_c_13, main_v84, main_v85, main_v86, main_v87, main_v88, main_c_14, main_v89, main_v90, main_c_15,
    main_v91, main_v92, main_v93, main_v94, main_v95, main_c_16, main_v96, main_v97, main_c_17]

theorem opsMid1_keeps (V : Valuation τ sig (Elt F)) (r : Ref sig .tc) (h : r ∉ writtenMid1) : after opsMid1 V (Proc.devRef .tc r) = V (Proc.devRef .tc r) :=
  after_of_writes_sub opsMid1 V (forall_writes_sub_of_map rfl) h

def writtenMid2 : List (Ref sig .tc) :=
  [main_v98, main_v99, main_v100, main_v101, main_v102, main_c_18, main_v103, main_v104, main_c_19, main_v105,
    main_v106, main_v107, main_v108, main_v109, main_c_20, main_v110, main_v111, main_c_21, main_v112, main_v113,
    main_v114, main_v115, main_v116, main_cst_22, main_v117, main_c_23, main_v118, main_v119, main_c_24,
    main_v120, main_v121, main_v122, main_v123, main_v124, main_cst_25, main_v125, main_c_26, main_v126,
    main_v127, main_c_27, main_v128, main_v129, main_v130, main_v131, main_cst_28, main_v132, main_v133,
    main_v134, main_c_29, main_v135, main_v136, main_c_30, main_v137, main_v138, main_v139, main_v140, main_v141,
    main_v142, main_v143, main_cst_31]

theorem opsMid2_keeps (V : Valuation τ sig (Elt F)) (r : Ref sig .tc) (h : r ∉ writtenMid2) : after opsMid2 V (Proc.devRef .tc r) = V (Proc.devRef .tc r) :=
  after_of_writes_sub opsMid2 V (forall_writes_sub_of_map rfl) h

def writtenMid3 : List (Ref sig .tc) :=
  [main_v144, main_c_32, main_v145, main_v146, main_c_33, main_v147, main_v148, main_v149, main_v150, main_v151,
    main_v152, main_v153, main_v154]

theorem opsMid3_keeps (V : Valuation τ sig (Elt F)) (r : Ref sig .tc) (h : r ∉ writtenMid3) : after opsMid3 V (Proc.devRef .tc r) = V (Proc.devRef .tc r) :=
  after_of_writes_sub opsMid3 V (forall_writes_sub_of_map rfl) h

def writtenEnd : List (Ref sig .tc) :=
  [main_v156]

theorem opsEnd_keeps (V : Valuation τ sig (Elt F)) (r : Ref sig .tc) (h : r ∉ writtenEnd) : after opsEnd V (Proc.devRef .tc r) = V (Proc.devRef .tc r) :=
  after_of_writes_sub opsEnd V (forall_writes_sub_of_map rfl) h

end Cert.Proof.Host

end
-- ==== Proof.Tile.Window.lean ====
/-
  One window of a tile, run: the rows its 512 row numbers name land in its part of the output.
-/
module

public import proofs.«01_k».proof.Proof.Tile.Base

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid1.Coords)

/-- The tile's two scratch buffers, at whatever they hold. -/
def scratch : sProp 𝕄 :=
  iprop((∃ f, (sM).view.loc (tV d L) ↦[(sM).view.set]{fullShare} f) ∗ ∃ f, (rM).view.loc (tV d L) ↦[(rM).view.set]{fullShare} f)

/-- The rows of the table the row numbers `fi` name, as the window lays them out. -/
abbrev gathered (iS : Memref sig .scVector .hbm S512 .i32) (fi : Buf (Elt F) (iS.view.loc (tV d L))) (fx : Buf (Elt F) ((xS).view.loc (tV d L)))
    (hin : ∀ x, (iS.view.read (Elt F) fi x).toNat < S50000x128.size gathers_S50000x128_S512x128.axis) : S512x128.Idx → Elt F .f32 :=
  SparseCore.gatherPayload (F := F) gathers_S50000x128_S512x128 ((xS).view.read (Elt F) fx)
    (SparseCore.rows (F := F) (si := S512) (iS.view.read (Elt F) fi) rfl hin)

variable [FloatOps F]

/-- The credits of the 512 rows a gather moves add up to the row buffer's. -/
theorem row_credit (h : S50000x128.Gathers 0 S512x128) :
    ∑ j, ((rM).slice (S512x128.rowRect h.axis' j) (S512x128.stride_rowRect h.axis' j)).view.dmaCredit = (rM).view.dmaCredit := by
  have hc : ∀ s' : Shape, sig.dmaCredit .scVector (Kind.scVector.table .vmem) (rM).view.buf s' .f32 = s'.numel * EltTy.f32.bits := fun _ => rfl
  change ∑ j, sig.dmaCredit .scVector (Kind.scVector.table .vmem) (rM).view.buf (S512x128.rowShape h.axis') .f32
    = sig.dmaCredit .scVector (Kind.scVector.table .vmem) (rM).view.buf S512x128 .f32
  rw [hc, hc, Finset.sum_const, Finset.card_univ, Fintype.card_fin, smul_eq_mul, ← Nat.mul_assoc, SparseCore.size_mul_numel_rowShape]

/-- Equal lists of row numbers name the same rows. -/
theorem rows_congr {si : Shape} {o z : ℕ} {f g : si.Idx → Elt F .i32} (e : f = g) (hn : si.numel = o) (hf : ∀ x, (f x).toNat < z) (hg : ∀ x, (g x).toNat < z) :
    SparseCore.rows f hn hf = SparseCore.rows g hn hg := by
  subst e; rfl

/-- Running one window: the table and the row numbers are read at shares, the window's part of the output is left
    holding the rows named (`G`, the contents the whole output is to have). -/
theorem wp_window {O : CellTallies nD τ sig (HIx 1)} {W : Waits sig (HIx 1)} {q q' : PosShare TreeShare}
    (iS : Memref sig .scVector .hbm S512 .i32) (oS : Memref sig .scVector .hbm S512x128 .f32) (a b : DmaSem sig)
    (fi : Buf (Elt F) (iS.view.loc (tV d L))) (fx : Buf (Elt F) ((xS).view.loc (tV d L))) (fo G : Buf (Elt F) (oS.view.loc (tV d L)))
    (hin : ∀ x, (iS.view.read (Elt F) fi x).toNat < S50000x128.size gathers_S50000x128_S512x128.axis)
    (hG : ∀ x, oS.view.read (Elt F) G x = gathered d L iS fi fx hin x) :
    iprop(Transfers.MayWaits (tV d L) (default : HIx 1) O ∗ (iS.view.loc (tV d L) ↦[iS.view.set]{q} fi)
        ∗ ((xS).view.loc (tV d L) ↦[(xS).view.set]{q'} fx) ∗ (oS.view.loc (tV d L) ↦[oS.view.set]{fullShare} fo) ∗ scratch d L
        ∗ semVal (tV d L, SemLoc.dma a) 0 ∗ semVal (tV d L, SemLoc.dma b) 0 ∗ semVal (tV d L, SemLoc.dma cc1_scratch2.sem) 0
        ∗ owes (tV d L) O W)
      ⊢ wp frame (wpE (defs₀ (F := F)) 𝒱₀ (tV d L) none) Set.univ (window L iS oS a b)
          fun _ => iprop((iS.view.loc (tV d L) ↦[iS.view.set]{q} fi)
            ∗ ((xS).view.loc (tV d L) ↦[(xS).view.set]{q'} fx) ∗ (oS.view.loc (tV d L) ↦[oS.view.set]{fullShare} G) ∗ scratch d L
            ∗ semVal (tV d L, SemLoc.dma a) 0 ∗ semVal (tV d L, SemLoc.dma b) 0 ∗ semVal (tV d L, SemLoc.dma cc1_scratch2.sem) 0
            ∗ ∃ W', ⌜∀ p ∈ W', p ∈ W ∨ p.2 = none⌝ ∗ owes (tV d L) O W') := by
  unfold window scratch
  iintro ⟨#Hmw, Hi, Hx, Ho, ⟨⟨%fs, Hs⟩, ⟨%fr, Hr⟩⟩, Ha, Hb, Hg, HO⟩
  iapply (Transfers.wp_dmaLocal countersEmb 𝒱₀ (tV d L) none (src := iS) (dst := sM) (sm := .dma a) (default : HIx 1) _ rfl (View.dmaCredit_pos _ (by decide)) subset_rfl) $$ [Hi Hs Ha]
  · isplitl [Hi]; · iexact Hi
    isplitl [Hs]; · iexact Hs
    iexact Ha
  iintro Hfl
  iapply (Transfers.wp_waitLocalO countersEmb 𝒱₀ (tV d L) none (default : HIx 1) rfl) $$ [Hfl HO]
  · isplitl [Hfl]; · iexact Hfl
    isplitl [HO]; · iexact HO
    iapply (Transfers.MayWaits.elim (SemLoc.dma a)) $$ Hmw
  iintro ⟨⟨Hs, Hi⟩, Ha, HO⟩
  have hrd : ∀ f, (sM).view.read (Elt F) ((sM).view.write (Elt F) f (iS.view.read (Elt F) fi) Finset.univ) = iS.view.read (Elt F) fi :=
    fun f => View.read_write_univ _ _
  simp only [ReadAs.apply_same] at *
  iapply (SparseCore.wp_indirectGatherLocal countersEmb 𝒱₀ (tV d L) none (hg := gathers_S50000x128_S512x128) (hsp := Or.inl rfl) (hr := by decide) (default : HIx 1)
      (rM).view.dmaCredit (row_credit _) (by decide) (fun x => by rw [hrd]; exact hin x)) $$ [Hx Hr Hs Hg]
  · isplitl [Hx]; · iexact Hx
    isplitl [Hr]; · iexact Hr
    isplitl [Hs]; · iexact Hs
    iexact Hg
  iintro Hfl
  iapply (Transfers.wp_waitLocalO countersEmb 𝒱₀ (tV d L) none (default : HIx 1) (rfl : (rM).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr, Hx, Hs⟩, Hg, HO⟩
  iapply (Transfers.wp_dmaLocal countersEmb 𝒱₀ (tV d L) none (src := rM) (dst := oS) (sm := .dma b) (default : HIx 1) _ rfl
    (View.dmaCredit_pos _ (by decide)) subset_rfl) $$ [Hr Ho Hb]
  · isplitl [Hr]; · iexact Hr
    isplitl [Ho]; · iexact Ho
    iexact Hb
  iintro Hfl
  iapply (Transfers.wp_waitLocalO countersEmb 𝒱₀ (tV d L) none (default : HIx 1) rfl) $$ [Hfl HO]
  · isplitl [Hfl]; · iexact Hfl
    isplitl [HO]; · iexact HO
    iapply (Transfers.MayWaits.elim (SemLoc.dma b)) $$ Hmw
  iintro ⟨⟨Ho, Hr⟩, Hb, HO⟩
  have hval : ∀ fr, ∀ i ∈ oS.view.set, oS.view.write (Elt F) fo ((rM).view.read (Elt F) ((rM).view.write (Elt F) fr
      (gathered d L iS fi fx hin) Finset.univ)) Finset.univ i = G i := by
    intro fr i hi
    obtain ⟨x, -, rfl⟩ := Finset.mem_map.mp hi
    rw [View.write_emb_of_mem _ _ (Finset.mem_univ x), View.read_write_univ, ← hG, View.read_apply, cast_cast, cast_eq]
  have hpay : SparseCore.gatherPayload (F := F) gathers_S50000x128_S512x128 ((xS).view.read (Elt F) fx)
      (SparseCore.rows (F := F) ((sM).view.read (Elt F) ((sM).view.write (Elt F) fs (iS.view.read (Elt F) fi) Finset.univ)) rfl
        (fun x => by rw [hrd]; exact hin x)) = gathered d L iS fi fx hin := by
    exact congrArg _ (rows_congr (hrd fs) _ _ _)
  sl_step
  isplitl [Hi]; · iexact Hi
  isplitl [Hx]; · iexact Hx
  isplitl [Ho]
  · iapply (Entails.of_eq (pointsTo_congr (hval fr)))
    rw [← hpay]; iexact Ho
  isplitl [Hs Hr]
  · isplitl [Hs]
    · iexists _; iexact Hs
    · iexists _; iexact Hr
  isplitl [Ha]; · iexact Ha
  isplitl [Hb]; · iexact Hb
  isplitl [Hg]; · iexact Hg
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Tile

end
-- ==== Proof.Tile.Body.lean ====
/-
  The tile's whole task: eight windows of each of the two arrays of row numbers, one after another.
-/
module

public import proofs.«01_k».proof.Proof.Tile.Window

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable (d : Dev nD) (L : grid1.Coords)

/-- Three different cells of a thread are among its own, each at zero, and the rest with them. -/
theorem ownSems0_three {thr : Thread nD τ} {a b g : SemLoc sig} (hab : a ≠ b) (hag : a ≠ g) (hbg : b ≠ g)
    (ha : (thr, a) ∈ ownCells (sig := sig) thr) (hb : (thr, b) ∈ ownCells (sig := sig) thr) (hg : (thr, g) ∈ ownCells (sig := sig) thr) :
    (ownSems0 thr : sProp 𝕄) = iprop(semVal (thr, a) 0 ∗ semVal (thr, b) 0 ∗ semVal (thr, g) 0
      ∗ bigSep ((((ownCells thr).erase (thr, a)).erase (thr, b)).erase (thr, g)) fun c => semVal c 0) := by
  unfold SparseCore.Cfg.ownSems0
  rw [SparseCore.bigSep_erase' ha,
    SparseCore.bigSep_erase' (Finset.mem_erase.mpr ⟨fun e => hab (Prod.mk.inj e).2.symm, hb⟩),
    SparseCore.bigSep_erase' (Finset.mem_erase.mpr ⟨fun e => hbg (Prod.mk.inj e).2.symm,
      Finset.mem_erase.mpr ⟨fun e => hag (Prod.mk.inj e).2.symm, hg⟩⟩)]

/-- Every copy semaphore of a tile is the tile's own. -/
theorem mem_own (a : DmaSem sig) : (tV d L, SemLoc.dma a) ∈ ownCells (sig := sig) (tV d L) :=
  mem_ownCells.mpr ⟨rfl, by revert a; show ∀ a : Fin 71, (SemLoc.dma (sig := sig) a).isScoped .scVector = true; decide⟩

variable [FloatOps F]

section Windows

variable (iM : Memref sig .scVector .hbm S131072 .i32) (oM : Memref sig .scVector .hbm S131072x128 .f32)

/-- Window `r` of the output while the windows `l` are still to run: at some contents if it is among them, else at
    what it is to hold. -/
def winState (G : Buf (Elt F) (oM.view.loc (tV d L))) (l : List (Fin 8)) (r : Fin 8) : sProp 𝕄 :=
  if r ∈ l then iprop(∃ f, (oWin oM L r).view.loc (tV d L) ↦[(oWin oM L r).view.set]{fullShare} f)
  else iprop((oWin oM L r).view.loc (tV d L) ↦[(oWin oM L r).view.set]{fullShare} G)

theorem winState_any (G : Buf (Elt F) (oM.view.loc (tV d L))) (l : List (Fin 8)) (r : Fin 8) :
    winState d L oM G l r ⊢ iprop(∃ f, (oWin oM L r).view.loc (tV d L) ↦[(oWin oM L r).view.set]{fullShare} f) := by
  unfold winState
  split
  · exact .rfl
  · iintro H; iexists _; iexact H

theorem winState_done (G : Buf (Elt F) (oM.view.loc (tV d L))) (l : List (Fin 8)) (r : Fin 8) :
    iprop((oWin oM L r).view.loc (tV d L) ↦[(oWin oM L r).view.set]{fullShare} G) ⊢ winState d L oM G l r := by
  unfold winState
  split
  · iintro H; iexists _; iexact H
  · exact .rfl

/-- The windows `l`, run in order, with any semaphores: all are left at `G`. -/
theorem wp_windows {O : CellTallies nD τ sig (HIx 1)} {q q' : PosShare TreeShare} (a b : Fin 8 → DmaSem sig)
    (hab : ∀ r, a r ≠ b r) (hag : ∀ r, a r ≠ cc1_scratch2.sem) (hbg : ∀ r, b r ≠ cc1_scratch2.sem)
    (fi : Buf (Elt F) (iM.view.loc (tV d L))) (fx : Buf (Elt F) ((xS).view.loc (tV d L))) (G : Buf (Elt F) (oM.view.loc (tV d L)))
    (hin : ∀ r x, ((iWin iM L r).view.read (Elt F) fi x).toNat < S50000x128.size gathers_S50000x128_S512x128.axis)
    (hG : ∀ r x, (oWin oM L r).view.read (Elt F) G x = gathered d L (iWin iM L r) fi fx (hin r) x) :
    ∀ (l : List (Fin 8)) (W : Waits sig (HIx 1)),
    iprop(Transfers.MayWaits (tV d L) (default : HIx 1) O ∗ (iM.view.loc (tV d L) ↦[iM.view.set]{q} fi)
        ∗ ((xS).view.loc (tV d L) ↦[(xS).view.set]{q'} fx) ∗ (bigSep Finset.univ (winState d L oM G l)) ∗ scratch d L
        ∗ ownSems0 (tV d L) ∗ owes (tV d L) O W)
      ⊢ wp frame (wpE (defs₀ (F := F)) 𝒱₀ (tV d L) none) Set.univ
          (runAll (l.map fun r => window L (iWin iM L r) (oWin oM L r) (a r) (b r)))
          fun _ => iprop((iM.view.loc (tV d L) ↦[iM.view.set]{q} fi)
            ∗ ((xS).view.loc (tV d L) ↦[(xS).view.set]{q'} fx) ∗ (bigSep Finset.univ (winState d L oM G [])) ∗ scratch d L
            ∗ ownSems0 (tV d L) ∗ ∃ W', ⌜∀ p ∈ W', p ∈ W ∨ p.2 = none⌝ ∗ owes (tV d L) O W')
  | [], W => by
    show _ ⊢ wp _ _ _ (Prog.ret PUnit.unit) _
    iintro ⟨-, Hi, Hx, Ho, Hs, Hc, HO⟩
    sl_step
    isplitl [Hi]; · iexact Hi
    isplitl [Hx]; · iexact Hx
    isplitl [Ho]; · iexact Ho
    isplitl [Hs]; · iexact Hs
    isplitl [Hc]; · iexact Hc
    iexists W; isplitr
    · ipureintro; exact fun p hp => .inl hp
    · iexact HO
  | r :: l, W => by
    have hrest : bigSep (Finset.univ.erase r) (winState d L oM G (r :: l)) = bigSep (Finset.univ.erase r) (winState d L oM G l) := by
      refine bigSep_congr fun r' hr' => ?_
      have hne : r' ≠ r := Finset.ne_of_mem_erase hr'
      simp only [winState, List.mem_cons, hne, _root_.false_or]
    have hown := ownSems0_three (F := F) (fun e => hab r (SemLoc.dma.inj e)) (fun e => hag r (SemLoc.dma.inj e)) (fun e => hbg r (SemLoc.dma.inj e))
        (mem_own d L (a r)) (mem_own d L (b r)) (mem_own d L cc1_scratch2.sem)
    show _ ⊢ wp _ _ _ (window L (iWin iM L r) (oWin oM L r) (a r) (b r) >>= fun _ => runAll (l.map _)) _
    rw [wp_bind, SparseCore.bigSep_erase' (Finset.mem_univ r), hrest,
      hown]
    iintro ⟨#Hmw, Hi, Hx, ⟨Hr, Ho⟩, Hs, ⟨Ha, Hb, Hg, Hc⟩, HO⟩
    ihave Hr' := (winState_any d L oM G (r :: l) r) $$ Hr
    icases Hr' with ⟨%fo, Hr⟩
    ihave Hi2 := (pointsTo_split_subset (ℓ := iM.view.loc (tV d L)) (q := q) (f := fi) (I := (iWin iM L r).view.set) (S := iM.view.set)
      (iM.view.set_slice_subset (Rect.unit (s := S131072) (k1_off1 L (BitVec.ofNat 32 (512 * r.val))) S512.size (k1_off1_inb L r)))).1 $$ Hi
    icases Hi2 with ⟨Hi, Hir⟩
    iapply (wp_wand_r frame (wpE (defs₀ (F := F)) 𝒱₀ (tV d L) none) Set.univ (Q := fun _ => iprop(((iWin iM L r).view.loc (tV d L) ↦[(iWin iM L r).view.set]{q} fi)
            ∗ ((xS).view.loc (tV d L) ↦[(xS).view.set]{q'} fx) ∗ ((oWin oM L r).view.loc (tV d L) ↦[(oWin oM L r).view.set]{fullShare} G) ∗ scratch d L
            ∗ semVal (tV d L, SemLoc.dma (a r)) 0 ∗ semVal (tV d L, SemLoc.dma (b r)) 0 ∗ semVal (tV d L, SemLoc.dma cc1_scratch2.sem) 0
            ∗ ∃ W', ⌜∀ p ∈ W', p ∈ W ∨ p.2 = none⌝ ∗ owes (tV d L) O W')))
    isplitl [Hi Hx Hr Hs Ha Hb Hg HO]
    · iapply (wp_window d L (iWin iM L r) (oWin oM L r) (a r) (b r) fi fx fo G (hin r) (hG r))
      isplitr; · iexact Hmw
      isplitl [Hi]; · iexact Hi
      isplitl [Hx]; · iexact Hx
      isplitl [Hr]; · iexact Hr
      isplitl [Hs]; · iexact Hs
      isplitl [Ha]; · iexact Ha
      isplitl [Hb]; · iexact Hb
      isplitl [Hg]; · iexact Hg
      iexact HO
    iintro %_ ⟨Hi, Hx, Hr, Hs, Ha, Hb, Hg, %W', %hW', HO⟩
    ihave Hi := (pointsTo_split_subset (ℓ := iM.view.loc (tV d L)) (q := q) (f := fi) (I := (iWin iM L r).view.set) (S := iM.view.set)
      (iM.view.set_slice_subset (Rect.unit (s := S131072) (k1_off1 L (BitVec.ofNat 32 (512 * r.val))) S512.size (k1_off1_inb L r)))).2 $$ [Hi Hir]; · isplitl [Hi] <;> iassumption
    ihave Hr := (winState_done d L oM G l r) $$ Hr
    iapply (wp_wand_r frame (wpE (defs₀ (F := F)) 𝒱₀ (tV d L) none) Set.univ (Q := fun _ => iprop((iM.view.loc (tV d L) ↦[iM.view.set]{q} fi)
            ∗ ((xS).view.loc (tV d L) ↦[(xS).view.set]{q'} fx) ∗ (bigSep Finset.univ (winState d L oM G [])) ∗ scratch d L
            ∗ ownSems0 (tV d L) ∗ ∃ W'', ⌜∀ p ∈ W'', p ∈ W' ∨ p.2 = none⌝ ∗ owes (tV d L) O W'')))
    isplitl
    · iapply (wp_windows a b hab hag hbg fi fx G hin hG l W')
      rw [SparseCore.bigSep_erase' (s := Finset.univ) (Finset.mem_univ r),
          hown]
      isplitr; · iexact Hmw
      isplitl [Hi]; · iexact Hi
      isplitl [Hx]; · iexact Hx
      isplitl [Hr Ho]; · isplitl [Hr] <;> iassumption
      isplitl [Hs]; · iexact Hs
      isplitl [Ha Hb Hg Hc]
      · isplitl [Ha]; · iexact Ha
        isplitl [Hb]; · iexact Hb
        isplitl [Hg]; · iexact Hg
        iexact Hc
      iexact HO
    iintro %_ ⟨Hi, Hx, Ho, Hs, Hc, %W'', %hW'', HO⟩
    isplitl [Hi]; · iexact Hi
    isplitl [Hx]; · iexact Hx
    isplitl [Ho]; · iexact Ho
    isplitl [Hs]; · iexact Hs
    isplitl [Hc]; · iapply (Entails.of_eq hown); iexact Hc
    iexists W''; isplitr
    · ipureintro; exact fun p hp => (hW'' p hp).elim (hW' p) .inr
    · iexact HO

end Windows

end Cert.Proof.Tile

end
-- ==== Proof.Tile.Rows.lean ====
/-
  The rows of a table that a list of row numbers names, and that this is what the windows of a tile read and leave.
-/
module

public import proofs.«01_k».proof.Proof.Tile.Body

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The place of row `r`, lane `c` of the table, and of row `e`, lane `c` of the rows named. -/
def tIx (r : Fin 50000) (c : Fin 128) : S50000x128.Idx := fun | 0 => r | 1 => c
def eIx (e : Fin 131072) : S131072.Idx := fun | 0 => e

/-- A row number as a row of the table (a number out of range names the last row). -/
def rowNo (w : Elt F .i32) : Fin 50000 := ⟨min (BitVec.toNat w) 49999, by omega⟩

/-- Row `e` is the table's row of number `f e`. -/
def rowsOf (t : S50000x128.Idx → Elt F .f32) (f : S131072.Idx → Elt F .i32) : S131072x128.Idx → Elt F .f32 :=
  fun x => t (tIx (rowNo (F := F) (f (eIx (x 0)))) (x 1))

variable (d : Dev nD) (L : grid1.Coords)

theorem xS_read (fx : Buf (Elt F) ((xS).view.loc (tV d L))) : (xS).view.read (Elt F) fx = (xM).view.read (Elt F) fx := by
  funext x
  refine congrArg ((xM).view.read (Elt F) fx) (funext fun a => Fin.ext ?_)
  show (![0, 0] : Fin 2 → ℕ) a + 1 * (x a).val = _
  match a with
  | 0 => simp
  | 1 => simp

/-- Window `r` of the named rows is what the gather of window `r` of the row numbers brings. -/
theorem window_rows (iM : Memref sig .scVector .hbm S131072 .i32) (oM : Memref sig .scVector .hbm S131072x128 .f32)
    (fi : Buf (Elt F) (iM.view.loc (tV d L))) (fx : Buf (Elt F) ((xS).view.loc (tV d L))) (G : Buf (Elt F) (oM.view.loc (tV d L)))
    (hG : oM.view.read (Elt F) G = rowsOf ((xM).view.read (Elt F) fx) (iM.view.read (Elt F) fi))
    (r : Fin 8) (hin : ∀ x, ((iWin iM L r).view.read (Elt F) fi x).toNat < S50000x128.size gathers_S50000x128_S512x128.axis) (x : S512x128.Idx) :
    (oWin oM L r).view.read (Elt F) G x = gathered d L (iWin iM L r) fi fx hin x := by
  show oM.view.read (Elt F) G ((Rect.unit (s := S131072x128) (k1_off2 L (BitVec.ofNat 32 (512 * r.val))) S512x128.size (k1_off2_inb L r)).emb x) = _
  rw [hG]
  unfold gathered SparseCore.gatherPayload rowsOf
  rw [xS_read]
  have hix : ∀ k : Fin 512, k = x 0 → (Rect.unit (s := S131072) (k1_off1 L (BitVec.ofNat 32 (512 * r.val))) S512.size (k1_off1_inb L r)).emb (S512.rowMajor.symm k)
      = eIx ((Rect.unit (s := S131072x128) (k1_off2 L (BitVec.ofNat 32 (512 * r.val))) S512x128.size (k1_off2_inb L r)).emb x 0) := by
    intro k hk
    funext a
    match a with
    | 0 =>
      refine Fin.ext ?_
      show k1_off1 L (BitVec.ofNat 32 (512 * r.val)) 0 + 1 * (S512.rowMajor.symm k 0).val = k1_off2 L (BitVec.ofNat 32 (512 * r.val)) 0 + 1 * (x 0).val
      have h1 : (S512.rowMajor.symm k 0).val = k.val := by
        have := Shape.rowMajor_val_one (S512.rowMajor.symm k)
        rw [← this]; exact congrArg Fin.val (S512.rowMajor.apply_symm_apply k)
      rw [k1_off1_eq, k1_off2_eq, h1, hk]; rfl
  refine congrArg ((xM).view.read (Elt F) fx) (funext fun a => Fin.ext ?_)
  match a with
  | 0 =>
    refine Eq.trans ?_ (congrArg Fin.val (Shape.Gathers.idx_axis gathers_S50000x128_S512x128 _ x)).symm
    have hk := hix (Fin.cast rfl (x 0)) rfl
    have hlt := hin (S512.rowMajor.symm (Fin.cast rfl (x 0)))
    have hval : (iWin iM L r).view.read (Elt F) fi (S512.rowMajor.symm (Fin.cast rfl (x 0)))
        = iM.view.read (Elt F) fi (eIx ((Rect.unit (s := S131072x128) (k1_off2 L (BitVec.ofNat 32 (512 * r.val))) S512x128.size (k1_off2_inb L r)).emb x 0)) :=
      congrArg (iM.view.read (Elt F) fi) hk
    rw [hval] at hlt
    refine (Nat.min_eq_left (Nat.le_of_lt_succ hlt)).trans ?_
    rw [← hval]; rfl
  | 1 =>
    refine Eq.trans ?_ (Shape.Gathers.idx_of_ne gathers_S50000x128_S512x128 _ x (b := 1) (by decide)).symm
    show k1_off2 L (BitVec.ofNat 32 (512 * r.val)) 1 + 1 * (x 1).val = (x 1).val
    rw [k1_off2_eq]; simp

end Cert.Proof.Tile

end
-- ==== Proof.Tile.Task.lean ====
/-
  What the launch hands a tile and takes back, and the tile's task from the one to the other.
-/
module

public import proofs.«01_k».proof.Proof.Tile.Rows

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The arrays -/

abbrev sR : Ref sig .tc := main_arg9
abbrev tR : Ref sig .tc := main_arg10
abbrev xR : Ref sig .tc := main_arg1
abbrev oR : Ref sig .tc := main_v27_0
abbrev pR : Ref sig .tc := main_v27_1

abbrev sLoc (d : Dev nD) : Loc nD τ sig := (SparseCore.T d).loc sR
abbrev tLoc (d : Dev nD) : Loc nD τ sig := (SparseCore.T d).loc tR
abbrev xLoc (d : Dev nD) : Loc nD τ sig := (SparseCore.T d).loc xR
abbrev oLoc (d : Dev nD) : Loc nD τ sig := (SparseCore.T d).loc oR
abbrev pLoc (d : Dev nD) : Loc nD τ sig := (SparseCore.T d).loc pR

abbrev sV : Memref sig .scVector .hbm S131072 .i32 := Memref.whole main_arg9_scv
abbrev tV' : Memref sig .scVector .hbm S131072 .i32 := Memref.whole main_arg10_scv
abbrev oV : Memref sig .scVector .hbm S131072x128 .f32 := Memref.whole main_v27_0_scv
abbrev pV : Memref sig .scVector .hbm S131072x128 .f32 := Memref.whole main_v27_1_scv

/-- The tile on core `c`, subcore `i`. -/
def at' (c : Fin 2) (i : Fin 16) : grid1.Coords :=
  fun | 0 => c | 1 => i | ⟨_ + 2, h⟩ => absurd h (Nat.not_lt.2 (Nat.le_add_left _ _))

/-- A tile's share of an array all tiles read: the whole halved between the cores, each half cut in sixteen. -/
def share (c : Fin 2) (i : Fin 16) : PosShare TreeShare := pieceOf (pieceOf fullShare 2 (by decide) c) 16 (by decide) i

/-- The elements of window `r` of tile `(c, i)` in an array of rows. -/
abbrev winSet (t : Fin 2 × Fin 16 × Fin 8) : Finset S131072x128.Idx :=
  (Rect.unit (s := S131072x128) (k1_off2 (at' t.1 t.2.1) (BitVec.ofNat 32 (512 * t.2.2.val))) S512x128.size (k1_off2_inb (at' t.1 t.2.1) t.2.2)).set

/-! ## What the handshakes carry -/

variable (X : (d : Dev nD) → Buf (Elt F) (xLoc d)) (S : (d : Dev nD) → Buf (Elt F) (sLoc d)) (R : (d : Dev nD) → Buf (Elt F) (tLoc d))

/-- The table and the two arrays of row numbers, at a tile's share. -/
def reads (d : Dev nD) (q : PosShare TreeShare) : sProp 𝕄 :=
  iprop((xLoc d ↦{q} X d) ∗ (sLoc d ↦{q} S d) ∗ tLoc d ↦{q} R d)

/-- The rows a list names, as the contents of an output. -/
def rowsO (d : Dev nD) : Buf (Elt F) (oLoc d) := rowsOf (F := F) (X d) (S d)
def rowsP (d : Dev nD) : Buf (Elt F) (pLoc d) := rowsOf (F := F) (X d) (R d)

def goT (d : Dev nD) (c : Fin 2) (i : Fin 16) : sProp 𝕄 :=
  iprop(reads X S R d (share c i) ∗ (bigSep Finset.univ fun r : Fin 8 => iprop(∃ f, oLoc d ↦[winSet (c, i, r)]{fullShare} f))
    ∗ bigSep Finset.univ fun r : Fin 8 => iprop(∃ f, pLoc d ↦[winSet (c, i, r)]{fullShare} f))
def tdT (d : Dev nD) (c : Fin 2) (i : Fin 16) : sProp 𝕄 :=
  iprop(reads X S R d (share c i) ∗ (bigSep Finset.univ fun r : Fin 8 => iprop(oLoc d ↦[winSet (c, i, r)]{fullShare} rowsO X S d))
    ∗ bigSep Finset.univ fun r : Fin 8 => iprop(pLoc d ↦[winSet (c, i, r)]{fullShare} rowsP X R d))

theorem nSub_zero : (K (F := F)).nSub 0 = 16 := rfl
theorem nCore_zero : (K (F := F)).nCore 0 = 2 := rfl

/-- The call takes, for each core, what its sixteen tiles take, and gives back what they give. -/
def P : (K (F := F)).Pay (nD := nD) (Val := Elt F) (Name := ℕ) (U := UU) where
  st := fun q d c => match q with | 0 => bigSep Finset.univ fun i : Fin 16 => goT X S R d (Fin.cast nCore_zero c) i
  dn := fun q d c => match q with | 0 => bigSep Finset.univ fun i : Fin 16 => tdT X S R d (Fin.cast nCore_zero c) i
  go := fun q d c i => match q with | 0 => goT X S R d (Fin.cast nCore_zero c) (Fin.cast nSub_zero i)
  td := fun q d c i => match q with | 0 => tdT X S R d (Fin.cast nCore_zero c) (Fin.cast nSub_zero i)
  x := fun _ _ => iprop(emp)

instance goT_storable (d : Dev nD) (c : Fin 2) (i : Fin 16) : BI.Storable (upEmb : UEmb _ 𝕄) (goT X S R d c i) := by
  unfold goT reads; infer_instance
instance tdT_storable (d : Dev nD) (c : Fin 2) (i : Fin 16) : BI.Storable (upEmb : UEmb _ 𝕄) (tdT X S R d c i) := by
  unfold tdT reads; infer_instance

instance P_storable : (P X S R).IsStorable where
  st q d c := match q with | 0 => (inferInstance : BI.Storable (upEmb : UEmb _ 𝕄) (bigSep Finset.univ fun i : Fin 16 => goT X S R d (Fin.cast nCore_zero c) i))
  dn q d c := match q with | 0 => (inferInstance : BI.Storable (upEmb : UEmb _ 𝕄) (bigSep Finset.univ fun i : Fin 16 => tdT X S R d (Fin.cast nCore_zero c) i))
  go q d c i := match q with | 0 => goT_storable X S R d _ _
  td q d c i := match q with | 0 => tdT_storable X S R d _ _

theorem vecSplit : (K (F := F)).VecSplit' (P X S R) 0 := by
  intro d c
  show (bigSep Finset.univ fun i : Fin 16 => goT X S R d (Fin.cast nCore_zero c) i) ⊢ |={Set.univ}=> iprop(
      (bigSep Finset.univ fun i : Fin 16 => goT X S R d (Fin.cast nCore_zero c) i)
      ∗ ((bigSep Finset.univ fun i : Fin 16 => tdT X S R d (Fin.cast nCore_zero c) i) -∗ bigSep Finset.univ fun i : Fin 16 => tdT X S R d (Fin.cast nCore_zero c) i))
  iintro H; imodintro
  isplitl [H]; · iexact H
  iintro H; iexact H

/-! ## The task -/

/-- Every row number is a row of the table. -/
def InRange : Prop := ∀ d, (∀ e, (S d e).toNat < 50000) ∧ ∀ e, (R d e).toNat < 50000

/-- The tile's two scratch buffers are among its own buffers. -/
theorem ownBufs_V (d : Dev nD) (L : grid1.Coords) :
    (ownBufs (tV d L) : sProp 𝕄)
      = iprop((∃ f, (tV d L).loc cc1_scratch0 ↦{fullShare} f) ∗ (∃ f, (tV d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]

theorem semA_ne_semB (k : Fin 16) : semA k ≠ semB k := by revert k; decide
theorem semA_ne_gather (k : Fin 16) : semA k ≠ cc1_scratch2.sem := by revert k; decide
theorem semB_ne_gather (k : Fin 16) : semB k ≠ cc1_scratch2.sem := by revert k; decide

section Run

variable (d : Dev nD) (L : grid1.Coords)

/-- The eight windows of one array, from its row numbers and the table whole (at shares). -/
theorem wp_half {O : CellTallies nD τ sig (HIx 1)} {W : Waits sig (HIx 1)} {q : PosShare TreeShare} (h : Fin 2)
    (oM : Memref sig .scVector .hbm S131072x128 .f32)
    (iM : Memref sig .scVector .hbm S131072 .i32) (hi : iM.view.set = Finset.univ)
    (fi : Buf (Elt F) (iM.view.loc (tV d L))) (fx : Buf (Elt F) ((xM).view.loc (tV d L))) (G : Buf (Elt F) (oM.view.loc (tV d L)))
    (hin : ∀ e, (iM.view.read (Elt F) fi e).toNat < 50000)
    (hG : oM.view.read (Elt F) G = rowsOf ((xM).view.read (Elt F) fx) (iM.view.read (Elt F) fi)) :
    iprop(Transfers.MayWaits (tV d L) (default : HIx 1) O ∗ (iM.view.loc (tV d L) ↦{q} fi) ∗ ((xM).view.loc (tV d L) ↦{q} fx)
        ∗ (bigSep Finset.univ fun r : Fin 8 => iprop(∃ f, oM.view.loc (tV d L) ↦[(oWin oM L r).view.set]{fullShare} f))
        ∗ scratch d L ∗ ownSems0 (tV d L) ∗ owes (tV d L) O W)
      ⊢ wp frame (wpE (defs₀ (F := F)) 𝒱₀ (tV d L) none) Set.univ (half L iM oM h)
          fun _ => iprop((iM.view.loc (tV d L) ↦{q} fi) ∗ ((xM).view.loc (tV d L) ↦{q} fx)
            ∗ (bigSep Finset.univ fun r : Fin 8 => iprop(oM.view.loc (tV d L) ↦[(oWin oM L r).view.set]{fullShare} G))
            ∗ scratch d L ∗ ownSems0 (tV d L) ∗ ∃ W', ⌜∀ p ∈ W', p ∈ W ∨ p.2 = none⌝ ∗ owes (tV d L) O W') := by
  have hw := wp_windows d L iM oM (O := O) (q := q) (q' := q) (fun r => semA ⟨8 * h.val + r.val, by omega⟩) (fun r => semB ⟨8 * h.val + r.val, by omega⟩)
    (fun r => semA_ne_semB _) (fun r => semA_ne_gather _) (fun r => semB_ne_gather _) fi fx G (fun r x => hin _)
    (fun r x => window_rows d L iM oM fi fx G hG r _ x) (List.finRange 8) W
  have hx : (xS).view.set = Finset.univ := by
    refine Finset.eq_univ_of_forall fun y => Finset.mem_map.mpr ⟨y, Finset.mem_univ _, funext fun a => Fin.ext ?_⟩
    show (![0, 0] : Fin 2 → ℕ) a + 1 * (y a).val = (y a).val
    match a with
    | 0 => simp
    | 1 => simp
  have hall : (bigSep Finset.univ fun r : Fin 8 => iprop(∃ f, oM.view.loc (tV d L) ↦[(oWin oM L r).view.set]{fullShare} f) : sProp 𝕄)
      = bigSep Finset.univ (winState d L oM G (List.finRange 8)) :=
    bigSep_congr fun r _ => by unfold winState; rw [if_pos (List.mem_finRange r)]
  have hnone : (bigSep Finset.univ fun r : Fin 8 => iprop(oM.view.loc (tV d L) ↦[(oWin oM L r).view.set]{fullShare} G) : sProp 𝕄)
      = bigSep Finset.univ (winState d L oM G []) :=
    bigSep_congr fun r _ => by unfold winState; rw [if_neg List.not_mem_nil]
  rw [hi, hx] at hw
  rw [hall, hnone]
  exact hw

theorem pts_out (f : Buf (Elt F) (oLoc d)) (c : Fin 2) (i : Fin 16) (r : Fin 8) :
    (oLoc d ↦[winSet (c, i, r)]{fullShare} f : sProp 𝕄) = ((oV).view.loc (tV d (at' c i)) ↦[(oWin oV (at' c i) r).view.set]{fullShare} f) := by
  have h : (oWin oV (at' c i) r).view.set = winSet (c, i, r) := View.set_slice_whole _ _
  rw [h]
theorem pts_out' (f : Buf (Elt F) (pLoc d)) (c : Fin 2) (i : Fin 16) (r : Fin 8) :
    (pLoc d ↦[winSet (c, i, r)]{fullShare} f : sProp 𝕄) = ((pV).view.loc (tV d (at' c i)) ↦[(oWin pV (at' c i) r).view.set]{fullShare} f) := by
  have h : (oWin pV (at' c i) r).view.set = winSet (c, i, r) := View.set_slice_whole _ _
  rw [h]

end Run

/-- The task of tile `(c, i)`: from its shares of the table and of the row numbers and its windows of the outputs, to
    the same with the windows holding the rows named. -/
theorem tile_task (hR : InRange S R) (d : Dev nD) (c : Fin 2) (i : Fin 16) (O : CellTallies nD τ sig (HIx 1)) (W : Waits sig (HIx 1))
    (hO : ∀ g, O g none = 0) :
    iprop(levAts (K (F := F)).L (K (F := F)).lev ∗ emp ∗ goT X S R d c i
        ∗ scopedBufs (tV d (at' c i)) ∗ scopedSems0 (tV d (at' c i)) ∗ owes (tV d (at' c i)) O W)
      ⊢ wp frame (wpE (defs₀ (F := F)) 𝒱₀ (tV d (at' c i)) none) Set.univ (do half (at' c i) sV oV 0; half (at' c i) tV' pV 1)
          fun _ => iprop(tdT X S R d c i ∗ scopedBufs (tV d (at' c i)) ∗ scopedSems0 (tV d (at' c i))
            ∗ ∃ W', ⌜∀ p ∈ W', p ∈ W ∨ p.2 = none⌝ ∗ owes (tV d (at' c i)) O W') := by
  rw [(K (F := F)).scopedBufs_V kFacts d (cV (at' c i)) (jV (at' c i)), SparseCore.Cfg.scopedSems0_V (Val := Elt F) d (cV (at' c i)) (jV (at' c i)), ownBufs_V]
  unfold goT tdT reads
  rw [wp_bind]
  have eo : ∀ r : Fin 8, ∀ f : Buf (Elt F) (oLoc d), (oLoc d ↦[winSet (c, i, r)]{fullShare} f : sProp 𝕄) = _ := fun r f => pts_out d f c i r
  have ep : ∀ r : Fin 8, ∀ f : Buf (Elt F) (pLoc d), (pLoc d ↦[winSet (c, i, r)]{fullShare} f : sProp 𝕄) = _ := fun r f => pts_out' d f c i r
  simp only [eo, ep]
  iintro ⟨#Hlv, -, ⟨⟨Hx, Hs, Ht⟩, Ho, Hp⟩, ⟨⟨%fs, Hb⟩, ⟨%fr, Hr⟩, Hbufs⟩, Hsems, HO⟩
  ihave Hmw := (show levAts (K (F := F)).L (K (F := F)).lev ⊢ Transfers.MayWaits (tV d (at' c i)) (default : HIx 1) O from
    (K (F := F)).mayWaits_none (thr := tV d (at' c i)) hO) $$ Hlv
  icases Hmw with #Hmw
  have hs1 : (sM).view.set = Finset.univ := View.set_whole _
  have hr1 : (rM).view.set = Finset.univ := View.set_whole _
  have hscr : (scratch d (at' c i) : sProp 𝕄) = iprop((∃ f, (tV d (at' c i)).loc cc1_scratch0 ↦{fullShare} f) ∗ ∃ f, (tV d (at' c i)).loc cc1_scratch1 ↦{fullShare} f) := by
    unfold scratch; rw [hs1, hr1]
  iapply (wp_wand_r frame (wpE (defs₀ (F := F)) 𝒱₀ (tV d (at' c i)) none) Set.univ)
  isplitl [Hx Hs Ho Hb Hr Hsems HO]
  · iapply (wp_half d (at' c i) (O := O) (W := W) (q := share c i) 0 oV sV (View.set_whole _) (S d) (X d) (rowsO X S d) (hR d).1 rfl)
    isplitr; · iexact Hmw
    isplitl [Hs]; · iexact Hs
    isplitl [Hx]; · iexact Hx
    isplitl [Ho]; · iexact Ho
    isplitl [Hb Hr]
    · iapply (Entails.of_eq hscr.symm)
      isplitl [Hb]
      · iexists _; iexact Hb
      · iexists _; iexact Hr
    isplitl [Hsems] <;> iassumption
  iintro %_ ⟨Hs, Hx, Ho, Hscr, Hsems, %W', %hW', HO⟩
  iapply (wp_wand_r frame (wpE (defs₀ (F := F)) 𝒱₀ (tV d (at' c i)) none) Set.univ)
  isplitl [Hx Ht Hp Hscr Hsems HO]
  · iapply (wp_half d (at' c i) (O := O) (W := W') (q := share c i) 1 pV tV' (View.set_whole _) (R d) (X d) (rowsP X R d) (hR d).2 rfl)
    isplitr; · iexact Hmw
    isplitl [Ht]; · iexact Ht
    isplitl [Hx]; · iexact Hx
    isplitl [Hp]; · iexact Hp
    isplitl [Hscr]; · iexact Hscr
    isplitl [Hsems] <;> iassumption
  iintro %_ ⟨Ht, Hx, Hp, Hscr, Hsems, %W'', %hW'', HO⟩
  ihave Hscr := (Entails.of_eq hscr) $$ Hscr
  icases Hscr with ⟨Hb, Hr⟩
  isplitl [Hx Hs Ht Ho Hp]
  · isplitl [Hx Hs Ht]
    · isplitl [Hx]; · iexact Hx
      isplitl [Hs] <;> iassumption
    isplitl [Ho] <;> iassumption
  isplitl [Hb Hr Hbufs]
  · isplitl [Hb]; · iexact Hb
    isplitl [Hr] <;> iassumption
  isplitl [Hsems]; · iexact Hsems
  iexists W''; isplitr
  · ipureintro; exact fun p hp => (hW'' p hp).elim (hW' p) .inr
  · iexact HO

/-! ## The obligation of the launch -/

theorem defs₀_vector (c : Fin τ.nSC) (s : Fin τ.nSub) :
    defs₀ (F := F) (.scVector c s) 1 ()
      = SparseCore.onTile hcore1 hsub1 (fun c s => do half (at' c s) sV oV 0; half (at' c s) tV' pV 1) ⟨⟩ c s := by
  show SparseCore.onTile hcore1 hsub1 (fun c s => cc1__gather_body (F := F) (at' c s) xM _ sV (Memref.isWhole_whole _) tV' (Memref.isWhole_whole _)
      oV (Memref.isWhole_whole _) pV (Memref.isWhole_whole _) _ _ _ _ _ _ _ _ _ _ _ _ _ _ _ _ _ _ _ _ _ _ _ _ _ _ _ _ _ _ _ _ _ _ _ _ _) ⟨⟩ c s = _
  simp only [body_eq]
  rfl

/-- A task's waits, as the launch counts them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hR : InRange S R) : (K (F := F)).TileObl (D (F := F)) 𝒱 (P X S R) v₀ 0 := by
  intro d c i O W hO _ _
  simp only [show (P X S R).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task X S R hR d (Fin.cast nCore_zero c) (Fin.cast nSub_zero i) O W hO).trans (wp_mono frame _ _ fun _ => obl_post)

end Cert.Proof.Tile

end
-- ==== Proof.Tile.Launch.lean ====
/-
  The gather call's arrays cut among the 32 tiles and joined again.
-/
module

public import proofs.«01_k».proof.Proof.Tile.Task

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The windows of an output are all of it, once each -/

theorem mem_winSet (t : Fin 2 × Fin 16 × Fin 8) (x : S131072x128.Idx) :
    x ∈ winSet t ↔ 512 * (16 * t.2.1.val + 8 * t.1.val + t.2.2.val) ≤ (x 0).val ∧ (x 0).val < 512 * (16 * t.2.1.val + 8 * t.1.val + t.2.2.val) + 512 := by
  rw [winSet, Rect.mem_set_unit]
  have h0 : k1_off2 (at' t.1 t.2.1) (BitVec.ofNat 32 (512 * t.2.2.val)) 0 = 512 * (16 * t.2.1.val + 8 * t.1.val + t.2.2.val) := by
    rw [k1_off2_eq]
    show 8192 * t.2.1.val + 4096 * t.1.val + 512 * t.2.2.val = _
    omega
  have h1 : k1_off2 (at' t.1 t.2.1) (BitVec.ofNat 32 (512 * t.2.2.val)) 1 = 0 := by rw [k1_off2_eq]; rfl
  constructor
  · intro h
    have := h 0
    rw [h0] at this
    exact this
  · intro h a
    match a with
    | 0 => rw [h0]; exact h
    | 1 => rw [h1]; exact ⟨Nat.zero_le _, by have := (x 1).isLt; simpa using this⟩

theorem wins_disjoint : ∀ t ∈ (Finset.univ : Finset (Fin 2 × Fin 16 × Fin 8)), ∀ t' ∈ (Finset.univ : Finset (Fin 2 × Fin 16 × Fin 8)), t ≠ t' → Disjoint (winSet t) (winSet t') := by
  intro t _ t' _ hne
  refine Finset.disjoint_left.mpr fun x h h' => hne ?_
  rw [mem_winSet] at h h'
  obtain ⟨c, i, r⟩ := t; obtain ⟨c', i', r'⟩ := t'
  simp only at h h'
  have := c.isLt; have := c'.isLt; have := r.isLt; have := r'.isLt
  exact Prod.ext (Fin.ext (by simp only; omega)) (Prod.ext (Fin.ext (by simp only; omega)) (Fin.ext (by simp only; omega)))

theorem wins_cover : (Finset.univ : Finset (Fin 2 × Fin 16 × Fin 8)).biUnion winSet = Finset.univ := by
  refine Finset.eq_univ_of_forall fun x => Finset.mem_biUnion.mpr ?_
  have hx : (x 0).val < 131072 := (x 0).isLt
  refine ⟨(⟨((x 0).val / 4096) % 2, by omega⟩, ⟨(x 0).val / 8192, by omega⟩, ⟨((x 0).val / 512) % 8, by omega⟩), Finset.mem_univ _, (mem_winSet _ x).mpr ?_⟩
  simp only
  omega

theorem bigSep_triple (Φ : Fin 2 × Fin 16 × Fin 8 → sProp 𝕄) :
    (bigSep Finset.univ Φ) = bigSep Finset.univ fun c => bigSep Finset.univ fun i => bigSep Finset.univ fun r => Φ (c, i, r) := by
  rw [bigSep_univ_prod]; exact bigSep_congr fun c _ => bigSep_univ_prod _

/-- An output whole is its 256 windows. -/
theorem out_windows (d : Dev nD) (f : Buf (Elt F) (oLoc d)) :
    (oLoc d ↦{fullShare} f : sProp 𝕄) = bigSep Finset.univ fun c : Fin 2 => bigSep Finset.univ fun i : Fin 16 => bigSep Finset.univ fun r : Fin 8 => oLoc d ↦[winSet (c, i, r)]{fullShare} f := by
  rw [← bigSep_triple (fun t => (oLoc d ↦[winSet t]{fullShare} f : sProp 𝕄)), ← pointsTo_biUnion Finset.univ (ℓ := oLoc d) winSet wins_disjoint, wins_cover]
theorem out_windows' (d : Dev nD) (f : Buf (Elt F) (pLoc d)) :
    (pLoc d ↦{fullShare} f : sProp 𝕄) = bigSep Finset.univ fun c : Fin 2 => bigSep Finset.univ fun i : Fin 16 => bigSep Finset.univ fun r : Fin 8 => pLoc d ↦[winSet (c, i, r)]{fullShare} f := by
  rw [← bigSep_triple (fun t => (pLoc d ↦[winSet t]{fullShare} f : sProp 𝕄)), ← pointsTo_biUnion Finset.univ (ℓ := pLoc d) winSet wins_disjoint, wins_cover]

/-- An array whole is its 32 shares. -/
theorem shares {ℓ : Loc nD τ sig} (f : Buf (Elt F) ℓ) :
    (ℓ ↦{fullShare} f : sProp 𝕄) = bigSep Finset.univ fun c : Fin 2 => bigSep Finset.univ fun i : Fin 16 => ℓ ↦{share c i} f := by
  rw [pointsTo_piecesOf Finset.univ f (o := 2) (by decide) fullShare]
  exact bigSep_congr fun c _ => pointsTo_piecesOf Finset.univ f (o := 16) (by decide) _

variable (X : (d : Dev nD) → Buf (Elt F) (xLoc d)) (S : (d : Dev nD) → Buf (Elt F) (sLoc d)) (R : (d : Dev nD) → Buf (Elt F) (tLoc d))

/-- What the call takes of the whole arrays. -/
theorem st_of_arrays (d : Dev nD) :
    iprop(((xLoc d ↦{fullShare} X d) ∗ (sLoc d ↦{fullShare} S d) ∗ tLoc d ↦{fullShare} R d) ∗ (∃ f, oLoc d ↦{fullShare} f) ∗ ∃ f, pLoc d ↦{fullShare} f)
      ⊢ (bigSep Finset.univ fun c : Fin ((K (F := F)).nCore 0) => (P X S R).st 0 d c) := by
  show _ ⊢ bigSep Finset.univ fun c : Fin 2 => bigSep Finset.univ fun i : Fin 16 => goT X S R d c i
  unfold goT reads
  simp only [bigSep_sep']
  rw [shares (X d), shares (S d), shares (R d)]
  iintro ⟨H, ⟨%f, Ho⟩, ⟨%g, Hp⟩⟩
  isplitl [H]; · iexact H
  isplitl [Ho]
  · have h : (oLoc d ↦{fullShare} f : sProp 𝕄) ⊢ bigSep Finset.univ fun c : Fin 2 => bigSep Finset.univ fun i : Fin 16 => bigSep Finset.univ fun r : Fin 8 => iprop(∃ f, oLoc d ↦[winSet (c, i, r)]{fullShare} f) := by
      rw [out_windows]
      refine bigSep_mono fun c _ => bigSep_mono fun i _ => bigSep_mono fun r _ => ?_
      show (oLoc d ↦[winSet (c, i, r)]{fullShare} f : sProp 𝕄) ⊢ iprop(∃ f, oLoc d ↦[winSet (c, i, r)]{fullShare} f)
      iintro H; iexists f; iexact H
    iapply h; iexact Ho
  · have h : (pLoc d ↦{fullShare} g : sProp 𝕄) ⊢ bigSep Finset.univ fun c : Fin 2 => bigSep Finset.univ fun i : Fin 16 => bigSep Finset.univ fun r : Fin 8 => iprop(∃ f, pLoc d ↦[winSet (c, i, r)]{fullShare} f) := by
      rw [out_windows']
      refine bigSep_mono fun c _ => bigSep_mono fun i _ => bigSep_mono fun r _ => ?_
      show (pLoc d ↦[winSet (c, i, r)]{fullShare} g : sProp 𝕄) ⊢ iprop(∃ f, pLoc d ↦[winSet (c, i, r)]{fullShare} f)
      iintro H; iexists g; iexact H
    iapply h; iexact Hp

/-- What it gives back, as whole arrays: the outputs hold the rows the lists name. -/
theorem arrays_of_dn (d : Dev nD) :
    (bigSep Finset.univ fun c : Fin ((K (F := F)).nCore 0) => (P X S R).dn 0 d c)
      ⊢ iprop(((xLoc d ↦{fullShare} X d) ∗ (sLoc d ↦{fullShare} S d) ∗ tLoc d ↦{fullShare} R d) ∗ (oLoc d ↦{fullShare} rowsO X S d) ∗ pLoc d ↦{fullShare} rowsP X R d) := by
  show (bigSep Finset.univ fun c : Fin 2 => bigSep Finset.univ fun i : Fin 16 => tdT X S R d c i) ⊢ _
  unfold tdT reads
  simp only [bigSep_sep']
  rw [shares (X d), shares (S d), shares (R d), out_windows, out_windows']

/-- Holding an array whole, the memory holds its contents. -/
theorem agree {ℓ : Loc nD τ sig} (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h1, HSI, -⟩
  isplitr
  · ipureintro; exact funext fun i => h1 i (Finset.mem_univ i)
  · iexact HSI

end Cert.Proof.Tile

end
-- ==== Proof.Region.Prep.lean ====
/-
  The preparation call: the two tables of relation terms, from the two lists of relations and four blocks of weights.
  What its body leaves in each result's buffer, the proof data of its pipeline, and the body's obligation.
-/
module

public import proofs.«01_k».proof.Proof.Tile.Base
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.Proof.Prep

open Cert.KernelIdeal Cert.KernelIdeal.Gen Cert.Proof.Tile

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef)

variable {F : FTy → Type} [FloatOps F]

local notation "𝕄" => MT nD τ sig (HIx 1) (Elt F) ℕ UU ℕ

/-! ## The rectangles the body loads and stores: each buffer whole -/

abbrev rS64x128 : Rect S64x128 := Rect.unit (s := S64x128) ![0, 0] S64x128.size inb_S64x128_S64x128_0_0
abbrev rS128x512 : Rect S128x512 := Rect.unit (s := S128x512) ![0, 0] S128x512.size inb_S128x512_S128x512_0_0
abbrev rS64x512 : Rect S64x512 := Rect.unit (s := S64x512) ![0, 0] S64x512.size inb_S64x512_S64x512_0_0

/-! ## What the body leaves -/

/-- Result 0's buffer: the first table of relation terms, from what the body loads. -/
def out6 (x0 : Vec F S64x128 .f32) (x1 : Vec F S64x128 .f32) (x2 : Vec F S128x512 .bf16) (x3 : Vec F S128x512 .bf16) (x4 : Vec F S128x512 .bf16) (x5 : Vec F S128x512 .bf16) : Vec F S64x512 .f32 :=
  View.canon [⟨rS64x512, k0_pay3 (View.ld x0 rS64x128) (View.ld x1 rS64x128) (View.ld x2 rS128x512) (View.ld x3 rS128x512)⟩]

theorem cover6 (p : Vec F S64x512 .f32) (y : S64x512.Idx) :
    ∃ pc ∈ ([⟨rS64x512, p⟩] : List (View.Piece (Elt F) S64x512 .f32)), y ∈ pc.1.set :=
  View.cover_of_tiled [⟨rS64x512, p⟩] S64x512.size (by rfl) y

/-- Result 1's buffer: the second table of relation terms, from what the body loads. -/
def out7 (x0 : Vec F S64x128 .f32) (x1 : Vec F S64x128 .f32) (x2 : Vec F S128x512 .bf16) (x3 : Vec F S128x512 .bf16) (x4 : Vec F S128x512 .bf16) (x5 : Vec F S128x512 .bf16) : Vec F S64x512 .f32 :=
  View.canon [⟨rS64x512, k0_pay4 (View.ld x0 rS64x128) (View.ld x1 rS64x128) (View.ld x4 rS128x512) (View.ld x5 rS128x512)⟩]

theorem cover7 (p : Vec F S64x512 .f32) (y : S64x512.Idx) :
    ∃ pc ∈ ([⟨rS64x512, p⟩] : List (View.Piece (Elt F) S64x512 .f32)), y ∈ pc.1.set :=
  View.cover_of_tiled [⟨rS64x512, p⟩] S64x512.size (by rfl) y

set_option maxHeartbeats 1000000 in
/-- The body on whole buffers: it leaves what it loads as it was, and each result's buffer at `out`. -/
theorem body_spec (c : Dev nD) (E : Set ℕ) (a0 : Memref sig .tc .vmem S64x128 .f32) (h0 : a0.IsWhole) (a1 : Memref sig .tc .vmem S64x128 .f32) (h1 : a1.IsWhole) (a2 : Memref sig .tc .vmem S128x512 .bf16) (h2 : a2.IsWhole) (a3 : Memref sig .tc .vmem S128x512 .bf16) (h3 : a3.IsWhole) (a4 : Memref sig .tc .vmem S128x512 .bf16) (h4 : a4.IsWhole) (a5 : Memref sig .tc .vmem S128x512 .bf16) (h5 : a5.IsWhole) (a6 : Memref sig .tc .vmem S64x512 .f32) (h6 : a6.IsWhole) (a7 : Memref sig .tc .vmem S64x512 .f32) (h7 : a7.IsWhole)
    (x0 : Vec F S64x128 .f32) (x1 : Vec F S64x128 .f32) (x2 : Vec F S128x512 .bf16) (x3 : Vec F S128x512 .bf16) (x4 : Vec F S128x512 .bf16) (x5 : Vec F S128x512 .bf16) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6 x0 x1 x2 x3 x4 x5) ∗ owns (c : Thread nD τ) a7 fullShare (out7 x0 x1 x2 x3 x4 x5)) -∗ Q ⟨⟩))
      ⊢ wp frame (wpE (defs₀ (F := F)) Variants.none c none) E (cc0__prep_body a0 h0 a1 h1 a2 h2 a3 h3 a4 h4 a5 h5 a6 h6 a7 h7) Q := by
  simp only [cc0__prep_body_eq_skeleton]; unfold cc0__prep_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  iexists _; isplitr
  swap; · iexact H7
  ipureintro
  exact View.read_writes_eq_canon _ _ _ (cover7 _)

/-! ## The pipeline's proof data, from the contents `V` at its entry -/

variable (V : Valuation τ sig (Elt F)) (O : CellTallies nD τ sig (HIx 1)) (B : Set (SemLoc sig × HIx 1))

/-- Window `w`'s block at a point, read off the contents at entry. -/
def iblk (w : Fin cfg0.W) (t : Fin cfg0.N) : ((cfg0.win w).xblock (cfg0.grid.coords t)).Idx → Elt F (cfg0.win w).elt :=
  ((cfg0.win w).blk t).view.read (Elt F) (V (Proc.devRef .tc (arrRef spec0 w)))

/-- The arrays at the entry contents; a point's body leaves each operand's buffer at its block and each result's at
    `out` of the blocks; nothing else of the core's is touched; the core owes `O` throughout, its waits so far in `B`. -/
def dat (c : Dev nD) : Dat τ (Elt F) (HIx 1) ℕ UU ℕ cfg0 c where
  A w := V (Proc.devRef .tc (arrRef spec0 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => out6 (iblk V 0 t) (iblk V 1 t) (iblk V 2 t) (iblk V 3 t) (iblk V 4 t) (iblk V 5 t)
    | ⟨7, _⟩ => out7 (iblk V 0 t) (iblk V 1 t) (iblk V 2 t) (iblk V 3 t) (iblk V 4 t) (iblk V 5 t)
  Φ _ := Pipeline.scopedRest spec0 c
  q _ := fullShare
  owed _ := O
  recorded _ := B

theorem A_eq (c : Dev nD) (w : Fin cfg0.W) : (dat V O B c).A w = V (Proc.devRef .tc (arrRef spec0 w)) := by
  dsimp only [dat]

theorem after0 (c : Dev nD) (t : Fin cfg0.N) : (dat V O B c).after 0 t = iblk V 0 t := by dsimp only [dat]
theorem after1 (c : Dev nD) (t : Fin cfg0.N) : (dat V O B c).after 1 t = iblk V 1 t := by dsimp only [dat]
theorem after2 (c : Dev nD) (t : Fin cfg0.N) : (dat V O B c).after 2 t = iblk V 2 t := by dsimp only [dat]
theorem after3 (c : Dev nD) (t : Fin cfg0.N) : (dat V O B c).after 3 t = iblk V 3 t := by dsimp only [dat]
theorem after4 (c : Dev nD) (t : Fin cfg0.N) : (dat V O B c).after 4 t = iblk V 4 t := by dsimp only [dat]
theorem after5 (c : Dev nD) (t : Fin cfg0.N) : (dat V O B c).after 5 t = iblk V 5 t := by dsimp only [dat]
theorem after6 (c : Dev nD) (t : Fin cfg0.N) : (dat V O B c).after 6 t = out6 (iblk V 0 t) (iblk V 1 t) (iblk V 2 t) (iblk V 3 t) (iblk V 4 t) (iblk V 5 t) := by dsimp only [dat]
theorem after7 (c : Dev nD) (t : Fin cfg0.N) : (dat V O B c).after 7 t = out7 (iblk V 0 t) (iblk V 1 t) (iblk V 2 t) (iblk V 3 t) (iblk V 4 t) (iblk V 5 t) := by dsimp only [dat]

theorem before0 (c : Dev nD) (t : Fin cfg0.N) (d) : (dat V O B c).before 0 t d = iblk V 0 t :=
  ((dat V O B c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dat V O B c).before 1 t d = iblk V 1 t :=
  ((dat V O B c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dat V O B c).before 2 t d = iblk V 2 t :=
  ((dat V O B c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dat V O B c).before 3 t d = iblk V 3 t :=
  ((dat V O B c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dat V O B c).before 4 t d = iblk V 4 t :=
  ((dat V O B c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dat V O B c).before 5 t d = iblk V 5 t :=
  ((dat V O B c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body's obligation -/

/-- What the body is called with at a point. -/
def bodyPre (c : Dev nD) (t : Fin cfg0.N) : sProp 𝕄 :=
  iprop((dat V O B c).Φ t.castSucc ∗ (dat V O B c).owesAt none t.castSucc
    ∗ (∃ d, owns (c : Thread nD τ) (st0_0 t) fullShare ((dat V O B c).before 0 t d))
    ∗ (∃ d, owns (c : Thread nD τ) (st0_1 t) fullShare ((dat V O B c).before 1 t d))
    ∗ (∃ d, owns (c : Thread nD τ) (st0_2 t) fullShare ((dat V O B c).before 2 t d))
    ∗ (∃ d, owns (c : Thread nD τ) (st0_3 t) fullShare ((dat V O B c).before 3 t d))
    ∗ (∃ d, owns (c : Thread nD τ) (st0_4 t) fullShare ((dat V O B c).before 4 t d))
    ∗ (∃ d, owns (c : Thread nD τ) (st0_5 t) fullShare ((dat V O B c).before 5 t d))
    ∗ (∃ d, owns (c : Thread nD τ) (st0_6 t) fullShare ((dat V O B c).before 6 t d))
    ∗ (∃ d, owns (c : Thread nD τ) (st0_7 t) fullShare ((dat V O B c).before 7 t d)))

/-- What it returns. -/
def bodyPost (c : Dev nD) (t : Fin cfg0.N) : sProp 𝕄 :=
  iprop((dat V O B c).Φ t.succ ∗ (dat V O B c).owesAt none t.succ
    ∗ owns (c : Thread nD τ) (st0_0 t) fullShare ((dat V O B c).after 0 t)
    ∗ owns (c : Thread nD τ) (st0_1 t) fullShare ((dat V O B c).after 1 t)
    ∗ owns (c : Thread nD τ) (st0_2 t) fullShare ((dat V O B c).after 2 t)
    ∗ owns (c : Thread nD τ) (st0_3 t) fullShare ((dat V O B c).after 3 t)
    ∗ owns (c : Thread nD τ) (st0_4 t) fullShare ((dat V O B c).after 4 t)
    ∗ owns (c : Thread nD τ) (st0_5 t) fullShare ((dat V O B c).after 5 t)
    ∗ owns (c : Thread nD τ) (st0_6 t) fullShare ((dat V O B c).after 6 t)
    ∗ owns (c : Thread nD τ) (st0_7 t) fullShare ((dat V O B c).after 7 t))

theorem body_at (c : Dev nD) (t : Fin cfg0.N) :
    bodyPre V O B c t ⊢ wp frame (wpE (defs₀ (F := F)) Variants.none c none) Set.univ (bodyAt0 t) (fun _ => bodyPost V O B c t) := by
  unfold bodyPre bodyPost bodyAt0
  simp only [before0, before1, before2, before3, before4, before5]
  rw [show (dat V O B c).Φ t.succ = (dat V O B c).Φ t.castSucc from rfl,
    show (dat V O B c).owesAt none t.succ = (dat V O B c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_spec c Set.univ _ _ _ _ _ _ _ _ _ _ _ _ _ _ _ _ (iblk V 0 t) (iblk V 1 t) (iblk V 2 t) (iblk V 3 t) (iblk V 4 t) (iblk V 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  rfl

theorem obligation (c : Dev nD) : BodyObligation (dat (F := F) V O B c) (defs₀ (F := F)) Variants.none none Set.univ := fun t => by
  rw [bigSep_W0, bigSep_W0, defs₀_row]
  exact triple_restated (body_at V O B c t) rfl .rfl fun _ => .rfl

end Cert.Proof.Prep

end
-- ==== Proof.Region.Logits.lean ====
/-
  The call that scores the edges: 512 edges at each of its 256 points.
  What its body leaves in each result's buffer, the proof data of its pipeline, and the body's obligation.
-/
module

public import proofs.«01_k».proof.Proof.Tile.Base
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.Proof.Logits

open Cert.KernelIdeal Cert.KernelIdeal.Gen Cert.Proof.Tile

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef)

variable {F : FTy → Type} [FloatOps F]

local notation "𝕄" => MT nD τ sig (HIx 1) (Elt F) ℕ UU ℕ

/-! ## The rectangles the body loads and stores: each buffer whole -/

abbrev rS512x128 : Rect S512x128 := Rect.unit (s := S512x128) ![0, 0] S512x128.size inb_S512x128_S512x128_0_0
abbrev rS128x512 : Rect S128x512 := Rect.unit (s := S128x512) ![0, 0] S128x512.size inb_S128x512_S128x512_0_0
abbrev rS1x1x512 : Rect S1x1x512 := Rect.unit (s := S1x1x512) ![0, 0, 0] S1x1x512.size inb_S1x1x512_S1x1x512_0_0_0

/-! ## What the body leaves -/

/-- Result 0's buffer: the scores of the point's edges, from what the body loads. -/
def out9 (x0 : Vec F S512x128 .f32) (x1 : Vec F S512x128 .f32) (x2 : Vec F S512x128 .f32) (x3 : Vec F S128x512 .bf16) (x4 : Vec F S128x512 .bf16) (x5 : Vec F S128x512 .bf16) (x6 : Vec F S128x512 .bf16) (x7 : Vec F S1x1x512 .f32) (x8 : Vec F S1x1x512 .f32) : Vec F S1x1x512 .f32 :=
  View.canon [⟨rS1x1x512, k2_pay1 (k2_pay2 (View.ld x0 rS512x128) (View.ld x1 rS512x128) (View.ld x2 rS512x128) (View.ld x3 rS128x512) (View.ld x4 rS128x512) (View.ld x7 rS1x1x512) (View.ld x5 rS128x512) (View.ld x6 rS128x512) (View.ld x8 rS1x1x512))⟩]

theorem cover9 (p : Vec F S1x1x512 .f32) (y : S1x1x512.Idx) :
    ∃ pc ∈ ([⟨rS1x1x512, p⟩] : List (View.Piece (Elt F) S1x1x512 .f32)), y ∈ pc.1.set :=
  View.cover_of_tiled [⟨rS1x1x512, p⟩] S1x1x512.size (by rfl) y

set_option maxHeartbeats 1000000 in
/-- The body on whole buffers: it leaves what it loads as it was, and each result's buffer at `out`. -/
theorem body_spec (c : Dev nD) (E : Set ℕ) (i : grid2.Coords) (a0 : Memref sig .tc .vmem S512x128 .f32) (h0 : a0.IsWhole) (a1 : Memref sig .tc .vmem S512x128 .f32) (h1 : a1.IsWhole) (a2 : Memref sig .tc .vmem S512x128 .f32) (h2 : a2.IsWhole) (a3 : Memref sig .tc .vmem S128x512 .bf16) (h3 : a3.IsWhole) (a4 : Memref sig .tc .vmem S128x512 .bf16) (h4 : a4.IsWhole) (a5 : Memref sig .tc .vmem S128x512 .bf16) (h5 : a5.IsWhole) (a6 : Memref sig .tc .vmem S128x512 .bf16) (h6 : a6.IsWhole) (a7 : Memref sig .tc .vmem S1x1x512 .f32) (h7 : a7.IsWhole) (a8 : Memref sig .tc .vmem S1x1x512 .f32) (h8 : a8.IsWhole) (a9 : Memref sig .tc .vmem S1x1x512 .f32) (h9 : a9.IsWhole)
    (x0 : Vec F S512x128 .f32) (x1 : Vec F S512x128 .f32) (x2 : Vec F S512x128 .f32) (x3 : Vec F S128x512 .bf16) (x4 : Vec F S128x512 .bf16) (x5 : Vec F S128x512 .bf16) (x6 : Vec F S128x512 .bf16) (x7 : Vec F S1x1x512 .f32) (x8 : Vec F S1x1x512 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (out9 x0 x1 x2 x3 x4 x5 x6 x7 x8)) -∗ Q ⟨⟩))
      ⊢ wp frame (wpE (defs₀ (F := F)) Variants.none c none) E (cc2__logits_body i a0 h0 a1 h1 a2 h2 a3 h3 a4 h4 a5 h5 a6 h6 a7 h7 a8 h8 a9 h9) Q := by
  simp only [cc2__logits_body_eq_skeleton]; unfold cc2__logits_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover9 _)

/-! ## The pipeline's proof data, from the contents `V` at its entry -/

variable (V : Valuation τ sig (Elt F)) (O : CellTallies nD τ sig (HIx 1)) (B : Set (SemLoc sig × HIx 1))

/-- Window `w`'s block at a point, read off the contents at entry. -/
def iblk (w : Fin cfg2.W) (t : Fin cfg2.N) : ((cfg2.win w).xblock (cfg2.grid.coords t)).Idx → Elt F (cfg2.win w).elt :=
  ((cfg2.win w).blk t).view.read (Elt F) (V (Proc.devRef .tc (arrRef spec2 w)))

/-- The arrays at the entry contents; a point's body leaves each operand's buffer at its block and each result's at
    `out` of the blocks; nothing else of the core's is touched; the core owes `O` throughout, its waits so far in `B`. -/
def dat (c : Dev nD) : Dat τ (Elt F) (HIx 1) ℕ UU ℕ cfg2 c where
  A w := V (Proc.devRef .tc (arrRef spec2 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => iblk V 6 t
    | ⟨7, _⟩ => iblk V 7 t
    | ⟨8, _⟩ => iblk V 8 t
    | ⟨9, _⟩ => out9 (iblk V 0 t) (iblk V 1 t) (iblk V 2 t) (iblk V 3 t) (iblk V 4 t) (iblk V 5 t) (iblk V 6 t) (iblk V 7 t) (iblk V 8 t)
  Φ _ := Pipeline.scopedRest spec2 c
  q _ := fullShare
  owed _ := O
  recorded _ := B

theorem A_eq (c : Dev nD) (w : Fin cfg2.W) : (dat V O B c).A w = V (Proc.devRef .tc (arrRef spec2 w)) := by
  dsimp only [dat]

theorem after0 (c : Dev nD) (t : Fin cfg2.N) : (dat V O B c).after 0 t = iblk V 0 t := by dsimp only [dat]
theorem after1 (c : Dev nD) (t : Fin cfg2.N) : (dat V O B c).after 1 t = iblk V 1 t := by dsimp only [dat]
theorem after2 (c : Dev nD) (t : Fin cfg2.N) : (dat V O B c).after 2 t = iblk V 2 t := by dsimp only [dat]
theorem after3 (c : Dev nD) (t : Fin cfg2.N) : (dat V O B c).after 3 t = iblk V 3 t := by dsimp only [dat]
theorem after4 (c : Dev nD) (t : Fin cfg2.N) : (dat V O B c).after 4 t = iblk V 4 t := by dsimp only [dat]
theorem after5 (c : Dev nD) (t : Fin cfg2.N) : (dat V O B c).after 5 t = iblk V 5 t := by dsimp only [dat]
theorem after6 (c : Dev nD) (t : Fin cfg2.N) : (dat V O B c).after 6 t = iblk V 6 t := by dsimp only [dat]
theorem after7 (c : Dev nD) (t : Fin cfg2.N) : (dat V O B c).after 7 t = iblk V 7 t := by dsimp only [dat]
theorem after8 (c : Dev nD) (t : Fin cfg2.N) : (dat V O B c).after 8 t = iblk V 8 t := by dsimp only [dat]
theorem after9 (c : Dev nD) (t : Fin cfg2.N) : (dat V O B c).after 9 t = out9 (iblk V 0 t) (iblk V 1 t) (iblk V 2 t) (iblk V 3 t) (iblk V 4 t) (iblk V 5 t) (iblk V 6 t) (iblk V 7 t) (iblk V 8 t) := by dsimp only [dat]

theorem before0 (c : Dev nD) (t : Fin cfg2.N) (d) : (dat V O B c).before 0 t d = iblk V 0 t :=
  ((dat V O B c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg2.N) (d) : (dat V O B c).before 1 t d = iblk V 1 t :=
  ((dat V O B c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg2.N) (d) : (dat V O B c).before 2 t d = iblk V 2 t :=
  ((dat V O B c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg2.N) (d) : (dat V O B c).before 3 t d = iblk V 3 t :=
  ((dat V O B c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg2.N) (d) : (dat V O B c).before 4 t d = iblk V 4 t :=
  ((dat V O B c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg2.N) (d) : (dat V O B c).before 5 t d = iblk V 5 t :=
  ((dat V O B c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)
theorem before6 (c : Dev nD) (t : Fin cfg2.N) (d) : (dat V O B c).before 6 t d = iblk V 6 t :=
  ((dat V O B c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)
theorem before7 (c : Dev nD) (t : Fin cfg2.N) (d) : (dat V O B c).before 7 t d = iblk V 7 t :=
  ((dat V O B c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)
theorem before8 (c : Dev nD) (t : Fin cfg2.N) (d) : (dat V O B c).before 8 t d = iblk V 8 t :=
  ((dat V O B c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

/-! ## The body's obligation -/

/-- What the body is called with at a point. -/
def bodyPre (c : Dev nD) (t : Fin cfg2.N) : sProp 𝕄 :=
  iprop((dat V O B c).Φ t.castSucc ∗ (dat V O B c).owesAt none t.castSucc
    ∗ (∃ d, owns (c : Thread nD τ) (st2_0 t) fullShare ((dat V O B c).before 0 t d))
    ∗ (∃ d, owns (c : Thread nD τ) (st2_1 t) fullShare ((dat V O B c).before 1 t d))
    ∗ (∃ d, owns (c : Thread nD τ) (st2_2 t) fullShare ((dat V O B c).before 2 t d))
    ∗ (∃ d, owns (c : Thread nD τ) (st2_3 t) fullShare ((dat V O B c).before 3 t d))
    ∗ (∃ d, owns (c : Thread nD τ) (st2_4 t) fullShare ((dat V O B c).before 4 t d))
    ∗ (∃ d, owns (c : Thread nD τ) (st2_5 t) fullShare ((dat V O B c).before 5 t d))
    ∗ (∃ d, owns (c : Thread nD τ) (st2_6 t) fullShare ((dat V O B c).before 6 t d))
    ∗ (∃ d, owns (c : Thread nD τ) (st2_7 t) fullShare ((dat V O B c).before 7 t d))
    ∗ (∃ d, owns (c : Thread nD τ) (st2_8 t) fullShare ((dat V O B c).before 8 t d))
    ∗ (∃ d, owns (c : Thread nD τ) (st2_9 t) fullShare ((dat V O B c).before 9 t d)))

/-- What it returns. -/
def bodyPost (c : Dev nD) (t : Fin cfg2.N) : sProp 𝕄 :=
  iprop((dat V O B c).Φ t.succ ∗ (dat V O B c).owesAt none t.succ
    ∗ owns (c : Thread nD τ) (st2_0 t) fullShare ((dat V O B c).after 0 t)
    ∗ owns (c : Thread nD τ) (st2_1 t) fullShare ((dat V O B c).after 1 t)
    ∗ owns (c : Thread nD τ) (st2_2 t) fullShare ((dat V O B c).after 2 t)
    ∗ owns (c : Thread nD τ) (st2_3 t) fullShare ((dat V O B c).after 3 t)
    ∗ owns (c : Thread nD τ) (st2_4 t) fullShare ((dat V O B c).after 4 t)
    ∗ owns (c : Thread nD τ) (st2_5 t) fullShare ((dat V O B c).after 5 t)
    ∗ owns (c : Thread nD τ) (st2_6 t) fullShare ((dat V O B c).after 6 t)
    ∗ owns (c : Thread nD τ) (st2_7 t) fullShare ((dat V O B c).after 7 t)
    ∗ owns (c : Thread nD τ) (st2_8 t) fullShare ((dat V O B c).after 8 t)
    ∗ owns (c : Thread nD τ) (st2_9 t) fullShare ((dat V O B c).after 9 t))

theorem body_at (c : Dev nD) (t : Fin cfg2.N) :
    bodyPre V O B c t ⊢ wp frame (wpE (defs₀ (F := F)) Variants.none c none) Set.univ (bodyAt2 t) (fun _ => bodyPost V O B c t) := by
  unfold bodyPre bodyPost bodyAt2
  simp only [before0, before1, before2, before3, before4, before5, before6, before7, before8]
  rw [show (dat V O B c).Φ t.succ = (dat V O B c).Φ t.castSucc from rfl,
    show (dat V O B c).owesAt none t.succ = (dat V O B c).owesAt none t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_spec c Set.univ (grid2.coords t) _ _ _ _ _ _ _ _ _ _ _ _ _ _ _ _ _ _ _ _ (iblk V 0 t) (iblk V 1 t) (iblk V 2 t) (iblk V 3 t) (iblk V 4 t) (iblk V 5 t) (iblk V 6 t) (iblk V 7 t) (iblk V 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg2.N) : defs₀ (F := F) .tc cfg2.body (cfg2.bodyArgs t (cfg2.slots t)) = bodyAt2 t := by
  rfl

theorem obligation (c : Dev nD) : BodyObligation (dat (F := F) V O B c) (defs₀ (F := F)) Variants.none none Set.univ := fun t => by
  rw [bigSep_W2, bigSep_W2, defs₀_row]
  exact triple_restated (body_at V O B c t) rfl .rfl fun _ => .rfl

end Cert.Proof.Logits

end
-- ==== Proof.Region.Finish.lean ====
/-
  The closing call: 2000 nodes at each of its 25 points.
  What its body leaves in each result's buffer, the proof data of its pipeline, and the body's obligation.
-/
module

public import proofs.«01_k».proof.Proof.Tile.Base
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.Proof.Finish

open Cert.KernelIdeal Cert.KernelIdeal.Gen Cert.Proof.Tile

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef)

variable {F : FTy → Type} [FloatOps F]

local notation "𝕄" => MT nD τ sig (HIx 1) (Elt F) ℕ UU ℕ

/-! ## The rectangles the body loads and stores: each buffer whole -/

abbrev rS2000x1 : Rect S2000x1 := Rect.unit (s := S2000x1) ![0, 0] S2000x1.size inb_S2000x1_S2000x1_0_0
abbrev rS2000x128 : Rect S2000x128 := Rect.unit (s := S2000x128) ![0, 0] S2000x128.size inb_S2000x128_S2000x128_0_0
abbrev rS128x128 : Rect S128x128 := Rect.unit (s := S128x128) ![0, 0] S128x128.size inb_S128x128_S128x128_0_0
abbrev rS1x128 : Rect S1x128 := Rect.unit (s := S1x128) ![0, 0] S1x128.size inb_S1x128_S1x128_0_0

/-! ## What the body leaves -/

/-- Result 0's buffer: the nodes' scores, from what the body loads. -/
def out6 (x0 : Vec F S2000x1 .f32) (x1 : Vec F S2000x1 .f32) (x2 : Vec F S2000x128 .f32) (x3 : Vec F S2000x128 .f32) (x4 : Vec F S128x128 .bf16) (x5 : Vec F S1x128 .f32) : Vec F S2000x1 .f32 :=
  View.canon [⟨rS2000x1, k3_pay1 (View.ld x0 rS2000x1)⟩]

theorem cover6 (p : Vec F S2000x1 .f32) (y : S2000x1.Idx) :
    ∃ pc ∈ ([⟨rS2000x1, p⟩] : List (View.Piece (Elt F) S2000x1 .f32)), y ∈ pc.1.set :=
  View.cover_of_tiled [⟨rS2000x1, p⟩] S2000x1.size (by rfl) y

/-- Result 1's buffer: the nodes' new rows, from what the body loads. -/
def out7 (x0 : Vec F S2000x1 .f32) (x1 : Vec F S2000x1 .f32) (x2 : Vec F S2000x128 .f32) (x3 : Vec F S2000x128 .f32) (x4 : Vec F S128x128 .bf16) (x5 : Vec F S1x128 .f32) : Vec F S2000x128 .f32 :=
  View.canon [⟨rS2000x128, k3_pay2 (View.ld x1 rS2000x1) (View.ld x2 rS2000x128) (View.ld x3 rS2000x128) (View.ld x4 rS128x128) (View.ld x5 rS1x128)⟩]

theorem cover7 (p : Vec F S2000x128 .f32) (y : S2000x128.Idx) :
    ∃ pc ∈ ([⟨rS2000x128, p⟩] : List (View.Piece (Elt F) S2000x128 .f32)), y ∈ pc.1.set :=
  View.cover_of_tiled [⟨rS2000x128, p⟩] S2000x128.size (by rfl) y

set_option maxHeartbeats 1000000 in
/-- The body on whole buffers: it leaves what it loads as it was, and each result's buffer at `out`. -/
theorem body_spec (c : Dev nD) (E : Set ℕ) (i : grid3.Coords) (a0 : Memref sig .tc .vmem S2000x1 .f32) (h0 : a0.IsWhole) (a1 : Memref sig .tc .vmem S2000x1 .f32) (h1 : a1.IsWhole) (a2 : Memref sig .tc .vmem S2000x128 .f32) (h2 : a2.IsWhole) (a3 : Memref sig .tc .vmem S2000x128 .f32) (h3 : a3.IsWhole) (a4 : Memref sig .tc .vmem S128x128 .bf16) (h4 : a4.IsWhole) (a5 : Memref sig .tc .vmem S1x128 .f32) (h5 : a5.IsWhole) (a6 : Memref sig .tc .vmem S2000x1 .f32) (h6 : a6.IsWhole) (a7 : Memref sig .tc .vmem S2000x128 .f32) (h7 : a7.IsWhole)
    (x0 : Vec F S2000x1 .f32) (x1 : Vec F S2000x1 .f32) (x2 : Vec F S2000x128 .f32) (x3 : Vec F S2000x128 .f32) (x4 : Vec F S128x128 .bf16) (x5 : Vec F S1x128 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6 x0 x1 x2 x3 x4 x5) ∗ owns (c : Thread nD τ) a7 fullShare (out7 x0 x1 x2 x3 x4 x5)) -∗ Q ⟨⟩))
      ⊢ wp frame (wpE (defs₀ (F := F)) Variants.none c none) E (cc3__finish_body i a0 h0 a1 h1 a2 h2 a3 h3 a4 h4 a5 h5 a6 h6 a7 h7) Q := by
  simp only [cc3__finish_body_eq_skeleton]; unfold cc3__finish_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover6 _)
  iexists _; isplitr
  swap; · iexact H7
  ipureintro
  exact View.read_writes_eq_canon _ _ _ (cover7 _)

/-! ## The pipeline's proof data, from the contents `V` at its entry -/

variable (V : Valuation τ sig (Elt F)) (O : CellTallies nD τ sig (HIx 1)) (B : Set (SemLoc sig × HIx 1))

/-- Window `w`'s block at a point, read off the contents at entry. -/
def iblk (w : Fin cfg3.W) (t : Fin cfg3.N) : ((cfg3.win w).xblock (cfg3.grid.coords t)).Idx → Elt F (cfg3.win w).elt :=
  ((cfg3.win w).blk t).view.read (Elt F) (V (Proc.devRef .tc (arrRef spec3 w)))

/-- The arrays at the entry contents; a point's body leaves each operand's buffer at its block and each result's at
    `out` of the blocks; nothing else of the core's is touched; the core owes `O` throughout, its waits so far in `B`. -/
def dat (c : Dev nD) : Dat τ (Elt F) (HIx 1) ℕ UU ℕ cfg3 c where
  A w := V (Proc.devRef .tc (arrRef spec3 w))
  after w t := match w with
    | ⟨0, _⟩ => iblk V 0 t
    | ⟨1, _⟩ => iblk V 1 t
    | ⟨2, _⟩ => iblk V 2 t
    | ⟨3, _⟩ => iblk V 3 t
    | ⟨4, _⟩ => iblk V 4 t
    | ⟨5, _⟩ => iblk V 5 t
    | ⟨6, _⟩ => out6 (iblk V 0 t) (iblk V 1 t) (iblk V 2 t) (iblk V 3 t) (iblk V 4 t) (iblk V 5 t)
    | ⟨7, _⟩ => out7 (iblk V 0 t) (iblk V 1 t) (iblk V 2 t) (iblk V 3 t) (iblk V 4 t) (iblk V 5 t)
  Φ _ := Pipeline.scopedRest spec3 c
  q _ := fullShare
  owed _ := O
  recorded _ := B

theorem A_eq (c : Dev nD) (w : Fin cfg3.W) : (dat V O B c).A w = V (Proc.devRef .tc (arrRef spec3 w)) := by
  dsimp only [dat]

theorem after0 (c : Dev nD) (t : Fin cfg3.N) : (dat V O B c).after 0 t = iblk V 0 t := by dsimp only [dat]
theorem after1 (c : Dev nD) (t : Fin cfg3.N) : (dat V O B c).after 1 t = iblk V 1 t := by dsimp only [dat]
theorem after2 (c : Dev nD) (t : Fin cfg3.N) : (dat V O B c).after 2 t = iblk V 2 t := by dsimp only [dat]
theorem after3 (c : Dev nD) (t : Fin cfg3.N) : (dat V O B c).after 3 t = iblk V 3 t := by dsimp only [dat]
theorem after4 (c : Dev nD) (t : Fin cfg3.N) : (dat V O B c).after 4 t = iblk V 4 t := by dsimp only [dat]
theorem after5 (c : Dev nD) (t : Fin cfg3.N) : (dat V O B c).after 5 t = iblk V 5 t := by dsimp only [dat]
theorem after6 (c : Dev nD) (t : Fin cfg3.N) : (dat V O B c).after 6 t = out6 (iblk V 0 t) (iblk V 1 t) (iblk V 2 t) (iblk V 3 t) (iblk V 4 t) (iblk V 5 t) := by dsimp only [dat]
theorem after7 (c : Dev nD) (t : Fin cfg3.N) : (dat V O B c).after 7 t = out7 (iblk V 0 t) (iblk V 1 t) (iblk V 2 t) (iblk V 3 t) (iblk V 4 t) (iblk V 5 t) := by dsimp only [dat]

theorem before0 (c : Dev nD) (t : Fin cfg3.N) (d) : (dat V O B c).before 0 t d = iblk V 0 t :=
  ((dat V O B c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg3.N) (d) : (dat V O B c).before 1 t d = iblk V 1 t :=
  ((dat V O B c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg3.N) (d) : (dat V O B c).before 2 t d = iblk V 2 t :=
  ((dat V O B c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg3.N) (d) : (dat V O B c).before 3 t d = iblk V 3 t :=
  ((dat V O B c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg3.N) (d) : (dat V O B c).before 4 t d = iblk V 4 t :=
  ((dat V O B c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg3.N) (d) : (dat V O B c).before 5 t d = iblk V 5 t :=
  ((dat V O B c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body's obligation -/

/-- What the body is called with at a point. -/
def bodyPre (c : Dev nD) (t : Fin cfg3.N) : sProp 𝕄 :=
  iprop((dat V O B c).Φ t.castSucc ∗ (dat V O B c).owesAt none t.castSucc
    ∗ (∃ d, owns (c : Thread nD τ) (st3_0 t) fullShare ((dat V O B c).before 0 t d))
    ∗ (∃ d, owns (c : Thread nD τ) (st3_1 t) fullShare ((dat V O B c).before 1 t d))
    ∗ (∃ d, owns (c : Thread nD τ) (st3_2 t) fullShare ((dat V O B c).before 2 t d))
    ∗ (∃ d, owns (c : Thread nD τ) (st3_3 t) fullShare ((dat V O B c).before 3 t d))
    ∗ (∃ d, owns (c : Thread nD τ) (st3_4 t) fullShare ((dat V O B c).before 4 t d))
    ∗ (∃ d, owns (c : Thread nD τ) (st3_5 t) fullShare ((dat V O B c).before 5 t d))
    ∗ (∃ d, owns (c : Thread nD τ) (st3_6 t) fullShare ((dat V O B c).before 6 t d))
    ∗ (∃ d, owns (c : Thread nD τ) (st3_7 t) fullShare ((dat V O B c).before 7 t d)))

/-- What it returns. -/
def bodyPost (c : Dev nD) (t : Fin cfg3.N) : sProp 𝕄 :=
  iprop((dat V O B c).Φ t.succ ∗ (dat V O B c).owesAt none t.succ
    ∗ owns (c : Thread nD τ) (st3_0 t) fullShare ((dat V O B c).after 0 t)
    ∗ owns (c : Thread nD τ) (st3_1 t) fullShare ((dat V O B c).after 1 t)
    ∗ owns (c : Thread nD τ) (st3_2 t) fullShare ((dat V O B c).after 2 t)
    ∗ owns (c : Thread nD τ) (st3_3 t) fullShare ((dat V O B c).after 3 t)
    ∗ owns (c : Thread nD τ) (st3_4 t) fullShare ((dat V O B c).after 4 t)
    ∗ owns (c : Thread nD τ) (st3_5 t) fullShare ((dat V O B c).after 5 t)
    ∗ owns (c : Thread nD τ) (st3_6 t) fullShare ((dat V O B c).after 6 t)
    ∗ owns (c : Thread nD τ) (st3_7 t) fullShare ((dat V O B c).after 7 t))

theorem body_at (c : Dev nD) (t : Fin cfg3.N) :
    bodyPre V O B c t ⊢ wp frame (wpE (defs₀ (F := F)) Variants.none c none) Set.univ (bodyAt3 t) (fun _ => bodyPost V O B c t) := by
  unfold bodyPre bodyPost bodyAt3
  simp only [before0, before1, before2, before3, before4, before5]
  rw [show (dat V O B c).Φ t.succ = (dat V O B c).Φ t.castSucc from rfl,
    show (dat V O B c).owesAt none t.succ = (dat V O B c).owesAt none t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_spec c Set.univ (grid3.coords t) _ _ _ _ _ _ _ _ _ _ _ _ _ _ _ _ (iblk V 0 t) (iblk V 1 t) (iblk V 2 t) (iblk V 3 t) (iblk V 4 t) (iblk V 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg3.N) : defs₀ (F := F) .tc cfg3.body (cfg3.bodyArgs t (cfg3.slots t)) = bodyAt3 t := by
  rfl

theorem obligation (c : Dev nD) : BodyObligation (dat (F := F) V O B c) (defs₀ (F := F)) Variants.none none Set.univ := fun t => by
  rw [bigSep_W3, bigSep_W3, defs₀_row]
  exact triple_restated (body_at V O B c t) rfl .rfl fun _ => .rfl

end Cert.Proof.Finish

end
-- ==== Proof.Region.Step.lean ====
/-
  One TensorCore call as a step of @main: from the arrays at a valuation to the arrays at what the call's pipeline
  leaves, the TensorCore's part in the SparseCore call's handshakes passing through unchanged.
-/
module

public import proofs.«01_k».proof.Proof.Region.Prep
public import proofs.«01_k».proof.Proof.Region.Logits
public import proofs.«01_k».proof.Proof.Region.Finish
public import Idealize.ShloMosaic.Lib.Pipeline.RegionArraysS
public import Idealize.ShloMosaic.Lib.Pipeline.FrameTail

@[expose] public section

set_option Elab.async false

noncomputable section

namespace Cert.Proof.Region

open Cert.KernelIdeal Cert.KernelIdeal.Gen Cert.Proof.Tile

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg arrRef arrRefs afterRegion pin cellsGhost toksInit ucRefs)

variable {F : FTy → Type} [FloatOps F]

local notation "𝕄" => MT nD τ sig (HIx 1) (Elt F) ℕ UU ℕ

/-- No pipeline of the program prefetches a table. -/
abbrev adm : (p : Fin 3) → (pcfgs (F := F) p).Adm := fun p => (cfgs p).toPCfg_adm

/-- The waits the TensorCore may have recorded before call `n` of the SparseCore. -/
def waitsTo (c : Dev nD) (n : ℕ) : Set (SemLoc sig × HIx 1) := {p | (K (F := F)).lev (SparseCore.T c, p.1) p.2 ≤ 8 * SparseCore.Cfg.Blocks.fst (Q := 1) (N := 1) n}

/-- The three pipelines' proof data, from the contents `V` at the entry of the one that is run, before call `n`. -/
def fam (V : Valuation τ sig (Elt F)) (n : ℕ) :
    (p : Fin 3) → (c : Dev nD) → Dat τ (Elt F) (HIx 1) ℕ UU ℕ (pin (pcfgs (F := F)) adm p) c
  | 0, c => Prep.dat V ((K (F := F)).Otc c n) (waitsTo (F := F) c n) c
  | 1, c => Logits.dat V ((K (F := F)).Otc c n) (waitsTo (F := F) c n) c
  | 2, c => Finish.dat V ((K (F := F)).Otc c n) (waitsTo (F := F) c n) c

/-- What the TensorCore owes before call `n`. -/
def tcOwes (c : Dev nD) (n : ℕ) : sProp 𝕄 :=
  iprop(∃ W, ⌜(K (F := F)).WBelow (SparseCore.T c) W (8 * SparseCore.Cfg.Blocks.fst (Q := 1) (N := 1) n)⌝ ∗ owes (SparseCore.T c) ((K (F := F)).Otc c n) W)

variable (V : Valuation τ sig (Elt F)) (n : ℕ)

theorem launchFacts (p : Fin 3) : Pipeline.LaunchFacts (nD := nD) (τ := τ) cfgs p := match p with
  | 0 => launch0
  | 1 => launch2
  | 2 => launch3

theorem kit (p : Fin 3) : Pipeline.PLaunchFacts (nD := nD) (τ := τ) (pcfgs (F := F)) p := (launchFacts p).toP

theorem fam_owed (p : Fin 3) (c : Dev nD) (t) : (fam V n p c).owed t = (K (F := F)).Otc c n := match p with
  | 0 => rfl
  | 1 => rfl
  | 2 => rfl
theorem fam_recorded (p : Fin 3) (c : Dev nD) (t) : (fam V n p c).recorded t = waitsTo (F := F) c n := match p with
  | 0 => rfl
  | 1 => rfl
  | 2 => rfl
theorem fam_share (p : Fin 3) (c : Dev nD) (w) : (fam V n p c).share w = fullShare := match p with
  | 0 => (Prep.dat V _ _ c).share_full (fun _ => rfl) w
  | 1 => (Logits.dat V _ _ c).share_full (fun _ => rfl) w
  | 2 => (Finish.dat V _ _ c).share_full (fun _ => rfl) w
theorem fam_A (p : Fin 3) (c : Dev nD) (w) : (fam V n p c).A w = V (Proc.devRef .tc (arrRef (pin (pcfgs (F := F)) adm p).spec w)) := match p with
  | 0 => rfl
  | 1 => rfl
  | 2 => rfl
theorem fam_Φ (p : Fin 3) (c : Dev nD) (t) : (fam V n p c).Φ t = Pipeline.scopedRest (pin (pcfgs (F := F)) adm p).spec c := by
  match p with
  | 0 => dsimp only [fam, Prep.dat]; rfl
  | 1 => dsimp only [fam, Logits.dat]; rfl
  | 2 => dsimp only [fam, Finish.dat]; rfl
theorem fam_body (p : Fin 3) (c : Dev nD) : Pipeline.BodyObligationLoose (fam V n p c) (defs₀ (F := F)) 𝒱₀ none Set.univ := match p with
  | 0 => (Prep.obligation V _ _ c).loose
  | 1 => (Logits.obligation V _ _ c).loose
  | 2 => (Finish.obligation V _ _ c).loose

/-- The region of pipeline `p`, entered with the arrays at `V` before call `n`. -/
def seg (p : Fin 3) : Pipeline.RegionSeg (pcfgs (F := F)) adm (fam V n) none (defs₀ (F := F)) 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody := fam_body V n p
  hwaits c := Pipeline.cellsWaits_of_cut (pin (pcfgs (F := F)) adm) (fam V n) none p c 0 ((K (F := F)).Otc c n) (fam_owed V n p c)
    (fun _ _ => Finset.mem_univ _) (fun _ _ => Nat.le_refl 0)
    (fun g i h => ⟨Finset.mem_univ _, lt_of_lt_of_le (Nat.succ_pos _) ((K (F := F)).lev_of_Otc_pos h)⟩)
  pre c := iprop(StableHlo.held (c.tc : Thread nD τ) (arrRefs (pcfgs (F := F) p).spec) V ∗ tcOwes (F := F) c n)
  post c := iprop(StableHlo.held (c.tc : Thread nD τ) (arrRefs (pcfgs (F := F) p).spec) (afterRegion (fam V n p c) V) ∗ tcOwes (F := F) c n)
  X _ := iprop(emp)
  Y _ := iprop(emp)
  Z _ := iprop(emp)
  hentry c := by
    rw [Pipeline.ownSems0_none, Pipeline.prefHeld_of_none _ rfl,
      ← Pipeline.arrays_held (pcfgs (F := F)) adm (fam V n) p (kit p) c (fam_share V n p c) ((fam V n p c).arrAt · 0) V
        (fun w => (fam_A V n p c w))]
    unfold tcOwes
    iintro ⟨⟨Ha, %W, %hW, HO⟩, -, -⟩
    imodintro
    isplitl [Ha]; · iexact Ha
    isplitr; · iempintro
    isplitl [HO]
    · unfold Dat.owesAt Pipeline.owesWithin Dat.bound
      rw [fam_owed, fam_recorded]
      iexists W; isplitr; · ipureintro; exact fun q hq => Or.inl (hW q hq)
      iexact HO
    isplitr <;> iempintro
  hin c := by
    rw [fam_Φ, Pipeline.prefHeld_of_none _ rfl]
    iintro ⟨-, -, H⟩; iexact H
  hout c := by
    rw [fam_Φ, Pipeline.ownSems0_none]
    iintro H
    isplitr; · iempintro
    isplitr; · iempintro
    iexact H
  hexit c := by
    rw [← Pipeline.arrays_held (pcfgs (F := F)) adm (fam V n) p (kit p) c (fam_share V n p c)
      ((fam V n p c).arrAt · (pin (pcfgs (F := F)) adm p).N) (afterRegion (fam V n p c) V)
        (fun w => (Pipeline.afterRegion_arr _ V (kit (F := F) p).win.arr_inj w).symm)]
    unfold tcOwes Dat.owesAt Pipeline.owesWithin Dat.bound
    rw [fam_owed, fam_recorded]
    iintro ⟨Ha, ⟨%W, %hW, HO⟩, -, -⟩
    imodintro
    isplitl [Ha]; · iexact Ha
    iexists W; isplitr
    · ipureintro
      intro q hq
      rcases hW hq with h | ⟨w, s, rfl⟩
      · exact h
      · exact Nat.zero_le _
    iexact HO

theorem seg_pre (p : Fin 3) (d : Dev nD) : (seg V n p).pre d
    = iprop(StableHlo.held (d.tc : Thread nD τ) (arrRefs (pcfgs (F := F) p).spec) V ∗ tcOwes (F := F) d n) := rfl
theorem seg_post (p : Fin 3) (d : Dev nD) : (seg V n p).post d
    = iprop(StableHlo.held (d.tc : Thread nD τ) (arrRefs (pcfgs (F := F) p).spec) (afterRegion (fam V n p d) V) ∗ tcOwes (F := F) d n) := rfl

instance : (EP (F := F)).LandsIn (upEmb : UEmb _ 𝕄) := by infer_instance

/-- A TensorCore call: the arrays go from `V` to what its pipeline leaves. -/
theorem wp_region [∀ e, Nonempty (Elt F e)] (P : (K (F := F)).Pay (nD := nD) (Val := Elt F) (Name := ℕ) (U := UU)) (κ : GSem nD τ sig → ℕ) (d : Dev nD) (p : Fin 3) {Φ : PUnit → sProp 𝕄} :
    iprop((K (F := F)).ctx EH P κ ∗ (K (F := F)).tcSt EH d n ∗ boundary (d.tc : Thread nD τ)
        ∗ StableHlo.held (d.tc : Thread nD τ) (ucRefs τ sig) V
        ∗ cellsGhost (pin (pcfgs (F := F)) adm) EP p d ∗ toksInit (pin (pcfgs (F := F)) adm) EP p d
        ∗ (iprop((K (F := F)).tcSt EH d n ∗ boundary (d.tc : Thread nD τ)
            ∗ StableHlo.held (d.tc : Thread nD τ) (ucRefs τ sig) (afterRegion (fam V n p d) V)) -∗ Φ ⟨⟩))
      ⊢ wp frame (wpE ((K (F := F)).defs (D (F := F))) 𝒱 (SparseCore.T d) none) Set.univ
          (Prog.lift (.customCall (SparseCore.inner (Pipeline.entry p)) ())) Φ := by
  have hsub := Pipeline.arrRefs_sub_ucRefs (τ := τ) (pcfgs (F := F) p).spec (kit (F := F) p).win.arr_unscoped
  rw [StableHlo.held_sub_split (d.tc : Thread nD τ) hsub V, StableHlo.held_sub_split (d.tc : Thread nD τ) hsub (afterRegion (fam V n p d) V),
    StableHlo.held_congr (d.tc : Thread nD τ) (S := ucRefs τ sig \ arrRefs (pcfgs (F := F) p).spec)
      (fun b hb => Pipeline.afterRegion_off (fam V n p d) V _ b hb)]
  unfold SparseCore.Cfg.tcSt
  iintro ⟨#Hctx, ⟨HO, Hst⟩, Hb, ⟨Ha, Hrest⟩, Hg, Ht, Hk⟩
  ihave Hlev := (SparseCore.Cfg.ctx_levAts κ) $$ Hctx
  iapply ((K (F := F)).wp_liftProg (D (F := F)) 𝒱 (SparseCore.T d) Set.univ none (Prog.lift (.customCall (Pipeline.entry p) ())) Φ)
  iapply (Pipeline.RegionSeg.wp (pcfgs (F := F)) adm (fam V n) none cellOf_inj EP (defs₀ (F := F)) 𝒱₀ (K (F := F)).L (K (F := F)).lev
    (seg V n p) d none (fun _ h => nomatch h) (fun _ => .ret ⟨⟩) Φ)
  isplitl [Hk Hst Hrest]
  · iintro ⟨Hb, Hpost⟩
    rw [wp_ret]
    imodintro
    ihave H := (Entails.of_eq (seg_post V n p d)) $$ Hpost
    icases H with ⟨Ha, HO⟩
    unfold tcOwes
    iapply Hk
    isplitl [HO Hst]
    · isplitl [HO]; · iexact HO
      iexact Hst
    isplitl [Hb]; · iexact Hb
    isplitl [Ha]; · iexact Ha
    iexact Hrest
  isplitl [Hb]; · iexact Hb
  isplitl [HO Ha]
  · iapply (Entails.of_eq (seg_pre V n p d).symm)
    unfold tcOwes
    isplitl [Ha]; · iexact Ha
    iexact HO
  isplitl [Hlev]; · iexact Hlev
  isplitl [Hg]; · iexact Hg
  iexact Ht

end Cert.Proof.Region

end
-- ==== Proof.Host.Main.lean ====
/-
  @main's run: the host operations, the three TensorCore calls and the SparseCore gather in order, as one valuation of
  the device's arrays handed along; and the program's run from any launch memory whose row numbers are in range.
-/
module

public import proofs.«01_k».proof.Proof.Host.Ops
public import proofs.«01_k».proof.Proof.Tile.Launch
public import proofs.«01_k».proof.Proof.Region.Step

@[expose] public section

set_option Elab.async false

noncomputable section

namespace Cert.Proof.Host

open Cert.KernelIdeal Cert.KernelIdeal.Gen Cert.Proof.Tile Cert.Proof.Region

open Idealize.ShloMosaic Idealize.ShloMosaic.TcCoe Idealize.ShloMosaic.Tactic
open Idealize.ShloMosaic.SparseCore.Cfg (HIx Pay)
open Idealize.ShloMosaic.StableHlo (after seq held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (afterRegion pin cellsGhost toksInit ucRefs)

variable {F : FTy → Type} [FloatOps F]

local notation "𝕄" => MT nD τ sig (HIx 1) (Elt F) ℕ UU ℕ

/-! ## The arrays at each step of @main -/

abbrev ref (r : Ref sig .tc) : DevRef τ sig := Proc.devRef .tc r

variable (m : (ℓ : Loc nD τ sig) → Buf (Elt F) ℓ) (ρ : Dev nD → PrngReg)

abbrev mX (d : Dev nD) : Buf (Elt F) (xLoc d) := m (xLoc d)
abbrev mS (d : Dev nD) : Buf (Elt F) (sLoc d) := m (sLoc d)
abbrev mR (d : Dev nD) : Buf (Elt F) (tLoc d) := m (tLoc d)

/-- At launch; -/
def V0 (d : Dev nD) : Valuation τ sig (Elt F) := fun b => m (d, b)
/-- when the preparation call is entered; -/
def V1 (d : Dev nD) : Valuation τ sig (Elt F) := after opsPrep (V0 m d)
/-- after it; -/
def V2 (d : Dev nD) : Valuation τ sig (Elt F) := afterRegion (fam (V1 m d) 0 0 d) (V1 m d)
/-- after the gather; -/
def V3 (d : Dev nD) : Valuation τ sig (Elt F) :=
  Function.update (Function.update (V2 m d) (ref oR) (rowsO (mX m) (mS m) d)) (ref pR) (rowsP (mX m) (mR m) d)
/-- when the edges' scores are entered; -/
def V4 (d : Dev nD) : Valuation τ sig (Elt F) := after opsShape (V3 m d)
/-- after them; -/
def V5 (d : Dev nD) : Valuation τ sig (Elt F) := afterRegion (fam (V4 m d) 1 1 d) (V4 m d)
/-- through the host's operations; -/
def V6 (d : Dev nD) : Valuation τ sig (Elt F) := after opsMid0 (V5 m d)
def V7 (d : Dev nD) : Valuation τ sig (Elt F) := after opsMid1 (V6 m d)
def V8 (d : Dev nD) : Valuation τ sig (Elt F) := after opsMid2 (V7 m d)
/-- when the closing call is entered; -/
def V9 (d : Dev nD) : Valuation τ sig (Elt F) := after opsMid3 (V8 m d)
/-- after it; -/
def V10 (d : Dev nD) : Valuation τ sig (Elt F) := afterRegion (fam (V9 m d) 1 2 d) (V9 m d)
/-- at the end. -/
def V11 (d : Dev nD) : Valuation τ sig (Elt F) := after opsEnd (V10 m d)

/-! ## The gather's five arrays, out of all the device's -/

/-- The table, the two lists of row numbers, the two results. -/
def five : Finset (DevRef τ sig) := {ref xR, ref sR, ref tR, ref oR, ref pR}

theorem five_sub : five ⊆ ucRefs τ sig := by
  intro b hb
  simp only [five, Finset.mem_insert, Finset.mem_singleton] at hb
  rcases hb with rfl | rfl | rfl | rfl | rfl <;> exact Pipeline.devRef_mem_ucRefs (by decide)

theorem held_five (d : Dev nD) (V : Valuation τ sig (Elt F)) :
    (held (d.tc : Thread nD τ) five V : sProp 𝕄)
      = iprop((xLoc d ↦{fullShare} V (ref xR)) ∗ (sLoc d ↦{fullShare} V (ref sR)) ∗ (tLoc d ↦{fullShare} V (ref tR))
          ∗ (oLoc d ↦{fullShare} V (ref oR)) ∗ pLoc d ↦{fullShare} V (ref pR)) := by
  unfold held five
  rw [SparseCore.bigSep_insert' (by decide), SparseCore.bigSep_insert' (by decide), SparseCore.bigSep_insert' (by decide),
    SparseCore.bigSep_insert' (by decide), bigSep_singleton]

/-- The preparation call writes its two results alone. -/
theorem V2_keeps (d : Dev nD) (r : Ref sig .tc) (h : r ≠ main_v26_0 ∧ r ≠ main_v26_1) : V2 m d (ref r) = V1 m d (ref r) :=
  Pipeline.afterRegion_keeps (fam (V1 m d) 0 0 d) (V1 m d) winFacts0.arr_inj (fun _ => rfl) r fun w e =>
    (by decide : ∀ w : Fin 8, (Pipeline.arrRef spec0 w ≠ main_v26_0 ∧ Pipeline.arrRef spec0 w ≠ main_v26_1) → (spec0 w).isOut = false) w (e ▸ h)

/-- No host operation before the gather, and not the preparation call, touches the gather's operands. -/
theorem V2_xR (d : Dev nD) : V2 m d (ref xR) = mX m d :=
  (V2_keeps m d xR (by decide)).trans (opsPrep_keeps _ xR (by decide))
theorem V2_sR (d : Dev nD) : V2 m d (ref sR) = mS m d :=
  (V2_keeps m d sR (by decide)).trans (opsPrep_keeps _ sR (by decide))
theorem V2_tR (d : Dev nD) : V2 m d (ref tR) = mR m d :=
  (V2_keeps m d tR (by decide)).trans (opsPrep_keeps _ tR (by decide))

theorem V3_off (d : Dev nD) (b : DevRef τ sig) (ho : b ≠ ref oR) (hp : b ≠ ref pR) : V3 m d b = V2 m d b := by
  unfold V3; rw [Function.update_of_ne hp, Function.update_of_ne ho]

/-- The gather writes its two results alone. -/
theorem V3_keeps (d : Dev nD) (r : Ref sig .tc) (h : r ≠ oR ∧ r ≠ pR) : V3 m d (ref r) = V2 m d (ref r) :=
  V3_off m d _ (fun e => h.1 (Proc.devRef_injective _ e)) (fun e => h.2 (Proc.devRef_injective _ e))

/-- The edges' call writes its one result alone. -/
theorem V5_keeps (d : Dev nD) (r : Ref sig .tc) (h : r ≠ main_v30) : V5 m d (ref r) = V4 m d (ref r) :=
  Pipeline.afterRegion_keeps (fam (V4 m d) 1 1 d) (V4 m d) winFacts2.arr_inj (fun _ => rfl) r fun w e =>
    (by decide : ∀ w : Fin 10, Pipeline.arrRef spec2 w ≠ main_v30 → (spec2 w).isOut = false) w (e ▸ h)

/-- The closing call writes its two results alone. -/
theorem V10_keeps (d : Dev nD) (r : Ref sig .tc) (h : r ≠ main_v155_0 ∧ r ≠ main_v155_1) : V10 m d (ref r) = V9 m d (ref r) :=
  Pipeline.afterRegion_keeps (fam (V9 m d) 1 2 d) (V9 m d) winFacts3.arr_inj (fun _ => rfl) r fun w e =>
    (by decide : ∀ w : Fin 8, (Pipeline.arrRef spec3 w ≠ main_v155_0 ∧ Pipeline.arrRef spec3 w ≠ main_v155_1) → (spec3 w).isOut = false) w (e ▸ h)

/-- An array no step writes. -/
def Kept (r : Ref sig .tc) : Prop :=
  r ∉ writtenPrep ∧ (r ≠ main_v26_0 ∧ r ≠ main_v26_1) ∧ (r ≠ oR ∧ r ≠ pR) ∧ r ∉ writtenShape ∧ r ≠ main_v30 ∧ r ∉ writtenMid0 ∧ r ∉ writtenMid1
    ∧ r ∉ writtenMid2 ∧ r ∉ writtenMid3 ∧ (r ≠ main_v155_0 ∧ r ≠ main_v155_1) ∧ r ∉ writtenEnd

instance (r : Ref sig .tc) : Decidable (Kept r) := by unfold Kept; infer_instance

section Chain
variable {m}
variable {d : Dev nD} {r : Ref sig .tc} (h : Kept r)
include h
theorem kept1 : V1 m d (ref r) = m (d, ref r) := opsPrep_keeps _ r h.1
theorem kept2 : V2 m d (ref r) = m (d, ref r) := (V2_keeps m d r h.2.1).trans (kept1 h)
theorem kept3 : V3 m d (ref r) = m (d, ref r) := (V3_keeps m d r h.2.2.1).trans (kept2 h)
theorem kept4 : V4 m d (ref r) = m (d, ref r) := (opsShape_keeps _ r h.2.2.2.1).trans (kept3 h)
theorem kept5 : V5 m d (ref r) = m (d, ref r) := (V5_keeps m d r h.2.2.2.2.1).trans (kept4 h)
theorem kept6 : V6 m d (ref r) = m (d, ref r) := (opsMid0_keeps _ r h.2.2.2.2.2.1).trans (kept5 h)
theorem kept7 : V7 m d (ref r) = m (d, ref r) := (opsMid1_keeps _ r h.2.2.2.2.2.2.1).trans (kept6 h)
theorem kept8 : V8 m d (ref r) = m (d, ref r) := (opsMid2_keeps _ r h.2.2.2.2.2.2.2.1).trans (kept7 h)
theorem kept9 : V9 m d (ref r) = m (d, ref r) := (opsMid3_keeps _ r h.2.2.2.2.2.2.2.2.1).trans (kept8 h)
theorem kept10 : V10 m d (ref r) = m (d, ref r) := (V10_keeps m d r h.2.2.2.2.2.2.2.2.2.1).trans (kept9 h)
theorem kept11 : V11 m d (ref r) = m (d, ref r) := (opsEnd_keeps _ r h.2.2.2.2.2.2.2.2.2.2).trans (kept10 h)
end Chain

/-! ## The steps -/

/-- Host operations as a step. -/
theorem wp_ops (d : Dev nD) (ops : List (HloOp τ sig (Elt F))) (h : ∀ op ∈ ops, Plain op) (V : Valuation τ sig (Elt F)) {Φ : PUnit → sProp 𝕄} :
    iprop(boundary (d.tc : Thread nD τ) ∗ held (d.tc : Thread nD τ) (ucRefs τ sig) V
        ∗ (iprop(boundary (d.tc : Thread nD τ) ∗ held (d.tc : Thread nD τ) (ucRefs τ sig) (after ops V)) -∗ Φ ⟨⟩))
      ⊢ wp frame (wpE ((K (F := F)).defs (D (F := F))) 𝒱 (SparseCore.T d) none) Set.univ (seq ops) Φ := by
  rw [← bind_pure (seq ops)]
  iintro ⟨Hb, Hv, Hk⟩
  iapply (StableHlo.wp_seq (defs := (K (F := F)).defs (D (F := F))) 𝒱 none Set.univ d (ucRefs τ sig) (fun x => pure x) (K := Φ) ops (fun op ho => Pipeline.sub_ucRefs op (h op ho).1) (fun op ho => (h op ho).2) V) $$ [Hb Hv]
  · isplitl [Hb] <;> iassumption
  iintro H
  rw [wp_pure]
  imodintro
  iapply Hk
  iexact H

/-- The gather as a step. -/
theorem wp_gather (κ : GSem nD τ sig → ℕ) (d : Dev nD) {Φ : PUnit → sProp 𝕄} :
    iprop((K (F := F)).ctx EH (P (mX m) (mS m) (mR m)) κ ∗ (K (F := F)).tcSt EH d 0 ∗ boundary (d.tc : Thread nD τ)
        ∗ held (d.tc : Thread nD τ) (ucRefs τ sig) (V2 m d)
        ∗ (iprop((K (F := F)).tcSt EH d 1 ∗ boundary (d.tc : Thread nD τ) ∗ held (d.tc : Thread nD τ) (ucRefs τ sig) (V3 m d)) -∗ Φ ⟨⟩))
      ⊢ wp frame (wpE ((K (F := F)).defs (D (F := F))) 𝒱 (SparseCore.T d) none) Set.univ (sc.run d 0) Φ := by
  rw [StableHlo.held_sub_split (d.tc : Thread nD τ) five_sub (V2 m d), StableHlo.held_sub_split (d.tc : Thread nD τ) five_sub (V3 m d),
    StableHlo.held_congr (d.tc : Thread nD τ) (S := ucRefs τ sig \ five) (V := V3 m d) (V' := V2 m d) (fun b hb => V3_off m d b
      (fun e => (Finset.mem_sdiff.mp hb).2 (e ▸ by simp [five])) (fun e => (Finset.mem_sdiff.mp hb).2 (e ▸ by simp [five]))),
    held_five, held_five, V2_xR, V2_sR, V2_tR]
  rw [show V3 m d (ref xR) = mX m d from (V3_off m d _ (by decide) (by decide)).trans (V2_xR m d),
    show V3 m d (ref sR) = mS m d from (V3_off m d _ (by decide) (by decide)).trans (V2_sR m d),
    show V3 m d (ref tR) = mR m d from (V3_off m d _ (by decide) (by decide)).trans (V2_tR m d),
    show V3 m d (ref oR) = rowsO (mX m) (mS m) d from by unfold V3; rw [Function.update_of_ne (by decide), Function.update_self],
    show V3 m d (ref pR) = rowsP (mX m) (mR m) d from by unfold V3; rw [Function.update_self]]
  iintro ⟨#Hctx, Hst, Hb, ⟨⟨Hx, Hs, Ht, Ho, Hp⟩, Hrest⟩, Hk⟩
  iapply ((K (F := F)).wp_run (D (F := F)) 𝒱 (EH := EH) (P := P (mX m) (mS m) (mR m)) κ d 0)
  isplitr; · iexact Hctx
  isplitl [Hst]; · iexact Hst
  isplitl [Hx Hs Ht Ho Hp]
  · iapply (st_of_arrays (mX m) (mS m) (mR m) d)
    isplitl [Hx Hs Ht]
    · isplitl [Hx]; · iexact Hx
      isplitl [Hs] <;> iassumption
    isplitl [Ho]
    · iexists _; iexact Ho
    · iexists _; iexact Hp
  iintro ⟨Hst, Hdn⟩
  ihave H := (arrays_of_dn (mX m) (mS m) (mR m) d) $$ Hdn
  icases H with ⟨⟨Hx, Hs, Ht⟩, Ho, Hp⟩
  iapply Hk
  isplitl [Hst]; · iexact Hst
  isplitl [Hb]; · iexact Hb
  isplitr [Hrest]
  · isplitl [Hx]; · iexact Hx
    isplitl [Hs]; · iexact Hs
    isplitl [Ht]; · iexact Ht
    isplitl [Ho] <;> iassumption
  iexact Hrest

/-! ## The launch element of the ghost state -/

/-- The pipelines' part of the launch's ghost state. -/
def G (d : Dev nD) : sProp 𝕄 :=
  bigSep Finset.univ fun p => iprop(cellsGhost (pin (pcfgs (F := F)) adm) EP p d ∗ toksInit (pin (pcfgs (F := F)) adm) EP p d)

abbrev uH : UH := initOf (K (F := F)).hsCells (K (F := F)).hsToks
abbrev uP : UP := initOf (Pipeline.cells (nD := nD) (τ := τ) (pin (pcfgs (F := F)) adm) cellOf_inj) (Pipeline.launchToks (nD := nD) (τ := τ) (pin (pcfgs (F := F)) adm) cellOf_inj)

abbrev u₀ : UU := Prod.mk (uH (F := F)) (Prod.mk (uP (F := F)) (1 : Counters))

/-- The launch's element is the handshakes' part and the pipelines' part. -/
theorem own_parts (a : UH) (b : UP) (c : Counters) : (ownU ((a, (b, c)) : UU) : sProp 𝕄) ⊢ iprop(BI.own (EH (F := F) a) ∗ BI.own (EP (F := F) b)) := by
  iintro Hu
  ihave H := (ownU_pair a (b, c)) $$ Hu
  icases H with ⟨HH, HR⟩
  ihave H := (own_pair_emb embR b c) $$ HR
  icases H with ⟨HP, -⟩
  isplitl [HH] <;> iassumption

/-- The pipelines' part pays for every pipeline's cells and tokens. -/
theorem fund_pipelines : (BI.own (EP (F := F) (initOf (Pipeline.cells (pin (pcfgs (F := F)) adm) cellOf_inj) (Pipeline.launchToks (pin (pcfgs (F := F)) adm) cellOf_inj))) : sProp 𝕄)
    ⊢ |==> bigSep Finset.univ fun d : Dev nD => G (F := F) d := by
  refine (Pipeline.fund_ghost (pin (pcfgs (F := F)) adm) EP cellOf_inj).trans (BI.bupd_mono ?_)
  unfold G
  rw [bigSep_congr fun (d : Dev nD) _ => bigSep_sep' (s := Finset.univ) (Φ := fun p => cellsGhost (pin (pcfgs (F := F)) adm) EP p d) (Ψ := fun p => toksInit (pin (pcfgs (F := F)) adm) EP p d), bigSep_sep']
  exact BI.Entails.refl _

theorem hu₀ (P : (K (F := F)).Pay (nD := nD) (Val := Elt F) (Name := ℕ) (U := UU)) (hx : ∀ q thr, P.x q thr = iprop(emp)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P.x q thr) := by
  iintro Hu
  ihave H := (own_parts (uH (F := F)) (uP (F := F)) 1) $$ Hu
  icases H with ⟨HH, HP⟩
  imod fund_pipelines $$ HP with HG
  imodintro
  isplitl [HH]; · iexact HH
  isplitl [HG]; · iexact HG
  rw [show (bigSep Finset.univ fun thr : Thread nD τ => bigSep Finset.univ fun q : Fin 1 => P.x q thr) = bigSep Finset.univ fun _ => iprop(emp) from
    bigSep_congr fun _ _ => (bigSep_univ_of_subsingleton (0 : Fin 1)).trans (hx _ _), show (bigSep (Finset.univ : Finset (Thread nD τ)) fun _ => iprop(emp)) = (iprop(emp) : sProp 𝕄) from bigSep_emp_const _]
  iempintro

theorem bigSep_three (Φ : Fin 3 → sProp 𝕄) : bigSep Finset.univ Φ = iprop(Φ 0 ∗ Φ 1 ∗ Φ 2) := by
  rw [show (Finset.univ : Finset (Fin 3)) = {0, 1, 2} from rfl, SparseCore.bigSep_insert' (by decide), SparseCore.bigSep_insert' (by decide), bigSep_singleton]

/-! ## @main -/

theorem main_eq (d : Dev nD) : main (F := F) d = (do
    seq opsPrep
    Prog.lift (.customCall (SparseCore.inner (Pipeline.entry 0)) ())
    sc.run d 0
    seq opsShape
    Prog.lift (.customCall (SparseCore.inner (Pipeline.entry 1)) ())
    seq opsMid0
    seq opsMid1
    seq opsMid2
    seq opsMid3
    Prog.lift (.customCall (SparseCore.inner (Pipeline.entry 2)) ())
    seq opsEnd) := by
  unfold main
  rw [main_part0_eq, main_part1_eq, main_part2_eq, main_part3_eq]
  simp only [bind_assoc]

/-- What @main leaves. -/
abbrev FIN (d : Dev nD) : sProp 𝕄 := held (d.tc : Thread nD τ) (ucRefs τ sig) (V11 m d)

theorem hmain [∀ e, Nonempty (Elt F e)] (κ : GSem nD τ sig → ℕ) (d : Dev nD) :
    iprop((K (F := F)).ctx EH (P (mX m) (mS m) (mR m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d).loc b)) : sProp 𝕄) = held (d.tc : Thread nD τ) (ucRefs τ sig) (V0 m d) from
    Pipeline.unscopedBufs_held d (V0 m d), bigSep_three, main_eq]
  simp only [wp_bind]
  iintro ⟨#Hctx, Hst, ⟨Hb, Hv, Hts, -⟩, ⟨Hc0, Ht0⟩, ⟨Hc1, Ht1⟩, ⟨Hc2, Ht2⟩⟩
  iapply (wp_ops d opsPrep opsPrep_plain (V0 m d))
  isplitl [Hb]; · iexact Hb
  isplitl [Hv]; · iexact Hv
  iintro ⟨Hb, Hv⟩
  iapply (wp_region (V1 m d) 0 (P (mX m) (mS m) (mR m)) κ d 0)
  isplitr; · iexact Hctx
  isplitl [Hst]; · iexact Hst
  isplitl [Hb]; · iexact Hb
  isplitl [Hv]; · iexact Hv
  isplitl [Hc0]; · iexact Hc0
  isplitl [Ht0]; · iexact Ht0
  iintro ⟨Hst, Hb, Hv⟩
  iapply (wp_gather m κ d)
  isplitr; · iexact Hctx
  isplitl [Hst]; · iexact Hst
  isplitl [Hb]; · iexact Hb
  isplitl [Hv]; · iexact Hv
  iintro ⟨Hst, Hb, Hv⟩
  iapply (wp_ops d opsShape opsShape_plain (V3 m d))
  isplitl [Hb]; · iexact Hb
  isplitl [Hv]; · iexact Hv
  iintro ⟨Hb, Hv⟩
  iapply (wp_region (V4 m d) 1 (P (mX m) (mS m) (mR m)) κ d 1)
  isplitr; · iexact Hctx
  isplitl [Hst]; · iexact Hst
  isplitl [Hb]; · iexact Hb
  isplitl [Hv]; · iexact Hv
  isplitl [Hc1]; · iexact Hc1
  isplitl [Ht1]; · iexact Ht1
  iintro ⟨Hst, Hb, Hv⟩
  iapply (wp_ops d opsMid0 opsMid0_plain (V5 m d))
  isplitl [Hb]; · iexact Hb
  isplitl [Hv]; · iexact Hv
  iintro ⟨Hb, Hv⟩
  iapply (wp_ops d opsMid1 opsMid1_plain (V6 m d))
  isplitl [Hb]; · iexact Hb
  isplitl [Hv]; · iexact Hv
  iintro ⟨Hb, Hv⟩
  iapply (wp_ops d opsMid2 opsMid2_plain (V7 m d))
  isplitl [Hb]; · iexact Hb
  isplitl [Hv]; · iexact Hv
  iintro ⟨Hb, Hv⟩
  iapply (wp_ops d opsMid3 opsMid3_plain (V8 m d))
  isplitl [Hb]; · iexact Hb
  isplitl [Hv]; · iexact Hv
  iintro ⟨Hb, Hv⟩
  iapply (wp_region (V9 m d) 1 (P (mX m) (mS m) (mR m)) κ d 2)
  isplitr; · iexact Hctx
  isplitl [Hst]; · iexact Hst
  isplitl [Hb]; · iexact Hb
  isplitl [Hv]; · iexact Hv
  isplitl [Hc2]; · iexact Hc2
  isplitl [Ht2]; · iexact Ht2
  iintro ⟨Hst, Hb, Hv⟩
  iapply (wp_ops d opsEnd opsEnd_plain (V10 m d))
  isplitl [Hb]; · iexact Hb
  isplitl [Hv]; · iexact Hv
  iintro ⟨Hb, Hv⟩
  isplitl [Hst]; · iexact Hst
  isplitl [Hv]; · iexact Hv
  isplitl [Hb] <;> iassumption

/-! ## The run -/

/-- Holding arrays, the memory holds their contents. -/
theorem held_agree (d : Dev nD) (V : Valuation τ sig (Elt F)) (s' : Phys nD τ sig (Elt F)) (S : Finset (DevRef τ sig)) :
    iprop(held (d.tc : Thread nD τ) S V ∗ SI s') ⊢ (iprop(⌜∀ b ∈ S, s'.mem.mem (d, b) = V b⌝ ∗ SI s') : sProp 𝕄) := by
  classical
  induction S using Finset.induction_on with
  | empty =>
    iintro ⟨-, H⟩
    isplitr; · ipureintro; exact fun b hb => absurd hb (Finset.notMem_empty b)
    iexact H
  | insert a S ha ih =>
    unfold held at ih ⊢
    rw [SparseCore.bigSep_insert' ha]
    iintro ⟨⟨Ha, HS⟩, HSI⟩
    ihave H := ih $$ [HS HSI]; · isplitl [HS] <;> iassumption
    icases H with ⟨%h, HSI⟩
    ihave H := (agree _ s') $$ [HSI Ha]; · isplitl [HSI] <;> iassumption
    icases H with ⟨%h1, HSI⟩
    isplitr
    · ipureintro
      intro b hb
      rcases Finset.mem_insert.mp hb with rfl | hb
      · exact h1
      · exact h b hb
    iexact HSI

/-- The memory of a run's end is the last valuation. -/
def fq (d : Dev nD) (s' : Phys nD τ sig (Elt F)) : Prop := ∀ b ∈ ucRefs τ sig, s'.mem.mem (d, b) = V11 m d b

theorem hfin (d : Dev nD) (s' : Phys nD τ sig (Elt F)) : iprop(FIN m d ∗ SI s') ⊢ (⌜fq m d s'⌝ : sProp 𝕄) := by
  iintro H
  ihave H := (held_agree d (V11 m d) s' (ucRefs τ sig)) $$ H
  icases H with ⟨%h, -⟩
  ipureintro; exact h

/-- Every array ends at the last valuation, every semaphore at zero. -/
def QC : PUnit × MemSt nD τ sig (Elt F) → Prop := fun r =>
  (∀ d : Dev nD, ∀ b ∈ ucRefs τ sig, r.2.mem (d, b) = V11 m d b) ∧ r.2.sem = fun _ => 0

/-- From any memory whose row numbers are in range the program runs to its end. -/
theorem run_main [∀ e, Nonempty (Elt F e)] (hR : InRange (mS m) (mR m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (mX m) (mS m) (mR m)) (A := ∅) kFacts v₀
    (fun q hq => match q with | 0 => nomatch hq)
    (fun q _ => match q with | 0 => tileObl (mX m) (mS m) (mR m) hR)
    (fun q _ => match q with | 0 => SparseCore.Cfg.VecSplit.of_plain (vecSplit (mX m) (mS m) (mR m)))
    m ρ main G (FIN m) (u₀ (F := F)) (sep_elim_left.trans (hu₀ (P (mX m) (mS m) (mR m)) fun _ _ => rfl)) (hmain m ρ) (fq m) (hfin m) (QC m) (fun _ h hz => ⟨h, hz⟩)

/-- The end of a run at one array of @main. -/
theorem QC.at {m : (ℓ : Loc nD τ sig) → Buf (Elt F) ℓ} {r : PUnit × MemSt nD τ sig (Elt F)} (h : QC m r) (d : Dev nD) (b : Ref sig .tc) (hb : b.isScoped = false) :
    r.2.mem ((d.tc : Thread nD τ).loc b) = V11 m d (ref b) := h.1 d (ref b) (Pipeline.devRef_mem_ucRefs hb)

/-- The end of a run at an array no step writes. -/
theorem QC.kept {m : (ℓ : Loc nD τ sig) → Buf (Elt F) ℓ} {r : PUnit × MemSt nD τ sig (Elt F)} (h : QC m r) (d : Dev nD) (b : Ref sig .tc) (hb : b.isScoped = false) (hk : Kept b) :
    r.2.mem ((d.tc : Thread nD τ).loc b) = m ((d.tc : Thread nD τ).loc b) := (h.at d b hb).trans (kept11 hk)

end Cert.Proof.Host

end
-- ==== Proof.Host.Inputs.lean ====
/-
  What the precondition says of the arguments: the node numbers are below 50000, edge `e` belongs to query `e / 2048`,
  and the arrays the logits are computed from are finite at every entry.
-/
module

public import proofs.«01_k».proof.Proof.Tile.Task
public import proofs.«01_k».proof.Proof.Gen.Pre_inputs_ok
public import Idealize.ShloMosaic.Lib.ReduceAll
public import Idealize.ShloMosaic.Lib.WordArith

@[expose] public section

noncomputable section

namespace Cert.Proof.Host

open Idealize.ShloMosaic Idealize.ShloMosaic.WordArith

/-- A word that passes both signed comparisons is below 50000. -/
theorem word_in_range (v : BitVec 32) (h : IntOp.andi (IntOp.cmpi .sge v 0#32) (IntOp.cmpi .slt v 50000#32) = 1#1) : v.toNat < 50000 := by
  simp only [IntOp.cmpi, andi_ofBool, ofBool_eq_one_iff, Bool.and_eq_true, BitVec.sle_eq_decide, BitVec.slt_eq_decide, decide_eq_true_eq,
    BitVec.toInt_eq_toNat_cond, BitVec.toNat_ofNat] at h
  have := v.isLt
  omega

/-- jnp's floor division of a small non-negative word by 2048 is the division of naturals. -/
theorem floor_div_word (v : BitVec 32) (hv : v.toNat < 131072) :
    (Scalar.select (IntOp.andi (IntOp.cmpi .ne (if v = 0 then (0 : BitVec 32) else if v.msb then -1 else 1) (if (2048#32 : BitVec 32) = 0 then (0 : BitVec 32) else if (2048#32 : BitVec 32).msb then -1 else 1)) (IntOp.cmpi .ne (IntOp.remsi .host v 2048#32) 0#32))
      (IntOp.subi (IntOp.divsi .host v 2048#32) 1#32) (IntOp.divsi .host v 2048#32)).toNat = v.toNat / 2048 := by
  have hm : v.msb = false := by rw [BitVec.msb_eq_decide]; simp; omega
  have hd : IntOp.divsi .host v 2048#32 = BitVec.udiv v 2048#32 := by
    unfold IntOp.divsi
    rw [if_neg (by unfold IntOp.SDivCorner; simp), BitVec.sdiv_eq, hm]; rfl
  have hr : IntOp.remsi .host v 2048#32 = v % 2048#32 := by
    unfold IntOp.remsi
    rw [if_neg (by unfold IntOp.SDivCorner; simp), BitVec.srem_eq, hm]; rfl
  rw [hd, hr, hm]
  by_cases h0 : v = 0
  · subst h0; decide
  · rw [if_neg h0]
    have hs : (2048#32 : BitVec 32).msb = false := by decide
    rw [hs]
    simp [Scalar.select, IntOp.andi, IntOp.cmpi]

theorem floor_div_at {F : FTy → Type} [FloatOps F] (e : Cert.Pre_inputs_ok.S131072.Idx) :
    (Cert.Pre_inputs_ok.fn_floor_divide (F := F) (iotaInDim Cert.Pre_inputs_ok.S131072 32 0) (constantI Cert.Pre_inputs_ok.S_ 32 2048#32) e).toNat = (e 0).val / 2048 := by
  have he : (e 0).val < 131072 := (e 0).isLt
  have hn : (BitVec.ofNat 32 (e 0).val).toNat = (e 0).val := by rw [BitVec.toNat_ofNat]; omega
  have hf := floor_div_word (BitVec.ofNat 32 (e 0).val) (by omega)
  rw [hn] at hf
  rw [← hf]
  rfl

/-- The precondition, read out. -/
structure Inputs {F : FTy → Type} [FloatOps F] (x1 : FVec F Cert.Pre_inputs_ok.S50000x128 .f32) (x2 : FVec F Cert.Pre_inputs_ok.S131072x128 .f32)
    (x3 x4 : FVec F Cert.Pre_inputs_ok.S64x128 .f32) (x5 x6 : FVec F Cert.Pre_inputs_ok.S512x512 .f32) (s t q : IVec Cert.Pre_inputs_ok.S131072 32) : Prop where
  rows : (∀ e, (s e).toNat < 50000) ∧ ∀ e, (t e).toNat < 50000
  query : ∀ e, (q e).toNat = (e 0).val / 2048
  fin1 : ∀ i, cmpf .olt (Host.absf x1) (constant Cert.Pre_inputs_ok.S50000x128 .f32 0x7F800000#32) i = 1#1
  fin2 : ∀ i, cmpf .olt (Host.absf x2) (constant Cert.Pre_inputs_ok.S131072x128 .f32 0x7F800000#32) i = 1#1
  fin3 : ∀ i, cmpf .olt (Host.absf x3) (constant Cert.Pre_inputs_ok.S64x128 .f32 0x7F800000#32) i = 1#1
  fin4 : ∀ i, cmpf .olt (Host.absf x4) (constant Cert.Pre_inputs_ok.S64x128 .f32 0x7F800000#32) i = 1#1
  fin5 : ∀ i, cmpf .olt (Host.absf x5) (constant Cert.Pre_inputs_ok.S512x512 .f32 0x7F800000#32) i = 1#1
  fin6 : ∀ i, cmpf .olt (Host.absf x6) (constant Cert.Pre_inputs_ok.S512x512 .f32 0x7F800000#32) i = 1#1

theorem inputs_ok_all {F : FTy → Type} [FloatOps F] {x0 x1 x2 x3 x4 x5 x6 x7 x8 s t q}
    (h : Cert.Pre_inputs_ok.fn (F := F) x0 x1 x2 x3 x4 x5 x6 x7 x8 s t q = fun _ => 1#1) : Inputs x1 x2 x3 x4 x5 x6 s t q := by
  have h0 := congrFun h (fun a : Fin 0 => a.elim0)
  haveI : Subsingleton Cert.Pre_inputs_ok.S_.Idx := ⟨fun a b => funext fun i => i.elim0⟩
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  obtain ⟨h0, hq⟩ := IntOp.andi_eq_one.1 h0
  obtain ⟨hs, ht⟩ := IntOp.andi_eq_one.1 h0
  refine ⟨⟨fun e => word_in_range _ (Host.reduce_andi_all _ _ _ _ _ hs e), fun e => word_in_range _ (Host.reduce_andi_all _ _ _ _ _ ht e)⟩, fun e => ?_,
    fun i => Host.reduce_andi_all _ _ _ _ _ h1 i, fun i => Host.reduce_andi_all _ _ _ _ _ h2 i, fun i => Host.reduce_andi_all _ _ _ _ _ h3 i,
    fun i => Host.reduce_andi_all _ _ _ _ _ h4 i, fun i => Host.reduce_andi_all _ _ _ _ _ h5 i, fun i => Host.reduce_andi_all _ _ _ _ _ h6 i⟩
  have hw := Host.reduce_andi_all _ _ _ _ _ hq e
  have he : q e = _ := of_decide_eq_true ((ofBool_eq_one_iff _).1 hw)
  rw [he]
  exact floor_div_at e

end Cert.Proof.Host

end
-- ==== Proof.Host.Same.lean ====
/-
  The kernel as printed for the machine and as printed for the reals: one text, so one program at any float values.
-/
module

public import proofs.«01_k».proof.Proof.Gen.Kernel
public import proofs.«01_k».proof.Proof.Gen.KernelIdeal

@[expose] public section

set_option maxHeartbeats 4000000

namespace Cert.Proof.Host

open Idealize.ShloMosaic Idealize.ShloMosaic.TcCoe Idealize.SL.Sem

section Same
variable {F : FTy → Type} [FloatOps F]

/-- The two prints' body tables agree at every processor and label. -/
theorem bodies_at : ∀ p ℓ a, Cert.Kernel.defs₀ (F := F) p ℓ a = Cert.KernelIdeal.defs₀ (F := F) p ℓ a
  | .tc, 0, (t, s) => rfl
  | .tc, 1, _ => rfl
  | .tc, 2, (t, s) => rfl
  | .tc, 3, (t, s) => rfl
  | .scVector c s, 0, _ => rfl
  | .scVector c s, 1, _ => rfl
  | .scVector c s, 2, _ => rfl
  | .scVector c s, 3, _ => rfl
  | .scScalar c, 0, _ => rfl
  | .scScalar c, 1, _ => rfl
  | .scScalar c, 2, _ => rfl
  | .scScalar c, 3, _ => rfl

theorem bodies_eq : Cert.Kernel.defs₀ (F := F) = Cert.KernelIdeal.defs₀ := funext fun p => funext fun ℓ => funext fun a => bodies_at p ℓ a

theorem defs_eq : Cert.Kernel.defs (F := F) = Cert.KernelIdeal.defs :=
  congrArg (fun D => Cert.Kernel.sc.defs (Pipeline.defs (Cert.Kernel.pcfgs (F := F)) D)) bodies_eq

theorem part0_eq : Cert.Kernel.main_part0 (F := F) = Cert.KernelIdeal.main_part0 := rfl
theorem part1_eq : Cert.Kernel.main_part1 (F := F) = Cert.KernelIdeal.main_part1 := rfl
theorem part2_eq : Cert.Kernel.main_part2 (F := F) = Cert.KernelIdeal.main_part2 := rfl
theorem part3_eq : Cert.Kernel.main_part3 (F := F) = Cert.KernelIdeal.main_part3 := rfl

theorem main_same : Cert.Kernel.main (F := F) = Cert.KernelIdeal.main := by
  funext d
  unfold Cert.Kernel.main Cert.KernelIdeal.main
  rw [part0_eq, part1_eq, part2_eq, part3_eq]
  rfl

end Same

end Cert.Proof.Host

end
-- ==== Proof.Host.Frame.lean ====
/-
  The program's frame at any float values: it runs to its end, its arguments as at launch, its semaphores at zero.
-/
module

public import proofs.«01_k».proof.Defs
public import proofs.«01_k».proof.Proof.Gen.Kernel
public import proofs.«01_k».proof.Proof.Gen.KernelIdeal
public import proofs.«01_k».proof.Proof.Host.Main
public import proofs.«01_k».proof.Proof.Host.Inputs
public import proofs.«01_k».proof.Proof.Host.Same

@[expose] public section

namespace Cert.Proof.Host

open Idealize.ShloMosaic Idealize.ShloMosaic.TcCoe Idealize.SL.Sem
open Cert.Proof.Tile

open Cert.KernelIdeal in
/-- The run at any float values: the arguments end as launched, the semaphores at zero. -/
theorem run_frame {F : FTy → Type} [FloatOps F] [∀ e, Nonempty (Elt F e)] (m : (ℓ : Loc nD τ sig) → Buf (Elt F) ℓ) (ρ : Dev nD → PrngReg) (hR : InRange (mS m) (mR m)) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨h.kept c _ (by decide) (by decide), h.kept c _ (by decide) (by decide), h.kept c _ (by decide) (by decide), h.kept c _ (by decide) (by decide),
    h.kept c _ (by decide) (by decide), h.kept c _ (by decide) (by decide), h.kept c _ (by decide) (by decide), h.kept c _ (by decide) (by decide),
    h.kept c _ (by decide) (by decide), h.kept c _ (by decide) (by decide), h.kept c _ (by decide) (by decide), h.kept c _ (by decide) (by decide)⟩, h.2⟩) (run_main m ρ hR)

/-- The kernel over the reals. -/
theorem frame_ideal : Cert.quiescent_KernelIdeal := fun m ρ hp =>
  run_frame (F := Ideal) m ρ fun d => (inputs_ok_all (hp d)).rows

set_option maxHeartbeats 2000000 in
/-- The kernel at its machine floats. -/
theorem frame_kernel : Cert.quiescent_Kernel := fun m ρ hp => by
  have h := run_frame (F := Bits) m ρ fun d => (inputs_ok_all (hp d)).rows
  rw [defs_eq, show Cert.Kernel.threads (F := Bits) = Cert.Kernel.sc.threads Cert.Kernel.main from rfl, main_same]
  exact h

end Cert.Proof.Host

end
-- ==== Proof.Value.Names.lean ====
/-
  How the value proof names the kernel's arrays.
-/
module

public import proofs.«01_k».proof.Proof.Gen.KernelIdeal.Skeleton

@[expose] public section

namespace Cert.Proof.Value

open Cert.KernelIdeal
open Idealize.ShloMosaic

/-- The array `r` of the kernel, as a valuation names it. -/
abbrev at_ (r : Ref sig .tc) : DevRef τ sig := Proc.devRef (τ := τ) (sig := sig) Proc.tc r

end Cert.Proof.Value

end
-- ==== Proof.Value.Terms.lean ====
/-
  What the kernel's host operations compute from the edges' scores: the softmax over a node's edges with the node's own
  shift, the scored edges, the best of each query, and what the last kernel takes. Each stretch's arrays as a term of the
  arrays before it.
-/
module

public import proofs.«01_k».proof.Proof.Host.Ops
public import proofs.«01_k».proof.Proof.Value.Names
public import Idealize.ShloMosaic.Lib.StableHlo.Run

@[expose] public section

set_option Elab.async false

noncomputable section

namespace Cert.Proof.Value

open Cert.KernelIdeal Cert.KernelIdeal.Gen Cert.Proof.Host
open Idealize.ShloMosaic Idealize.ShloMosaic.TcCoe Idealize.SL.Sem Idealize.ShloMosaic.StableHlo

variable {F : FTy → Type} [FloatOps F]

/-! ## The terms -/

/-- Row numbers into the 50000 nodes, a negative one counted from the end, as a column: one per edge; -/
def ofEdges (s : IVec S131072 32) : IVec S131072x1 32 :=
  broadcastInDim S131072x1 ![0] bcast_S131072_S131072x1_0
    (select (cmpi .slt s (broadcastInDim S131072 ![] bcast_S_S131072 (constantI S_ 32 0#32)))
      (addi s (broadcastInDim S131072 ![] bcast_S_S131072 (constantI S_ 32 50000#32))) s)
/-- one per chosen edge; -/
def ofChosen (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 50000#32))) s)
/-- and numbers of edges, one per chosen edge. -/
def edgesOf (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 131072#32))) s)

/-- What the edges of a node add up to. -/
def sumInto (s : IVec S131072 32) (x : FVec F S131072 .f32) : FVec F S50000 .f32 :=
  Host.scatterAdd scatter_S50000_S131072x1_S131072_n_0_0_1 (broadcastInDim S50000 ![] bcast_S_S50000 (constant S_ .f32 0x00000000#32)) (ofEdges s) x
/-- Every edge's entry of an array over the nodes. -/
def perEdge (s : IVec S131072 32) (x : FVec F S50000 .f32) : FVec F S131072 .f32 :=
  Host.gather gather_S50000_S131072x1_S131072_n_0_n_n_0_1_1 x (ofEdges s)

/-- A node's shift: sixteen times the logarithm of what its edges' exponentials at a sixteenth add up to, 1e-30 added. -/
def shift (s : IVec S131072 32) (L : FVec F S131072 .f32) : FVec F S50000 .f32 :=
  mulf (broadcastInDim S50000 ![] bcast_S_S50000 (constant S_ .f32 0x41800000#32))
    (Host.log (addf (sumInto s (Host.exp (mulf L (broadcastInDim S131072 ![] bcast_S_S131072 (constant S_ .f32 0x3D800000#32)))))
      (broadcastInDim S50000 ![] bcast_S_S50000 (constant S_ .f32 0x0DA24260#32))))
/-- An edge's exponential, its node's shift taken off. -/
def shifted (s : IVec S131072 32) (L : FVec F S131072 .f32) (c : FVec F S50000 .f32) : FVec F S131072 .f32 := Host.exp (subf L (perEdge s c))
/-- The exponentials over what those of the same node add up to. -/
def share (s : IVec S131072 32) (x : FVec F S131072 .f32) : FVec F S131072 .f32 := Host.divf x (perEdge s (sumInto s x))
/-- The kernel's softmax. -/
def soft (s : IVec S131072 32) (L : FVec F S131072 .f32) : FVec F S131072 .f32 := share s (shifted s L (shift s L))

/-- The numbers of the chosen edges: of each query's 2048 scores the 128 highest. -/
def chosen (T : FVec F S131072 .f32) : IVec S8192 32 :=
  shapeCast _ (addi ((Host.topK S64x128 1 (FloatOps.cmpfTotal .gt) (shapeCast _ T shapeCasts_S131072_S64x2048) sliceFits_S64x2048_S64x128).2)
    (broadcastInDim S64x128 ![0, 1] bcast_S64x1_S64x128_0_1
      (muli (broadcastInDim S64x1 ![0] bcast_S64_S64x1_0 (iotaInDim S64 32 0)) (broadcastInDim S64x1 ![] bcast_S_S64x1 (constantI S_ 32 2048#32)))))
    shapeCasts_S64x128_S8192
/-- What the chosen edges carry of an array over the edges. -/
def pick {e : EltTy} (x : S131072.Idx → Elt F e) (f : IVec S8192 32) : S8192.Idx → Elt F e :=
  Host.gather gather_S131072_S8192x1_S8192_n_0_n_n_0_1_1 x (edgesOf f)
/-- What the chosen edges add up to at a node. -/
def sumChosen (p : IVec S8192 32) (x : FVec F S8192 .f32) : FVec F S50000 .f32 :=
  Host.scatterAdd scatter_S50000_S8192x1_S8192_n_0_0_1 (broadcastInDim S50000 ![] bcast_S_S50000 (constant S_ .f32 0x00000000#32)) (ofChosen p) x
/-- The rows of the chosen edges' ends, weighted, added up at their beginnings. -/
def aggregate (X : FVec F S50000x128 .f32) (p q : IVec S8192 32) (w : FVec F S8192 .f32) : FVec F S50000x128 .f32 :=
  Host.scatterAdd scatter_S50000x128_S8192x1_S8192x128_1_0_0_1 (broadcastInDim S50000x128 ![] bcast_S_S50000x128 (constant S_ .f32 0x00000000#32)) (ofChosen p)
    (mulf (broadcastInDim S8192x128 ![0, 1] bcast_S8192x1_S8192x128_0_1 (broadcastInDim S8192x1 ![0] bcast_S8192_S8192x1_0 w))
      (Host.gather gather_S50000x128_S8192x1_S8192x128_1_0_n_n_0_1_1128 X (ofChosen q)))

/-! ## The stretches -/

variable (V : Valuation τ sig (Elt F))

set_option maxRecDepth 8192
set_option maxHeartbeats 2000000

theorem mid0_logits : after opsMid0 V (at_ main_v31) = shapeCast S131072 (V (at_ main_v30)) shapeCasts_S256x1x512_S131072 := by
  simp only [opsMid0]; after_results_simp <;> rfl
theorem mid0_shift : after opsMid0 V (at_ main_v47) = shift (V (at_ main_arg9)) (shapeCast S131072 (V (at_ main_v30)) shapeCasts_S256x1x512_S131072) := by
  simp only [opsMid0]; after_results_simp <;> rfl
theorem mid0_negative : after opsMid0 V (at_ main_v49) = cmpi .slt (V (at_ main_arg9)) (broadcastInDim S131072 ![] bcast_S_S131072 (constantI S_ 32 0#32)) := by
  simp only [opsMid0]; after_results_simp <;> rfl
theorem mid0_wrapped : after opsMid0 V (at_ main_v51) = addi (V (at_ main_arg9)) (broadcastInDim S131072 ![] bcast_S_S131072 (constantI S_ 32 50000#32)) := by
  simp only [opsMid0]; after_results_simp <;> rfl

/-- What the second stretch takes an edge's node to be. -/
abbrev nodes1 : IVec S131072x1 32 :=
  broadcastInDim S131072x1 ![0] bcast_S131072_S131072x1_0 (select (V (at_ main_v49)) (V (at_ main_v51)) (V (at_ main_arg9)))
/-- Its softmax, -/
abbrev soft1 : FVec F S131072 .f32 :=
  share (V (at_ main_arg9)) (Host.exp (subf (V (at_ main_v31)) (Host.gather gather_S50000_S131072x1_S131072_n_0_n_n_0_1_1 (V (at_ main_v47)) (nodes1 V))))
/-- the edges scored by it. -/
abbrev target1 : FVec F S131072 .f32 := mulf (soft1 V) (perEdge (V (at_ main_arg9)) (V (at_ main_arg0)))

theorem mid1_soft : after opsMid1 V (at_ main_v72) = soft1 V := by
  simp only [opsMid1]; after_results_simp <;> rfl
theorem mid1_target : after opsMid1 V (at_ main_v80) = target1 V := by
  simp only [opsMid1]; after_results_simp <;> rfl
theorem mid1_chosen : after opsMid1 V (at_ main_v88) = chosen (target1 V) := by
  simp only [opsMid1]; after_results_simp <;> rfl
theorem mid1_begins : after opsMid1 V (at_ main_v95) = pick (F := F) (e := .i32) (V (at_ main_arg9)) (chosen (target1 V)) := by
  simp only [opsMid1]; after_results_simp <;> rfl
theorem mid1_negative : after opsMid1 V (at_ main_v97) = cmpi .slt (chosen (target1 V)) (broadcastInDim S8192 ![] bcast_S_S8192 (constantI S_ 32 0#32)) := by
  simp only [opsMid1]; after_results_simp <;> rfl
theorem mid1_count : after opsMid1 V (at_ main_c_17) = constantI S_ 32 131072#32 := by
  simp only [opsMid1]; after_results_simp <;> rfl

/-- Where the chosen edges end, as the third stretch reads it. -/
abbrev ends2 : IVec S8192 32 :=
  Host.gather gather_S131072_S8192x1_S8192_n_0_n_n_0_1_1 (V (at_ main_arg10))
    (broadcastInDim S8192x1 ![0] bcast_S8192_S8192x1_0
      (select (V (at_ main_v97)) (addi (V (at_ main_v88)) (broadcastInDim S8192 ![] bcast_S_S8192 (V (at_ main_c_17)))) (V (at_ main_v88))))

theorem mid2_score : after opsMid2 V (at_ main_v124) = sumChosen (ends2 V) (pick (F := F) (e := .f32) (V (at_ main_v80)) (V (at_ main_v88))) := by
  simp only [opsMid2]; after_results_simp <;> rfl
theorem mid2_marks : after opsMid2 V (at_ main_v133)
    = sumChosen (V (at_ main_v95)) (broadcastInDim S8192 ![] bcast_S_S8192 (constant S_ .f32 0x3F800000#32)) := by
  simp only [opsMid2]; after_results_simp <;> rfl
theorem mid2_messages : after opsMid2 V (at_ main_v143)
    = mulf (broadcastInDim S8192x128 ![0, 1] bcast_S8192x1_S8192x128_0_1 (broadcastInDim S8192x1 ![0] bcast_S8192_S8192x1_0
          (pick (F := F) (e := .f32) (V (at_ main_v72)) (V (at_ main_v88)))))
        (Host.gather gather_S50000x128_S8192x1_S8192x128_1_0_n_n_0_1_1128 (V (at_ main_arg1)) (ofChosen (ends2 V))) := by
  simp only [opsMid2]; after_results_simp <;> rfl
theorem mid2_zero : after opsMid2 V (at_ main_cst_31) = constant S_ .f32 0x00000000#32 := by
  simp only [opsMid2]; after_results_simp <;> rfl

theorem mid3_sum : after opsMid3 V (at_ main_v151)
    = Host.scatterAdd scatter_S50000x128_S8192x1_S8192x128_1_0_0_1 (broadcastInDim S50000x128 ![] bcast_S_S50000x128 (V (at_ main_cst_31)))
        (ofChosen (V (at_ main_v95))) (V (at_ main_v143)) := by
  simp only [opsMid3]; after_results_simp <;> rfl
theorem mid3_score : after opsMid3 V (at_ main_v152) = shapeCast S50000x1 (V (at_ main_v124)) shapeCasts_S50000_S50000x1 := by
  simp only [opsMid3]; after_results_simp <;> rfl
theorem mid3_marks : after opsMid3 V (at_ main_v153) = shapeCast S50000x1 (V (at_ main_v133)) shapeCasts_S50000_S50000x1 := by
  simp only [opsMid3]; after_results_simp <;> rfl
theorem mid3_bias : after opsMid3 V (at_ main_v154) = shapeCast S1x128 (V (at_ main_arg8)) shapeCasts_S128_S1x128 := by
  simp only [opsMid3]; after_results_simp <;> rfl
theorem end_score : after opsEnd V (at_ main_v156) = shapeCast S50000 (V (at_ main_v155_0)) shapeCasts_S50000x1_S50000 := by
  simp only [opsEnd]; after_results_simp <;> rfl

theorem shape_q : after opsShape V (at_ main_v28) = shapeCast S64x1x512 (V (at_ main_v26_0)) shapeCasts_S64x512_S64x1x512 := by
  simp only [opsShape]; after_results_simp <;> rfl
theorem shape_k : after opsShape V (at_ main_v29) = shapeCast S64x1x512 (V (at_ main_v26_1)) shapeCasts_S64x512_S64x1x512 := by
  simp only [opsShape]; after_results_simp <;> rfl

/-! ## The weights' four column blocks, turned -/

theorem prep_q0 : after opsPrep V (at_ main_v2)
    = truncf .bf16 (transpose S128x512 [1, 0] (extractStridedSlice S512x128 ![0, 0] (V (at_ main_arg5)) slices_S512x512_S512x128_0_0) transposes_S512x128_S128x512_1_0) bitsLt_bf16_f32 := by
  simp only [opsPrep]; after_results_simp <;> rfl
theorem prep_q1 : after opsPrep V (at_ main_v5)
    = truncf .bf16 (transpose S128x512 [1, 0] (extractStridedSlice S512x128 ![0, 128] (V (at_ main_arg5)) slices_S512x512_S512x128_0_128) transposes_S512x128_S128x512_1_0) bitsLt_bf16_f32 := by
  simp only [opsPrep]; after_results_simp <;> rfl
theorem prep_q2 : after opsPrep V (at_ main_v8)
    = truncf .bf16 (transpose S128x512 [1, 0] (extractStridedSlice S512x128 ![0, 256] (V (at_ main_arg5)) slices_S512x512_S512x128_0_256) transposes_S512x128_S128x512_1_0) bitsLt_bf16_f32 := by
  simp only [opsPrep]; after_results_simp <;> rfl
theorem prep_q3 : after opsPrep V (at_ main_v11)
    = truncf .bf16 (transpose S128x512 [1, 0] (extractStridedSlice S512x128 ![0, 384] (V (at_ main_arg5)) slices_S512x512_S512x128_0_384) transposes_S512x128_S128x512_1_0) bitsLt_bf16_f32 := by
  simp only [opsPrep]; after_results_simp <;> rfl
theorem prep_k0 : after opsPrep V (at_ main_v14)
    = truncf .bf16 (transpose S128x512 [1, 0] (extractStridedSlice S512x128 ![0, 0] (V (at_ main_arg6)) slices_S512x512_S512x128_0_0) transposes_S512x128_S128x512_1_0) bitsLt_bf16_f32 := by
  simp only [opsPrep]; after_results_simp <;> rfl
theorem prep_k1 : after opsPrep V (at_ main_v17)
    = truncf .bf16 (transpose S128x512 [1, 0] (extractStridedSlice S512x128 ![0, 128] (V (at_ main_arg6)) slices_S512x512_S512x128_0_128) transposes_S512x128_S128x512_1_0) bitsLt_bf16_f32 := by
  simp only [opsPrep]; after_results_simp <;> rfl
theorem prep_k2 : after opsPrep V (at_ main_v20)
    = truncf .bf16 (transpose S128x512 [1, 0] (extractStridedSlice S512x128 ![0, 256] (V (at_ main_arg6)) slices_S512x512_S512x128_0_256) transposes_S512x128_S128x512_1_0) bitsLt_bf16_f32 := by
  simp only [opsPrep]; after_results_simp <;> rfl
theorem prep_k3 : after opsPrep V (at_ main_v23)
    = truncf .bf16 (transpose S128x512 [1, 0] (extractStridedSlice S512x128 ![0, 384] (V (at_ main_arg6)) slices_S512x512_S512x128_0_384) transposes_S512x128_S128x512_1_0) bitsLt_bf16_f32 := by
  simp only [opsPrep]; after_results_simp <;> rfl
theorem prep_l : after opsPrep V (at_ main_v25) = truncf .bf16 (transpose S128x128 [1, 0] (V (at_ main_arg7)) transposes_S128x128_S128x128_1_0) bitsLt_bf16_f32 := by
  simp only [opsPrep]; after_results_simp <;> rfl

end Cert.Proof.Value

end
-- ==== Proof.Value.Payloads.lean ====
/-
  What each TensorCore call's body stores, entry by entry over the extended reals.
-/
module

public import proofs.«01_k».proof.Proof.Value.Names
public import Idealize.ShloMosaic.Lib.Pointwise

@[expose] public section

set_option maxRecDepth 16384

noncomputable section

namespace Cert.Proof.Value

open Cert.KernelIdeal Cert.KernelIdeal.Gen
open Idealize.ShloMosaic

/-- The preparation: one row of one table times a block of weights, and of the other times the next. -/
theorem prep_at3 (x0 x1 : Vec Ideal S64x128 .f32) (w0 w1 : Vec Ideal S128x512 .bf16) (q : Fin 64) (j : Fin 512) :
    k0_pay3 x0 x1 w0 w1 (ix2 q j) = (∑ k : Fin 128, x0 (ix2 q k) * w0 (ix2 k j)) + ∑ k : Fin 128, x1 (ix2 q k) * w1 (ix2 k j) := by
  pointwise [k0_pay3, k0_pay1, k0_pay2]

theorem prep_at4 (x0 x1 : Vec Ideal S64x128 .f32) (w0 w1 : Vec Ideal S128x512 .bf16) (q : Fin 64) (j : Fin 512) :
    k0_pay4 x0 x1 w0 w1 (ix2 q j) = (∑ k : Fin 128, x0 (ix2 q k) * w0 (ix2 k j)) + ∑ k : Fin 128, x1 (ix2 q k) * w1 (ix2 k j) := by
  pointwise [k0_pay4, k0_pay1, k0_pay2]

/-- The scores: row `r`'s left factor times its right factor, added up. -/
theorem logits_at (hi hj rel : Vec Ideal S512x128 .f32) (q0 q1 k0 k1 : Vec Ideal S128x512 .bf16) (qq qk : Vec Ideal S1x1x512 .f32) (r : Fin 512) :
    k2_pay1 (k2_pay2 hi hj rel q0 q1 qq k0 k1 qk) (ix3 (0 : Fin 1) (0 : Fin 1) r)
      = ∑ j : Fin 512, ((∑ k : Fin 128, hi (ix2 r k) * q0 (ix2 k j)) + (∑ k : Fin 128, rel (ix2 r k) * q1 (ix2 k j)) + qq (ix3 (0 : Fin 1) (0 : Fin 1) j))
          * ((∑ k : Fin 128, hj (ix2 r k) * k0 (ix2 k j)) + (∑ k : Fin 128, rel (ix2 r k) * k1 (ix2 k j)) + qk (ix3 (0 : Fin 1) (0 : Fin 1) j)) := by
  pointwise [k2_pay1, k2_pay2]

/-- The closing call's linear layer at one row and column; -/
def line (mark : EReal) (a x : Fin 128 → EReal) (w : Fin 128 → EReal) (b : EReal) : EReal :=
  (∑ k : Fin 128, (Scalar.select (FloatOps.cmpf (F := Ideal) (φ := .f32) .ogt mark 0) (a k) (x k)) * w k) + b
/-- its rectifier. -/
def leaky (y : EReal) : EReal := Scalar.select (FloatOps.cmpf (F := Ideal) (φ := .f32) .ogt y 0) y ((Ideal.ofBits .f32 0x3C23D70A#32 : EReal) * y)

theorem finish_at1 (x0 : Vec Ideal S2000x1 .f32) (r : Fin 2000) (c : Fin 1) : k3_pay1 x0 (ix2 r c) = x0 (ix2 r c) := by
  pointwise [k3_pay1]

theorem finish_at2 (m : Vec Ideal S2000x1 .f32) (a x : Vec Ideal S2000x128 .f32) (w : Vec Ideal S128x128 .bf16) (b : Vec Ideal S1x128 .f32) (r : Fin 2000) (c : Fin 128) :
    k3_pay2 m a x w b (ix2 r c)
      = leaky (line (m (ix2 r (0 : Fin 1))) (fun k => a (ix2 r k)) (fun k => x (ix2 r k)) (fun k => w (ix2 k c)) (b (ix2 (0 : Fin 1) c))) := by
  pointwise [k3_pay2, leaky, line]

end Cert.Proof.Value

end
-- ==== Proof.Value.Arrays.lean ====
/-
  What the edges' scores hold when their call has run, entry by entry over the extended reals, from
  the arrays at its entry.
-/
module

public import proofs.«01_k».proof.Proof.Value.Payloads
public import proofs.«01_k».proof.Proof.Region.Logits
public import Idealize.ShloMosaic.Lib.Pipeline.Value

@[expose] public section

set_option maxRecDepth 16384
set_option Elab.async false

noncomputable section

namespace Cert.Proof.Value

open Cert.KernelIdeal Cert.KernelIdeal.Gen
open Idealize.ShloMosaic Idealize.ShloMosaic.TcCoe Idealize.SL.Sem
open Idealize.ShloMosaic.SparseCore.Cfg (HIx)
open Idealize.ShloMosaic.Pipeline (Dat Cfg Window arrRef)

theorem zeros2 : (![0, 0] : Fin 2 → Nat) = fun _ => 0 := funext fun a => by fin_cases a <;> rfl
theorem zeros3 : (![0, 0, 0] : Fin 3 → Nat) = fun _ => 0 := funext fun a => by fin_cases a <;> rfl

variable (V : Valuation τ sig (Elt Ideal)) (O : CellTallies nD τ sig (HIx 1)) (B : Set (SemLoc sig × HIx 1)) (c : Dev nD)

/-! ## The edges' scores -/

/-- Edge `e`'s score, of query `q`: from the gathered rows, the relation rows, the blocks of weights and the queries' terms. -/
def scoreOf (hi hj rel : Vec Ideal S131072x128 .f32) (q0 q1 k0 k1 : Vec Ideal S128x512 .bf16) (qq qk : Vec Ideal S64x1x512 .f32)
    (e : Fin 131072) (q : Fin 64) : EReal :=
  ∑ j : Fin 512, ((∑ k : Fin 128, hi (ix2 e k) * q0 (ix2 k j)) + (∑ k : Fin 128, rel (ix2 e k) * q1 (ix2 k j)) + qq (ix3 q (0 : Fin 1) j))
    * ((∑ k : Fin 128, hj (ix2 e k) * k0 (ix2 k j)) + (∑ k : Fin 128, rel (ix2 e k) * k1 (ix2 k j)) + qk (ix3 q (0 : Fin 1) j))

/-- All of them, 512 to a block, four blocks to a query. -/
def scores : Vec Ideal S256x1x512 .f32 := fun i =>
  scoreOf (V (at_ main_v27_0)) (V (at_ main_v27_1)) (V (at_ main_arg2)) (V (at_ main_v2)) (V (at_ main_v5)) (V (at_ main_v14)) (V (at_ main_v17))
    (V (at_ main_v28)) (V (at_ main_v29)) ⟨(i 0).val * 512 + (i 2).val, by have h0 : (i 0).val < 256 := (i 0).isLt; have h2 : (i 2).val < 512 := (i 2).isLt; omega⟩
    ⟨(i 0).val / 4, by have h0 : (i 0).val < 256 := (i 0).isLt; omega⟩

theorem idx2_0 : ∀ t : Fin cfg2.N, win2_0.index t = ![t.val, 0] := (by decide +kernel : ∀ t : Fin grid2.N, win2_0.index t = ![t.val, 0])
theorem idx2_1 : ∀ t : Fin cfg2.N, win2_1.index t = ![t.val, 0] := (by decide +kernel : ∀ t : Fin grid2.N, win2_1.index t = ![t.val, 0])
theorem idx2_2 : ∀ t : Fin cfg2.N, win2_2.index t = ![t.val, 0] := (by decide +kernel : ∀ t : Fin grid2.N, win2_2.index t = ![t.val, 0])
theorem idx2_3 : ∀ t : Fin cfg2.N, win2_3.index t = ![0, 0] := (by decide +kernel : ∀ t : Fin grid2.N, win2_3.index t = ![0, 0])
theorem idx2_4 : ∀ t : Fin cfg2.N, win2_4.index t = ![0, 0] := (by decide +kernel : ∀ t : Fin grid2.N, win2_4.index t = ![0, 0])
theorem idx2_5 : ∀ t : Fin cfg2.N, win2_5.index t = ![0, 0] := (by decide +kernel : ∀ t : Fin grid2.N, win2_5.index t = ![0, 0])
theorem idx2_6 : ∀ t : Fin cfg2.N, win2_6.index t = ![0, 0] := (by decide +kernel : ∀ t : Fin grid2.N, win2_6.index t = ![0, 0])
theorem idx2_7 : ∀ t : Fin cfg2.N, win2_7.index t = ![t.val / 4, 0, 0] := (by decide +kernel : ∀ t : Fin grid2.N, win2_7.index t = ![t.val / 4, 0, 0])
theorem idx2_8 : ∀ t : Fin cfg2.N, win2_8.index t = ![t.val / 4, 0, 0] := (by decide +kernel : ∀ t : Fin grid2.N, win2_8.index t = ![t.val / 4, 0, 0])
theorem idx2_9 : ∀ t : Fin cfg2.N, win2_9.index t = ![t.val, 0, 0] := (by decide +kernel : ∀ t : Fin grid2.N, win2_9.index t = ![t.val, 0, 0])

theorem lt2 (t : Fin cfg2.N) : t.val < 256 := lt_of_lt_of_eq t.isLt N_2

/-- The edge at row `r` of block `t`. -/
def edge (t : Fin cfg2.N) (r : Fin 512) : Fin 131072 := ⟨t.val * 512 + r.val, by have := lt2 t; omega⟩
/-- Its query. -/
def query (t : Fin cfg2.N) : Fin 64 := ⟨t.val / 4, by have := lt2 t; omega⟩

theorem blk2_0 (t : Fin cfg2.N) (r : Fin 512) (k : Fin 128) : Logits.iblk V 0 t (ix2 r k) = (V (at_ main_v27_0)) (ix2 (edge t r) k) := by
  show V (at_ main_v27_0) ((win2_0.rect t).emb (ix2 r k)) = _
  congr 1; funext a; apply Fin.ext; rw [Window.rect_emb_val win2_0 t _ a rfl, idx2_0]
  fin_cases a
  · rfl
  · exact Nat.zero_add _
theorem blk2_1 (t : Fin cfg2.N) (r : Fin 512) (k : Fin 128) : Logits.iblk V 1 t (ix2 r k) = (V (at_ main_v27_1)) (ix2 (edge t r) k) := by
  show V (at_ main_v27_1) ((win2_1.rect t).emb (ix2 r k)) = _
  congr 1; funext a; apply Fin.ext; rw [Window.rect_emb_val win2_1 t _ a rfl, idx2_1]
  fin_cases a
  · rfl
  · exact Nat.zero_add _
theorem blk2_2 (t : Fin cfg2.N) (r : Fin 512) (k : Fin 128) : Logits.iblk V 2 t (ix2 r k) = (V (at_ main_arg2)) (ix2 (edge t r) k) := by
  show V (at_ main_arg2) ((win2_2.rect t).emb (ix2 r k)) = _
  congr 1; funext a; apply Fin.ext; rw [Window.rect_emb_val win2_2 t _ a rfl, idx2_2]
  fin_cases a
  · rfl
  · exact Nat.zero_add _
theorem blk2_3 (t : Fin cfg2.N) (k : Fin 128) (j : Fin 512) : Logits.iblk V 3 t (ix2 k j) = (V (at_ main_v2)) (ix2 k j) := by
  show V (at_ main_v2) ((win2_3.rect t).emb (ix2 k j)) = _
  congr 1; funext a; apply Fin.ext; rw [Window.rect_emb_val win2_3 t _ a rfl, idx2_3]
  fin_cases a <;> exact Nat.zero_add _
theorem blk2_4 (t : Fin cfg2.N) (k : Fin 128) (j : Fin 512) : Logits.iblk V 4 t (ix2 k j) = (V (at_ main_v5)) (ix2 k j) := by
  show V (at_ main_v5) ((win2_4.rect t).emb (ix2 k j)) = _
  congr 1; funext a; apply Fin.ext; rw [Window.rect_emb_val win2_4 t _ a rfl, idx2_4]
  fin_cases a <;> exact Nat.zero_add _
theorem blk2_5 (t : Fin cfg2.N) (k : Fin 128) (j : Fin 512) : Logits.iblk V 5 t (ix2 k j) = (V (at_ main_v14)) (ix2 k j) := by
  show V (at_ main_v14) ((win2_5.rect t).emb (ix2 k j)) = _
  congr 1; funext a; apply Fin.ext; rw [Window.rect_emb_val win2_5 t _ a rfl, idx2_5]
  fin_cases a <;> exact Nat.zero_add _
theorem blk2_6 (t : Fin cfg2.N) (k : Fin 128) (j : Fin 512) : Logits.iblk V 6 t (ix2 k j) = (V (at_ main_v17)) (ix2 k j) := by
  show V (at_ main_v17) ((win2_6.rect t).emb (ix2 k j)) = _
  congr 1; funext a; apply Fin.ext; rw [Window.rect_emb_val win2_6 t _ a rfl, idx2_6]
  fin_cases a <;> exact Nat.zero_add _
theorem blk2_7 (t : Fin cfg2.N) (j : Fin 512) : Logits.iblk V 7 t (ix3 (0 : Fin 1) (0 : Fin 1) j) = (V (at_ main_v28)) (ix3 (query t) (0 : Fin 1) j) := by
  show V (at_ main_v28) ((win2_7.rect t).emb (ix3 (0 : Fin 1) (0 : Fin 1) j)) = _
  congr 1; funext a; apply Fin.ext; rw [Window.rect_emb_val win2_7 t _ a rfl, idx2_7]
  fin_cases a
  · exact Nat.mul_one _
  · rfl
  · exact Nat.zero_add _
theorem blk2_8 (t : Fin cfg2.N) (j : Fin 512) : Logits.iblk V 8 t (ix3 (0 : Fin 1) (0 : Fin 1) j) = (V (at_ main_v29)) (ix3 (query t) (0 : Fin 1) j) := by
  show V (at_ main_v29) ((win2_8.rect t).emb (ix3 (0 : Fin 1) (0 : Fin 1) j)) = _
  congr 1; funext a; apply Fin.ext; rw [Window.rect_emb_val win2_8 t _ a rfl, idx2_8]
  fin_cases a
  · exact Nat.mul_one _
  · rfl
  · exact Nat.zero_add _

theorem scores_at (i : S256x1x512.Idx) (t : Fin cfg2.N) (r : Fin 512) (h0 : (i 0).val = t.val) (h2 : (i 2).val = r.val) :
    scores V i = scoreOf (V (at_ main_v27_0)) (V (at_ main_v27_1)) (V (at_ main_arg2)) (V (at_ main_v2)) (V (at_ main_v5)) (V (at_ main_v14))
      (V (at_ main_v17)) (V (at_ main_v28)) (V (at_ main_v29)) (edge t r) (query t) := by
  unfold scores
  congr 1
  · exact Fin.ext (by show (i 0).val * 512 + (i 2).val = t.val * 512 + r.val; rw [h0, h2])
  · exact Fin.ext (by show (i 0).val / 4 = t.val / 4; rw [h0])

/-- A point writes back its 512 scores. -/
theorem scores_flushed (t : Fin cfg2.N) :
    (Logits.dat V O B c).flushed 9 t = ((cfg2.win 9).blk t).view.read (Elt Ideal) (scores V) := by
  show (cfg2.win 9).cut (grid2.coords t) ((Logits.dat V O B c).after 9 t) = _
  rw [Logits.after9]
  unfold Logits.out9
  rw [View.canon_unit_zero zeros3]
  simp only [View.ld_unit_zero (S := S512x128) zeros2, View.ld_unit_zero (S := S128x512) zeros2, View.ld_unit_zero (S := S1x1x512) zeros3]
  funext y
  obtain ⟨r, rfl⟩ : ∃ r : Fin 512, y = ix3 (0 : Fin 1) (0 : Fin 1) r := ⟨y 2, funext fun a => by
    match a with
    | ⟨0, _⟩ => exact Subsingleton.elim (α := Fin 1) _ _
    | ⟨1, _⟩ => exact Subsingleton.elim (α := Fin 1) _ _
    | ⟨2, _⟩ => rfl⟩
  refine (logits_at _ _ _ _ _ _ _ _ _ r).trans ?_
  show _ = scores V ((win2_9.rect t).emb (ix3 (0 : Fin 1) (0 : Fin 1) r))
  have h0 : (((win2_9.rect t).emb (ix3 (0 : Fin 1) (0 : Fin 1) r) 0 : Fin _) : Nat) = t.val := by
    rw [Window.rect_emb_val win2_9 t _ 0 rfl, idx2_9]; exact Nat.mul_one _
  have h2 : (((win2_9.rect t).emb (ix3 (0 : Fin 1) (0 : Fin 1) r) 2 : Fin _) : Nat) = r.val := by
    rw [Window.rect_emb_val win2_9 t _ 2 rfl, idx2_9]; exact Nat.zero_add _
  rw [scores_at V _ t r h0 h2]
  unfold scoreOf
  simp only [blk2_0, blk2_1, blk2_2, blk2_3, blk2_4, blk2_5, blk2_6, blk2_7, blk2_8]

/-- The blocks cover the array. -/
theorem scores_cover (i : S256x1x512.Idx) : ∃ t : Fin cfg2.N, (cfg2.win 9).flush t = true ∧ i ∈ ((cfg2.win 9).blk t).view.set := by
  have h0 : (i 0).val < 256 := (i 0).isLt
  have h1 : (i 1).val < 1 := (i 1).isLt
  have h2 : (i 2).val < 512 := (i 2).isLt
  refine ⟨⟨(i 0).val, lt_of_lt_of_eq h0 N_2.symm⟩, flush2_9 _, ?_⟩
  generalize ht : (⟨(i 0).val, lt_of_lt_of_eq h0 N_2.symm⟩ : Fin cfg2.N) = t
  have e : t.val = (i 0).val := by rw [← ht]
  show i ∈ ((View.whole main_v30).slice (win2_9.rect t)).set
  rw [View.set_slice_whole, Rect.mem_set_unit]
  intro a
  show win2_9.index t a * win2_9.size a ≤ (i a).val ∧ (i a).val < win2_9.index t a * win2_9.size a + win2_9.size a
  rw [idx2_9]
  match a with
  | ⟨0, _⟩ => show t.val * 1 ≤ (i 0).val ∧ (i 0).val < t.val * 1 + 1; omega
  | ⟨1, _⟩ => show 0 * 1 ≤ (i 1).val ∧ (i 1).val < 0 * 1 + 1; omega
  | ⟨2, _⟩ => show 0 * 512 ≤ (i 2).val ∧ (i 2).val < 0 * 512 + 512; omega

theorem scores_final : (Logits.dat V O B c).arrAt 9 cfg2.N = scores V :=
  (Logits.dat V O B c).arrAt_eq_of_cover 9 (scores V) (fun t _ => scores_flushed V O B c t) scores_cover

end Cert.Proof.Value

end
-- ==== Proof.Value.Ends.lean ====
/-
  What the results of the preparation and of the closing call hold when they have run, entry by entry over the extended
  reals, from the arrays at their entry.
-/
module

public import proofs.«01_k».proof.Proof.Value.Payloads
public import proofs.«01_k».proof.Proof.Region.Prep
public import proofs.«01_k».proof.Proof.Region.Finish
public import Idealize.ShloMosaic.Lib.Pipeline.Value

@[expose] public section

set_option maxRecDepth 16384
set_option Elab.async false

noncomputable section

namespace Cert.Proof.Value.Ends

open Cert.KernelIdeal Cert.KernelIdeal.Gen Cert.Proof.Value
open Idealize.ShloMosaic Idealize.ShloMosaic.TcCoe Idealize.SL.Sem
open Idealize.ShloMosaic.SparseCore.Cfg (HIx)
open Idealize.ShloMosaic.Pipeline (Dat Cfg Window arrRef)

theorem zeros : (![0, 0] : Fin 2 → Nat) = fun _ => 0 := funext fun a => by fin_cases a <;> rfl

variable (V : Valuation τ sig (Elt Ideal)) (O : CellTallies nD τ sig (HIx 1)) (B : Set (SemLoc sig × HIx 1)) (c : Dev nD)

/-! ## The preparation's two tables -/

/-- A row of two tables times two blocks of weights. -/
def termOf (x0 x1 : Vec Ideal S64x128 .f32) (w0 w1 : Vec Ideal S128x512 .bf16) : Vec Ideal S64x512 .f32 := fun i =>
  (∑ k : Fin 128, x0 (ix2 (n0 := 64) (n1 := 128) (i 0) k) * w0 (ix2 (n0 := 128) (n1 := 512) k (i 1)))
    + ∑ k : Fin 128, x1 (ix2 (n0 := 64) (n1 := 128) (i 0) k) * w1 (ix2 (n0 := 128) (n1 := 512) k (i 1))

theorem whole0_0 : ∀ (t : Fin cfg0.N) a, win0_0.index t a = 0 := (by decide +kernel : ∀ (t : Fin grid0.N) a, win0_0.index t a = 0)
theorem whole0_1 : ∀ (t : Fin cfg0.N) a, win0_1.index t a = 0 := (by decide +kernel : ∀ (t : Fin grid0.N) a, win0_1.index t a = 0)
theorem whole0_2 : ∀ (t : Fin cfg0.N) a, win0_2.index t a = 0 := (by decide +kernel : ∀ (t : Fin grid0.N) a, win0_2.index t a = 0)
theorem whole0_3 : ∀ (t : Fin cfg0.N) a, win0_3.index t a = 0 := (by decide +kernel : ∀ (t : Fin grid0.N) a, win0_3.index t a = 0)
theorem whole0_4 : ∀ (t : Fin cfg0.N) a, win0_4.index t a = 0 := (by decide +kernel : ∀ (t : Fin grid0.N) a, win0_4.index t a = 0)
theorem whole0_5 : ∀ (t : Fin cfg0.N) a, win0_5.index t a = 0 := (by decide +kernel : ∀ (t : Fin grid0.N) a, win0_5.index t a = 0)
theorem whole0_6 : ∀ (t : Fin cfg0.N) a, win0_6.index t a = 0 := (by decide +kernel : ∀ (t : Fin grid0.N) a, win0_6.index t a = 0)
theorem whole0_7 : ∀ (t : Fin cfg0.N) a, win0_7.index t a = 0 := (by decide +kernel : ∀ (t : Fin grid0.N) a, win0_7.index t a = 0)
theorem blk0_0 (t : Fin cfg0.N) : Prep.iblk V 0 t = V (at_ main_arg3) := by
  funext y
  show V (at_ main_arg3) ((win0_0.rect t).emb y) = _
  congr 1; funext a; exact Fin.ext (Window.rect_emb_val_of_index_zero win0_0 t a (whole0_0 t a) y)
theorem blk0_1 (t : Fin cfg0.N) : Prep.iblk V 1 t = V (at_ main_arg4) := by
  funext y
  show V (at_ main_arg4) ((win0_1.rect t).emb y) = _
  congr 1; funext a; exact Fin.ext (Window.rect_emb_val_of_index_zero win0_1 t a (whole0_1 t a) y)
theorem blk0_2 (t : Fin cfg0.N) : Prep.iblk V 2 t = V (at_ main_v8) := by
  funext y
  show V (at_ main_v8) ((win0_2.rect t).emb y) = _
  congr 1; funext a; exact Fin.ext (Window.rect_emb_val_of_index_zero win0_2 t a (whole0_2 t a) y)
theorem blk0_3 (t : Fin cfg0.N) : Prep.iblk V 3 t = V (at_ main_v11) := by
  funext y
  show V (at_ main_v11) ((win0_3.rect t).emb y) = _
  congr 1; funext a; exact Fin.ext (Window.rect_emb_val_of_index_zero win0_3 t a (whole0_3 t a) y)
theorem blk0_4 (t : Fin cfg0.N) : Prep.iblk V 4 t = V (at_ main_v20) := by
  funext y
  show V (at_ main_v20) ((win0_4.rect t).emb y) = _
  congr 1; funext a; exact Fin.ext (Window.rect_emb_val_of_index_zero win0_4 t a (whole0_4 t a) y)
theorem blk0_5 (t : Fin cfg0.N) : Prep.iblk V 5 t = V (at_ main_v23) := by
  funext y
  show V (at_ main_v23) ((win0_5.rect t).emb y) = _
  congr 1; funext a; exact Fin.ext (Window.rect_emb_val_of_index_zero win0_5 t a (whole0_5 t a) y)

theorem flushed0_6 (t : Fin cfg0.N) : (Prep.dat V O B c).flushed 6 t = ((cfg0.win 6).blk t).view.read (Elt Ideal) (termOf (V (at_ main_arg3)) (V (at_ main_arg4)) (V (at_ main_v8)) (V (at_ main_v11))) := by
  show (cfg0.win 6).cut (grid0.coords t) ((Prep.dat V O B c).after 6 t) = _
  rw [Prep.after6]
  unfold Prep.out6
  rw [View.canon_unit_zero zeros]
  simp only [View.ld_unit_zero (S := S64x128) zeros, View.ld_unit_zero (S := S128x512) zeros, blk0_0, blk0_1, blk0_2, blk0_3, blk0_4, blk0_5]
  funext y
  have hy : (win0_6.rect t).emb y = y := funext fun a => Fin.ext (Window.rect_emb_val_of_index_zero win0_6 t a (whole0_6 t a) y)
  show _ = termOf (V (at_ main_arg3)) (V (at_ main_arg4)) (V (at_ main_v8)) (V (at_ main_v11)) ((win0_6.rect t).emb y)
  rw [hy]
  obtain ⟨q, j, rfl⟩ : ∃ (q : Fin 64) (j : Fin 512), y = ix2 q j := ⟨y 0, y 1, eq_ix2 (n0 := 64) (n1 := 512) y⟩
  exact prep_at3 _ _ _ _ q j

theorem cover0_6 (i : S64x512.Idx) : ∃ t : Fin cfg0.N, (cfg0.win 6).flush t = true ∧ i ∈ ((cfg0.win 6).blk t).view.set := by
  refine ⟨⟨0, by decide⟩, flush0_6 _, ?_⟩
  have hy : ∀ t, (win0_6.rect t).emb i = i := fun t => funext fun a => Fin.ext (Window.rect_emb_val_of_index_zero win0_6 t a (whole0_6 t a) i)
  exact (hy _) ▸ ((cfg0.win 6).blk _).view.emb_mem_set i

theorem final0_6 : (Prep.dat V O B c).arrAt 6 cfg0.N = termOf (V (at_ main_arg3)) (V (at_ main_arg4)) (V (at_ main_v8)) (V (at_ main_v11)) :=
  (Prep.dat V O B c).arrAt_eq_of_cover 6 _ (fun t _ => flushed0_6 V O B c t) cover0_6

theorem flushed0_7 (t : Fin cfg0.N) : (Prep.dat V O B c).flushed 7 t = ((cfg0.win 7).blk t).view.read (Elt Ideal) (termOf (V (at_ main_arg3)) (V (at_ main_arg4)) (V (at_ main_v20)) (V (at_ main_v23))) := by
  show (cfg0.win 7).cut (grid0.coords t) ((Prep.dat V O B c).after 7 t) = _
  rw [Prep.after7]
  unfold Prep.out7
  rw [View.canon_unit_zero zeros]
  simp only [View.ld_unit_zero (S := S64x128) zeros, View.ld_unit_zero (S := S128x512) zeros, blk0_0, blk0_1, blk0_2, blk0_3, blk0_4, blk0_5]
  funext y
  have hy : (win0_7.rect t).emb y = y := funext fun a => Fin.ext (Window.rect_emb_val_of_index_zero win0_7 t a (whole0_7 t a) y)
  show _ = termOf (V (at_ main_arg3)) (V (at_ main_arg4)) (V (at_ main_v20)) (V (at_ main_v23)) ((win0_7.rect t).emb y)
  rw [hy]
  obtain ⟨q, j, rfl⟩ : ∃ (q : Fin 64) (j : Fin 512), y = ix2 q j := ⟨y 0, y 1, eq_ix2 (n0 := 64) (n1 := 512) y⟩
  exact prep_at4 _ _ _ _ q j

theorem cover0_7 (i : S64x512.Idx) : ∃ t : Fin cfg0.N, (cfg0.win 7).flush t = true ∧ i ∈ ((cfg0.win 7).blk t).view.set := by
  refine ⟨⟨0, by decide⟩, flush0_7 _, ?_⟩
  have hy : ∀ t, (win0_7.rect t).emb i = i := fun t => funext fun a => Fin.ext (Window.rect_emb_val_of_index_zero win0_7 t a (whole0_7 t a) i)
  exact (hy _) ▸ ((cfg0.win 7).blk _).view.emb_mem_set i

theorem final0_7 : (Prep.dat V O B c).arrAt 7 cfg0.N = termOf (V (at_ main_arg3)) (V (at_ main_arg4)) (V (at_ main_v20)) (V (at_ main_v23)) :=
  (Prep.dat V O B c).arrAt_eq_of_cover 7 _ (fun t _ => flushed0_7 V O B c t) cover0_7

/-! ## The closing call -/

theorem lt3 (t : Fin cfg3.N) : t.val < 25 := lt_of_lt_of_eq t.isLt N_3

/-- The node at row `r` of block `t`. -/
def node (t : Fin cfg3.N) (r : Fin 2000) : Fin 50000 := ⟨t.val * 2000 + r.val, by have := lt3 t; omega⟩

/-- The nodes' new rows. -/
def rowsNew : Vec Ideal S50000x128 .f32 := fun i =>
  leaky (line ((V (at_ main_v153) : Vec Ideal S50000x1 .f32) (ix2 (n0 := 50000) (n1 := 1) (i 0) 0)) (fun k => (V (at_ main_v151) : Vec Ideal S50000x128 .f32) (ix2 (n0 := 50000) (n1 := 128) (i 0) k))
    (fun k => (V (at_ main_arg1) : Vec Ideal S50000x128 .f32) (ix2 (n0 := 50000) (n1 := 128) (i 0) k)) (fun k => (V (at_ main_v25) : Vec Ideal S128x128 .bf16) (ix2 (n0 := 128) (n1 := 128) k (i 1)))
    ((V (at_ main_v154) : Vec Ideal S1x128 .f32) (ix2 (n0 := 1) (n1 := 128) 0 (i 1))))

theorem idx3_0 : ∀ t : Fin cfg3.N, win3_0.index t = ![t.val, 0] := (by decide +kernel : ∀ t : Fin grid3.N, win3_0.index t = ![t.val, 0])
theorem idx3_1 : ∀ t : Fin cfg3.N, win3_1.index t = ![t.val, 0] := (by decide +kernel : ∀ t : Fin grid3.N, win3_1.index t = ![t.val, 0])
theorem idx3_2 : ∀ t : Fin cfg3.N, win3_2.index t = ![t.val, 0] := (by decide +kernel : ∀ t : Fin grid3.N, win3_2.index t = ![t.val, 0])
theorem idx3_3 : ∀ t : Fin cfg3.N, win3_3.index t = ![t.val, 0] := (by decide +kernel : ∀ t : Fin grid3.N, win3_3.index t = ![t.val, 0])
theorem idx3_4 : ∀ t : Fin cfg3.N, win3_4.index t = ![0, 0] := (by decide +kernel : ∀ t : Fin grid3.N, win3_4.index t = ![0, 0])
theorem idx3_5 : ∀ t : Fin cfg3.N, win3_5.index t = ![0, 0] := (by decide +kernel : ∀ t : Fin grid3.N, win3_5.index t = ![0, 0])
theorem idx3_6 : ∀ t : Fin cfg3.N, win3_6.index t = ![t.val, 0] := (by decide +kernel : ∀ t : Fin grid3.N, win3_6.index t = ![t.val, 0])
theorem idx3_7 : ∀ t : Fin cfg3.N, win3_7.index t = ![t.val, 0] := (by decide +kernel : ∀ t : Fin grid3.N, win3_7.index t = ![t.val, 0])
theorem blk3_0 (t : Fin cfg3.N) (r : Fin 2000) (k : Fin 1) : Finish.iblk V 0 t (ix2 r k) = (V (at_ main_v152)) (ix2 (node t r) k) := by
  show V (at_ main_v152) ((win3_0.rect t).emb (ix2 r k)) = _
  congr 1; funext a; apply Fin.ext; rw [Window.rect_emb_val win3_0 t _ a rfl, idx3_0]
  fin_cases a
  · rfl
  · exact Nat.zero_add _
theorem blk3_1 (t : Fin cfg3.N) (r : Fin 2000) (k : Fin 1) : Finish.iblk V 1 t (ix2 r k) = (V (at_ main_v153)) (ix2 (node t r) k) := by
  show V (at_ main_v153) ((win3_1.rect t).emb (ix2 r k)) = _
  congr 1; funext a; apply Fin.ext; rw [Window.rect_emb_val win3_1 t _ a rfl, idx3_1]
  fin_cases a
  · rfl
  · exact Nat.zero_add _
theorem blk3_2 (t : Fin cfg3.N) (r : Fin 2000) (k : Fin 128) : Finish.iblk V 2 t (ix2 r k) = (V (at_ main_v151)) (ix2 (node t r) k) := by
  show V (at_ main_v151) ((win3_2.rect t).emb (ix2 r k)) = _
  congr 1; funext a; apply Fin.ext; rw [Window.rect_emb_val win3_2 t _ a rfl, idx3_2]
  fin_cases a
  · rfl
  · exact Nat.zero_add _
theorem blk3_3 (t : Fin cfg3.N) (r : Fin 2000) (k : Fin 128) : Finish.iblk V 3 t (ix2 r k) = (V (at_ main_arg1)) (ix2 (node t r) k) := by
  show V (at_ main_arg1) ((win3_3.rect t).emb (ix2 r k)) = _
  congr 1; funext a; apply Fin.ext; rw [Window.rect_emb_val win3_3 t _ a rfl, idx3_3]
  fin_cases a
  · rfl
  · exact Nat.zero_add _
theorem blk3_4 (t : Fin cfg3.N) (r : Fin 128) (k : Fin 128) : Finish.iblk V 4 t (ix2 r k) = (V (at_ main_v25)) (ix2 r k) := by
  show V (at_ main_v25) ((win3_4.rect t).emb (ix2 r k)) = _
  congr 1; funext a; apply Fin.ext; rw [Window.rect_emb_val win3_4 t _ a rfl, idx3_4]
  fin_cases a <;> exact Nat.zero_add _
theorem blk3_5 (t : Fin cfg3.N) (r : Fin 1) (k : Fin 128) : Finish.iblk V 5 t (ix2 r k) = (V (at_ main_v154)) (ix2 r k) := by
  show V (at_ main_v154) ((win3_5.rect t).emb (ix2 r k)) = _
  congr 1; funext a; apply Fin.ext; rw [Window.rect_emb_val win3_5 t _ a rfl, idx3_5]
  fin_cases a <;> exact Nat.zero_add _

theorem emb3_6 (t : Fin cfg3.N) (r : Fin 2000) (k : Fin 1) : (win3_6.rect t).emb (ix2 r k) = ix2 (node t r) k := by
  funext a; apply Fin.ext; rw [Window.rect_emb_val win3_6 t _ a rfl, idx3_6]
  fin_cases a
  · rfl
  · exact Nat.zero_add _

theorem flushed3_6 (t : Fin cfg3.N) : (Finish.dat V O B c).flushed 6 t = ((cfg3.win 6).blk t).view.read (Elt Ideal) (V (at_ main_v152)) := by
  show (cfg3.win 6).cut (grid3.coords t) ((Finish.dat V O B c).after 6 t) = _
  rw [Finish.after6]
  unfold Finish.out6
  rw [View.canon_unit_zero zeros]
  simp only [View.ld_unit_zero (S := S2000x1) zeros, View.ld_unit_zero (S := S2000x128) zeros, View.ld_unit_zero (S := S128x128) zeros, View.ld_unit_zero (S := S1x128) zeros]
  funext y
  obtain ⟨r, k, rfl⟩ : ∃ (r : Fin 2000) (k : Fin 1), y = ix2 r k := ⟨y 0, y 1, eq_ix2 (n0 := 2000) (n1 := 1) y⟩
  show _ = (V (at_ main_v152)) ((win3_6.rect t).emb (ix2 r k))
  rw [emb3_6]
  refine (finish_at1 _ r k).trans ?_
  exact blk3_0 V t r k

theorem cover3_6 (i : S50000x1.Idx) : ∃ t : Fin cfg3.N, (cfg3.win 6).flush t = true ∧ i ∈ ((cfg3.win 6).blk t).view.set := by
  obtain ⟨v, k, rfl⟩ : ∃ (v : Fin 50000) (k : Fin 1), i = ix2 v k := ⟨i 0, i 1, eq_ix2 (n0 := 50000) (n1 := 1) i⟩
  have hN : v.val / 2000 < cfg3.N := lt_of_lt_of_eq (by omega) N_3.symm
  refine ⟨⟨v.val / 2000, hN⟩, flush3_6 _, ?_⟩
  have hi : (win3_6.rect ⟨v.val / 2000, hN⟩).emb (ix2 (⟨v.val % 2000, Nat.mod_lt _ (by decide)⟩ : Fin 2000) k) = ix2 v k := by
    rw [emb3_6]; congr 1; exact Fin.ext (Nat.div_add_mod' _ _)
  have hm := ((cfg3.win 6).blk ⟨v.val / 2000, hN⟩).view.emb_mem_set (ix2 (⟨v.val % 2000, Nat.mod_lt _ (by decide)⟩ : Fin 2000) k)
  exact (congrArg (· ∈ ((cfg3.win 6).blk ⟨v.val / 2000, hN⟩).view.set) hi).mp hm

theorem final3_6 : (Finish.dat V O B c).arrAt 6 cfg3.N = V (at_ main_v152) :=
  (Finish.dat V O B c).arrAt_eq_of_cover 6 _ (fun t _ => flushed3_6 V O B c t) cover3_6

theorem emb3_7 (t : Fin cfg3.N) (r : Fin 2000) (k : Fin 128) : (win3_7.rect t).emb (ix2 r k) = ix2 (node t r) k := by
  funext a; apply Fin.ext; rw [Window.rect_emb_val win3_7 t _ a rfl, idx3_7]
  fin_cases a
  · rfl
  · exact Nat.zero_add _

theorem flushed3_7 (t : Fin cfg3.N) : (Finish.dat V O B c).flushed 7 t = ((cfg3.win 7).blk t).view.read (Elt Ideal) (rowsNew V) := by
  show (cfg3.win 7).cut (grid3.coords t) ((Finish.dat V O B c).after 7 t) = _
  rw [Finish.after7]
  unfold Finish.out7
  rw [View.canon_unit_zero zeros]
  simp only [View.ld_unit_zero (S := S2000x1) zeros, View.ld_unit_zero (S := S2000x128) zeros, View.ld_unit_zero (S := S128x128) zeros, View.ld_unit_zero (S := S1x128) zeros]
  funext y
  obtain ⟨r, k, rfl⟩ : ∃ (r : Fin 2000) (k : Fin 128), y = ix2 r k := ⟨y 0, y 1, eq_ix2 (n0 := 2000) (n1 := 128) y⟩
  show _ = (rowsNew V) ((win3_7.rect t).emb (ix2 r k))
  rw [emb3_7]
  refine (finish_at2 _ _ _ _ _ r k).trans ?_
  simp only [blk3_1, blk3_2, blk3_3, blk3_4, blk3_5]
  rfl

theorem cover3_7 (i : S50000x128.Idx) : ∃ t : Fin cfg3.N, (cfg3.win 7).flush t = true ∧ i ∈ ((cfg3.win 7).blk t).view.set := by
  obtain ⟨v, k, rfl⟩ : ∃ (v : Fin 50000) (k : Fin 128), i = ix2 v k := ⟨i 0, i 1, eq_ix2 (n0 := 50000) (n1 := 128) i⟩
  have hN : v.val / 2000 < cfg3.N := lt_of_lt_of_eq (by omega) N_3.symm
  refine ⟨⟨v.val / 2000, hN⟩, flush3_7 _, ?_⟩
  have hi : (win3_7.rect ⟨v.val / 2000, hN⟩).emb (ix2 (⟨v.val % 2000, Nat.mod_lt _ (by decide)⟩ : Fin 2000) k) = ix2 v k := by
    rw [emb3_7]; congr 1; exact Fin.ext (Nat.div_add_mod' _ _)
  have hm := ((cfg3.win 7).blk ⟨v.val / 2000, hN⟩).view.emb_mem_set (ix2 (⟨v.val % 2000, Nat.mod_lt _ (by decide)⟩ : Fin 2000) k)
  exact (congrArg (· ∈ ((cfg3.win 7).blk ⟨v.val / 2000, hN⟩).view.set) hi).mp hm

theorem final3_7 : (Finish.dat V O B c).arrAt 7 cfg3.N = rowsNew V :=
  (Finish.dat V O B c).arrAt_eq_of_cover 7 _ (fun t _ => flushed3_7 V O B c t) cover3_7

end Cert.Proof.Value.Ends

end
-- ==== Proof.Value.Kernel.lean ====
/-
  The kernel's two results as terms of the arguments and of the edges' logits: the stretches of host operations composed.
-/
module

public import proofs.«01_k».proof.Proof.Host.Main
public import proofs.«01_k».proof.Proof.Value.Terms
public import proofs.«01_k».proof.Proof.Value.Arrays
public import proofs.«01_k».proof.Proof.Value.Ends

@[expose] public section

set_option Elab.async false

noncomputable section

namespace Cert.Proof.Value

open Cert.KernelIdeal Cert.KernelIdeal.Gen Cert.Proof.Host Cert.Proof.Region Cert.Proof.Tile
open Idealize.ShloMosaic Idealize.ShloMosaic.TcCoe Idealize.SL.Sem Idealize.ShloMosaic.StableHlo
open Idealize.ShloMosaic.Pipeline (afterRegion_arr)

variable (m : (ℓ : Loc nD τ sig) → Buf (Elt Ideal) ℓ) (d : Dev nD)

/-- The edges' logits, as the scoring call leaves them. -/
def logits : FVec Ideal S131072 .f32 := shapeCast S131072 (scores (V4 m d)) shapeCasts_S256x1x512_S131072
/-- The softmax over each node's edges, -/
def softs : FVec Ideal S131072 .f32 := soft (m (d, ref main_arg9)) (logits m d)
/-- the scored edges, -/
def targets : FVec Ideal S131072 .f32 := mulf (softs m d) (perEdge (m (d, ref main_arg9)) (m (d, ref main_arg0)))
/-- the best of them, -/
def best : IVec S8192 32 := chosen (targets m d)
/-- where these begin -/
def begins : IVec S8192 32 := pick (F := Ideal) (e := .i32) (m (d, ref main_arg9)) (best m d)
/-- and end. -/
def ends : IVec S8192 32 := pick (F := Ideal) (e := .i32) (m (d, ref main_arg10)) (best m d)

/-! ## What the calls take -/

theorem at2_q : V2 m d (ref main_v26_0)
    = Ends.termOf (V1 m d (ref main_arg3)) (V1 m d (ref main_arg4)) (V1 m d (ref main_v8)) (V1 m d (ref main_v11)) :=
  (afterRegion_arr (fam (V1 m d) 0 0 d) (V1 m d) winFacts0.arr_inj 6).trans (Ends.final0_6 (V1 m d) _ _ d)
theorem at2_k : V2 m d (ref main_v26_1)
    = Ends.termOf (V1 m d (ref main_arg3)) (V1 m d (ref main_arg4)) (V1 m d (ref main_v20)) (V1 m d (ref main_v23)) :=
  (afterRegion_arr (fam (V1 m d) 0 0 d) (V1 m d) winFacts0.arr_inj 7).trans (Ends.final0_7 (V1 m d) _ _ d)

theorem at4_q : V4 m d (ref main_v28) = shapeCast S64x1x512 (V2 m d (ref main_v26_0)) shapeCasts_S64x512_S64x1x512 := by
  unfold V4; rw [shape_q, V3_keeps m d main_v26_0 (by decide)]
theorem at4_k : V4 m d (ref main_v29) = shapeCast S64x1x512 (V2 m d (ref main_v26_1)) shapeCasts_S64x512_S64x1x512 := by
  unfold V4; rw [shape_k, V3_keeps m d main_v26_1 (by decide)]
theorem at4_rows : V4 m d (ref main_v27_0) = rowsO (mX m) (mS m) d := by
  refine (opsShape_keeps _ main_v27_0 (by decide)).trans ?_
  unfold V3
  rw [Function.update_of_ne (fun e => absurd (Proc.devRef_injective _ e) (by decide : (main_v27_0 : Ref sig .tc) ≠ pR))]
  exact Function.update_self ..
theorem at4_rows' : V4 m d (ref main_v27_1) = rowsP (mX m) (mR m) d := by
  refine (opsShape_keeps _ main_v27_1 (by decide)).trans ?_
  unfold V3
  exact Function.update_self ..
/-- An array the preparation writes is still there when the edges are scored. -/
theorem at4_keeps (r : Ref sig .tc) (h2 : r ≠ main_v26_0 ∧ r ≠ main_v26_1) (h3 : r ≠ oR ∧ r ≠ pR) (h4 : r ∉ writtenShape) :
    V4 m d (ref r) = V1 m d (ref r) :=
  (opsShape_keeps _ r h4).trans ((V3_keeps m d r h3).trans (V2_keeps m d r h2))

theorem at5_scores : V5 m d (ref main_v30) = scores (V4 m d) :=
  (afterRegion_arr (fam (V4 m d) 1 1 d) (V4 m d) winFacts2.arr_inj 9).trans (scores_final (V4 m d) _ _ d)

/-! ## Through the host operations -/

theorem at6_logits : V6 m d (ref main_v31) = logits m d := by
  unfold V6; rw [mid0_logits, at5_scores]; rfl
theorem at6_shift : V6 m d (ref main_v47) = shift (m (d, ref main_arg9)) (logits m d) := by
  unfold V6; rw [mid0_shift, at5_scores, kept5 (m := m) (d := d) (r := main_arg9) (by decide)]; rfl
theorem at6_nodes : nodes1 (V6 m d) = ofEdges (m (d, ref main_arg9)) := by
  have h1 : V6 m d (ref main_v49) = _ := mid0_negative (V5 m d)
  have h2 : V6 m d (ref main_v51) = _ := mid0_wrapped (V5 m d)
  rw [kept5 (m := m) (d := d) (r := main_arg9) (by decide)] at h1 h2
  unfold nodes1
  rw [h1, h2, kept6 (m := m) (d := d) (r := main_arg9) (by decide)]
  rfl

theorem at6_soft : soft1 (V6 m d) = softs m d := by
  unfold soft1
  rw [at6_nodes, at6_shift, at6_logits, kept6 (m := m) (d := d) (r := main_arg9) (by decide)]
  rfl
theorem at6_target : target1 (V6 m d) = targets m d := by
  unfold target1
  rw [at6_soft, kept6 (m := m) (d := d) (r := main_arg9) (by decide), kept6 (m := m) (d := d) (r := main_arg0) (by decide)]
  rfl

theorem at7_soft : V7 m d (ref main_v72) = softs m d := (mid1_soft (V6 m d)).trans (at6_soft m d)
theorem at7_target : V7 m d (ref main_v80) = targets m d := (mid1_target (V6 m d)).trans (at6_target m d)
theorem at7_best : V7 m d (ref main_v88) = best m d := by
  unfold V7; rw [mid1_chosen, at6_target]; rfl
theorem at7_begins : V7 m d (ref main_v95) = begins m d := by
  unfold V7; rw [mid1_begins, at6_target, kept6 (m := m) (d := d) (r := main_arg9) (by decide)]; rfl
theorem at7_ends : ends2 (V7 m d) = ends m d := by
  have h1 : V7 m d (ref main_v97) = _ := mid1_negative (V6 m d)
  have h2 : V7 m d (ref main_c_17) = _ := mid1_count (V6 m d)
  rw [at6_target] at h1
  unfold ends2
  rw [h1, h2, at7_best, kept7 (m := m) (d := d) (r := main_arg10) (by decide)]
  rfl

theorem at8_score : V8 m d (ref main_v124) = sumChosen (F := Ideal) (ends m d) (pick (F := Ideal) (e := .f32) (targets m d) (best m d)) := by
  unfold V8; rw [mid2_score, at7_ends, at7_target, at7_best]
theorem at8_marks : V8 m d (ref main_v133) = sumChosen (F := Ideal) (begins m d) (broadcastInDim S8192 ![] bcast_S_S8192 (constant S_ .f32 0x3F800000#32)) := by
  unfold V8; rw [mid2_marks, at7_begins]
theorem at8_begins : V8 m d (ref main_v95) = begins m d := (opsMid2_keeps _ main_v95 (by decide)).trans (at7_begins m d)
theorem at8_messages : V8 m d (ref main_v143)
    = mulf (F := Ideal) (φ := .f32) (broadcastInDim S8192x128 ![0, 1] bcast_S8192x1_S8192x128_0_1 (broadcastInDim S8192x1 ![0] bcast_S8192_S8192x1_0
          (pick (F := Ideal) (e := .f32) (softs m d) (best m d))))
        (Host.gather gather_S50000x128_S8192x1_S8192x128_1_0_n_n_0_1_1128 (m (d, ref main_arg1)) (ofChosen (ends m d))) := by
  unfold V8; rw [mid2_messages, at7_ends, at7_soft, at7_best, kept7 (m := m) (d := d) (r := main_arg1) (by decide)]

theorem at9_sum : V9 m d (ref main_v151)
    = aggregate (F := Ideal) (m (d, ref main_arg1)) (begins m d) (ends m d) (pick (F := Ideal) (e := .f32) (softs m d) (best m d)) := by
  have h : V8 m d (ref main_cst_31) = _ := mid2_zero (V7 m d)
  unfold V9; rw [mid3_sum, at8_begins, at8_messages, h]; rfl
theorem at9_score : V9 m d (ref main_v152) = shapeCast S50000x1 (V8 m d (ref main_v124)) shapeCasts_S50000_S50000x1 := mid3_score (V8 m d)
theorem at9_marks : V9 m d (ref main_v153) = shapeCast S50000x1 (V8 m d (ref main_v133)) shapeCasts_S50000_S50000x1 := mid3_marks (V8 m d)
theorem at9_bias : V9 m d (ref main_v154) = shapeCast S1x128 (m (d, ref main_arg8)) shapeCasts_S128_S1x128 := by
  unfold V9; rw [mid3_bias, kept8 (m := m) (d := d) (r := main_arg8) (by decide)]
theorem at9_weights : V9 m d (ref main_v25) = V1 m d (ref main_v25) :=
  (opsMid3_keeps _ main_v25 (by decide)).trans ((opsMid2_keeps _ main_v25 (by decide)).trans ((opsMid1_keeps _ main_v25 (by decide)).trans
    ((opsMid0_keeps _ main_v25 (by decide)).trans ((V5_keeps m d main_v25 (by decide)).trans (at4_keeps m d main_v25 (by decide) (by decide) (by decide))))))

theorem at10_rows : V10 m d (ref main_v155_1) = Ends.rowsNew (V9 m d) :=
  (afterRegion_arr (fam (V9 m d) 1 2 d) (V9 m d) winFacts3.arr_inj 7).trans (Ends.final3_7 (V9 m d) _ _ d)
theorem at10_score : V10 m d (ref main_v155_0) = V9 m d (ref main_v152) :=
  (afterRegion_arr (fam (V9 m d) 1 2 d) (V9 m d) winFacts3.arr_inj 6).trans (Ends.final3_6 (V9 m d) _ _ d)

/-! ## The results -/

/-- A vector made a column and back. -/
theorem column_row (x : FVec Ideal S50000 .f32) :
    shapeCast S50000 (shapeCast S50000x1 x shapeCasts_S50000_S50000x1) shapeCasts_S50000x1_S50000 = x := by
  rw [shapeCast_shapeCast]

theorem result_rows : V11 m d (ref main_v155_1) = Ends.rowsNew (V9 m d) :=
  (opsEnd_keeps _ main_v155_1 (by decide)).trans (at10_rows m d)
theorem result_score : V11 m d (ref main_v156) = sumChosen (F := Ideal) (ends m d) (pick (F := Ideal) (e := .f32) (targets m d) (best m d)) := by
  unfold V11
  rw [end_score, at10_score, at9_score, at8_score]
  exact column_row _

end Cert.Proof.Value

end
-- ==== Proof.Value.Lines.lean ====
/-
  The reference's logits, entry by entry: the two linear layers over the four concatenated rows, each a sum over the four.
-/
module

public import proofs.«01_k».proof.Proof.Gen.ReferenceIdeal.Run
public import Idealize.ShloMosaic.Lib.Pointwise

@[expose] public section

set_option maxRecDepth 16384

noncomputable section

namespace Cert.Proof.Value

open Cert.ReferenceIdeal Cert.ReferenceIdeal.Gen Cert.ReferenceIdeal.Value
open Idealize.ShloMosaic

/-- A sum over 512 in quarters. -/
theorem sum_quarters (f : Fin 512 → EReal) :
    ∑ k, f k = (∑ k : Fin 128, f ⟨k.val, by omega⟩) + (∑ k : Fin 128, f ⟨128 + k.val, by omega⟩)
      + ((∑ k : Fin 128, f ⟨256 + k.val, by omega⟩) + ∑ k : Fin 128, f ⟨384 + k.val, by omega⟩) := by
  have h := Fin.sum_univ_add (a := 256) (b := 256) f
  rw [h, Fin.sum_univ_add (a := 128) (b := 128), Fin.sum_univ_add (a := 128) (b := 128)]
  congr 2

/-- One layer at edge `r` and column `j`: the row of four times the weights' row. -/
def lineOf (a b c e : FVec Ideal S131072x128 .f32) (w : FVec Ideal S512x512 .f32) (r : Fin 131072) (j : Fin 512) : EReal :=
  (∑ k : Fin 128, a (ix2 r k) * w (ix2 j (⟨k.val, by omega⟩ : Fin 512)))
    + (∑ k : Fin 128, b (ix2 r k) * w (ix2 j (⟨128 + k.val, by omega⟩ : Fin 512)))
    + ((∑ k : Fin 128, c (ix2 r k) * w (ix2 j (⟨256 + k.val, by omega⟩ : Fin 512)))
      + ∑ k : Fin 128, e (ix2 r k) * w (ix2 j (⟨384 + k.val, by omega⟩ : Fin 512)))

/-- An edge's logit: the two layers' products added up. -/
def pairOf (a a' b c e : FVec Ideal S131072x128 .f32) (w w' : FVec Ideal S512x512 .f32) (r : Fin 131072) : EReal :=
  ∑ j : Fin 512, lineOf a b c e w r j * lineOf a' b c e w' r j

/-- One layer as the reference's operations compute it. -/
def layer (a b c e : FVec Ideal S131072x128 .f32) (w : FVec Ideal S512x512 .f32) : FVec Ideal S131072x512 .f32 :=
  Host.dotGeneral (F := Ideal) (φ₁ := .f32) (φ₂ := .f32) dot_S131072x512_S512x512_S131072x512_1_0_0_1_n_n none
    (concatenate S131072x512 1 [⟨S131072x128, a⟩, ⟨S131072x128, b⟩, ⟨S131072x128, c⟩, ⟨S131072x128, e⟩]
      concatenates_S131072x128_S131072x128_S131072x128_S131072x128_S131072x512_d1)
    (transpose S512x512 [1, 0] w transposes_S512x512_S512x512_1_0)

theorem layer_at (a b c e : FVec Ideal S131072x128 .f32) (w : FVec Ideal S512x512 .f32) (r : Fin 131072) (j : Fin 512) :
    layer a b c e w (ix2 r j) = lineOf a b c e w r j := by
  pointwise [layer]
  rw [sum_quarters]
  unfold lineOf
  congr 1

theorem products_at (x y : FVec Ideal S131072x512 .f32) (r : Fin 131072) :
    Host.reduceAdd (F := Ideal) (φ := .f32) (mulf x y) (constant S_ .f32 0x00000000#32) reducesTo_S131072x512_S131072_d1 h_S_ (ix1 r)
      = ∑ j : Fin 512, x (ix2 r j) * y (ix2 r j) := by
  pointwise

/-- The reference's logits, for any gathered rows. -/
theorem pair_at (a a' b c e : FVec Ideal S131072x128 .f32) (w w' : FVec Ideal S512x512 .f32) (r : Fin 131072) :
    Host.reduceAdd (F := Ideal) (φ := .f32) (mulf (layer a b c e w) (layer a' b c e w')) (constant S_ .f32 0x00000000#32)
      reducesTo_S131072x512_S131072_d1 h_S_ (ix1 r) = pairOf a a' b c e w w' r := by
  rw [products_at]
  exact Finset.sum_congr rfl fun j _ => by rw [layer_at, layer_at]

/-- Real entries make a real logit. -/
theorem lineOf_real (a b c e : FVec Ideal S131072x128 .f32) (w : FVec Ideal S512x512 .f32)
    (ha : ∀ i, ∃ x : ℝ, a i = (x : EReal)) (hb : ∀ i, ∃ x : ℝ, b i = (x : EReal)) (hc : ∀ i, ∃ x : ℝ, c i = (x : EReal))
    (he : ∀ i, ∃ x : ℝ, e i = (x : EReal)) (hw : ∀ i, ∃ x : ℝ, w i = (x : EReal)) (r : Fin 131072) (j : Fin 512) :
    ∃ x : ℝ, lineOf a b c e w r j = (x : EReal) := by
  choose ra ha using ha
  choose rb hb using hb
  choose rc hc using hc
  choose re he using he
  choose rw' hw using hw
  unfold lineOf
  simp only [ha, hb, hc, he, hw, ← EReal.coe_mul]
  have hs : ∀ f : Fin 128 → ℝ, ∑ k, ((f k : ℝ) : EReal) = ((∑ k, f k : ℝ) : EReal) := fun f => by
    induction (Finset.univ : Finset (Fin 128)) using Finset.induction_on with
    | empty => simp
    | insert k s hk ih => rw [Finset.sum_insert hk, Finset.sum_insert hk, ih, EReal.coe_add]
  simp only [hs, ← EReal.coe_add]
  exact ⟨_, rfl⟩

theorem pairOf_real (a a' b c e : FVec Ideal S131072x128 .f32) (w w' : FVec Ideal S512x512 .f32)
    (ha : ∀ i, ∃ x : ℝ, a i = (x : EReal)) (ha' : ∀ i, ∃ x : ℝ, a' i = (x : EReal)) (hb : ∀ i, ∃ x : ℝ, b i = (x : EReal))
    (hc : ∀ i, ∃ x : ℝ, c i = (x : EReal)) (he : ∀ i, ∃ x : ℝ, e i = (x : EReal)) (hw : ∀ i, ∃ x : ℝ, w i = (x : EReal))
    (hw' : ∀ i, ∃ x : ℝ, w' i = (x : EReal)) (r : Fin 131072) : ∃ x : ℝ, pairOf a a' b c e w w' r = (x : EReal) := by
  choose f hf using lineOf_real a b c e w ha hb hc he hw
  choose g hg using lineOf_real a' b c e w' ha' hb hc he hw'
  unfold pairOf
  simp only [hf, hg, ← EReal.coe_mul]
  refine ⟨∑ j, f r j * g r j, ?_⟩
  induction (Finset.univ : Finset (Fin 512)) using Finset.induction_on with
  | empty => simp
  | insert k s hk ih => rw [Finset.sum_insert hk, Finset.sum_insert hk, ih, EReal.coe_add]

end Cert.Proof.Value

end
-- ==== Proof.Value.Logits.lean ====
/-
  The kernel's logits, entry by entry, from the arguments: the two layers over the gathered rows, the edge's relation and
  its query's two rows.
-/
module

public import proofs.«01_k».proof.Proof.Value.Kernel
public import proofs.«01_k».proof.Proof.Value.Lines

@[expose] public section

set_option maxRecDepth 16384

noncomputable section

namespace Cert.Proof.Value

open Cert.KernelIdeal Cert.KernelIdeal.Gen Cert.Proof.Host Cert.Proof.Tile
open Idealize.ShloMosaic Idealize.ShloMosaic.TcCoe Idealize.ShloMosaic.StableHlo

/-- A query's rows, one per edge: edge `e` is of query `e / 2048`. -/
def ofQueries (x : FVec Ideal S64x128 .f32) : FVec Ideal S131072x128 .f32 := fun i =>
  x (ix2 (n0 := 64) (n1 := 128) ⟨(i 0).val / 2048, by have h : (i 0).val < 131072 := (i 0).isLt; omega⟩ (i 1))

theorem ofQueries_at (x : FVec Ideal S64x128 .f32) (e : Fin 131072) (k : Fin 128) :
    ofQueries x (ix2 e k) = x (ix2 (⟨e.val / 2048, by omega⟩ : Fin 64) k) := rfl

theorem flat_at (x : FVec Ideal S256x1x512 .f32) (e : Fin 131072) : shapeCast S131072 x shapeCasts_S256x1x512_S131072 (ix1 e)
    = x (ix3 (⟨e.val / 512, by omega⟩ : Fin 256) (0 : Fin 1) (⟨e.val % 512, by omega⟩ : Fin 512)) := by
  pointwise
theorem unit_at (x : FVec Ideal S64x512 .f32) (q : Fin 64) (j : Fin 512) :
    shapeCast S64x1x512 x shapeCasts_S64x512_S64x1x512 (ix3 q (0 : Fin 1) j) = x (ix2 q j) := by
  pointwise

theorem quarter0 (x : FVec Ideal S512x512 .f32) (k : Fin 128) (j : Fin 512) :
    (truncf .bf16 (transpose S128x512 [1, 0] (extractStridedSlice S512x128 ![0, 0] x slices_S512x512_S512x128_0_0) transposes_S512x128_S128x512_1_0) bitsLt_bf16_f32 : FVec Ideal S128x512 .bf16) (ix2 k j)
      = x (ix2 j (⟨k.val, by omega⟩ : Fin 512)) := by
  pointwise
theorem quarter1 (x : FVec Ideal S512x512 .f32) (k : Fin 128) (j : Fin 512) :
    (truncf .bf16 (transpose S128x512 [1, 0] (extractStridedSlice S512x128 ![0, 128] x slices_S512x512_S512x128_0_128) transposes_S512x128_S128x512_1_0) bitsLt_bf16_f32 : FVec Ideal S128x512 .bf16) (ix2 k j)
      = x (ix2 j (⟨128 + k.val, by omega⟩ : Fin 512)) := by
  pointwise
theorem quarter2 (x : FVec Ideal S512x512 .f32) (k : Fin 128) (j : Fin 512) :
    (truncf .bf16 (transpose S128x512 [1, 0] (extractStridedSlice S512x128 ![0, 256] x slices_S512x512_S512x128_0_256) transposes_S512x128_S128x512_1_0) bitsLt_bf16_f32 : FVec Ideal S128x512 .bf16) (ix2 k j)
      = x (ix2 j (⟨256 + k.val, by omega⟩ : Fin 512)) := by
  pointwise
theorem quarter3 (x : FVec Ideal S512x512 .f32) (k : Fin 128) (j : Fin 512) :
    (truncf .bf16 (transpose S128x512 [1, 0] (extractStridedSlice S512x128 ![0, 384] x slices_S512x512_S512x128_0_384) transposes_S512x128_S128x512_1_0) bitsLt_bf16_f32 : FVec Ideal S128x512 .bf16) (ix2 k j)
      = x (ix2 j (⟨384 + k.val, by omega⟩ : Fin 512)) := by
  pointwise

variable (m : (ℓ : Loc nD τ sig) → Buf (Elt Ideal) ℓ) (d : Dev nD)

theorem rel_at : V4 m d (ref main_arg2) = m (d, ref main_arg2) := kept4 (m := m) (d := d) (r := main_arg2) (by decide)
theorem weights_q0 (k : Fin 128) (j : Fin 512) : (V4 m d (ref main_v2) : FVec Ideal S128x512 .bf16) (ix2 k j) = (m (d, ref main_arg5) : FVec Ideal S512x512 .f32) (ix2 j (⟨k.val, by omega⟩ : Fin 512)) := by
  rw [at4_keeps m d main_v2 (by decide) (by decide) (by decide)]; exact (congrFun (prep_q0 (Host.V0 m d)) (ix2 k j)).trans (quarter0 _ k j)
theorem weights_q1 (k : Fin 128) (j : Fin 512) : (V4 m d (ref main_v5) : FVec Ideal S128x512 .bf16) (ix2 k j) = (m (d, ref main_arg5) : FVec Ideal S512x512 .f32) (ix2 j (⟨128 + k.val, by omega⟩ : Fin 512)) := by
  rw [at4_keeps m d main_v5 (by decide) (by decide) (by decide)]; exact (congrFun (prep_q1 (Host.V0 m d)) (ix2 k j)).trans (quarter1 _ k j)
theorem weights_k0 (k : Fin 128) (j : Fin 512) : (V4 m d (ref main_v14) : FVec Ideal S128x512 .bf16) (ix2 k j) = (m (d, ref main_arg6) : FVec Ideal S512x512 .f32) (ix2 j (⟨k.val, by omega⟩ : Fin 512)) := by
  rw [at4_keeps m d main_v14 (by decide) (by decide) (by decide)]; exact (congrFun (prep_k0 (Host.V0 m d)) (ix2 k j)).trans (quarter0 _ k j)
theorem weights_k1 (k : Fin 128) (j : Fin 512) : (V4 m d (ref main_v17) : FVec Ideal S128x512 .bf16) (ix2 k j) = (m (d, ref main_arg6) : FVec Ideal S512x512 .f32) (ix2 j (⟨128 + k.val, by omega⟩ : Fin 512)) := by
  rw [at4_keeps m d main_v17 (by decide) (by decide) (by decide)]; exact (congrFun (prep_k1 (Host.V0 m d)) (ix2 k j)).trans (quarter1 _ k j)

/-- A query's contribution to a layer, -/
def termAt (x y : FVec Ideal S64x128 .f32) (w : FVec Ideal S512x512 .f32) (q : Fin 64) (j : Fin 512) : EReal :=
  (∑ k : Fin 128, x (ix2 q k) * w (ix2 j (⟨256 + k.val, by omega⟩ : Fin 512))) + ∑ k : Fin 128, y (ix2 q k) * w (ix2 j (⟨384 + k.val, by omega⟩ : Fin 512))
/-- as the preparation call leaves it. -/
theorem query_q (q : Fin 64) (j : Fin 512) : (V4 m d (ref main_v28) : FVec Ideal S64x1x512 .f32) (ix3 q (0 : Fin 1) j)
    = termAt (m (d, ref main_arg3)) (m (d, ref main_arg4)) (m (d, ref main_arg5)) q j := by
  rw [at4_q, at2_q, kept1 (m := m) (d := d) (r := main_arg3) (by decide), kept1 (m := m) (d := d) (r := main_arg4) (by decide)]
  refine (unit_at _ q j).trans ?_
  unfold Ends.termOf termAt
  congr 1 <;> refine Finset.sum_congr rfl fun k _ => congrArg _ ?_
  · exact (congrFun (prep_q2 (Host.V0 m d)) (ix2 k j)).trans (quarter2 _ k j)
  · exact (congrFun (prep_q3 (Host.V0 m d)) (ix2 k j)).trans (quarter3 _ k j)
theorem query_k (q : Fin 64) (j : Fin 512) : (V4 m d (ref main_v29) : FVec Ideal S64x1x512 .f32) (ix3 q (0 : Fin 1) j)
    = termAt (m (d, ref main_arg3)) (m (d, ref main_arg4)) (m (d, ref main_arg6)) q j := by
  rw [at4_k, at2_k, kept1 (m := m) (d := d) (r := main_arg3) (by decide), kept1 (m := m) (d := d) (r := main_arg4) (by decide)]
  refine (unit_at _ q j).trans ?_
  unfold Ends.termOf termAt
  congr 1 <;> refine Finset.sum_congr rfl fun k _ => congrArg _ ?_
  · exact (congrFun (prep_k2 (Host.V0 m d)) (ix2 k j)).trans (quarter2 _ k j)
  · exact (congrFun (prep_k3 (Host.V0 m d)) (ix2 k j)).trans (quarter3 _ k j)

/-- An edge's logit. -/
theorem logits_pair (e : Fin 131072) :
    logits m d (ix1 e) = pairOf (rowsO (mX m) (mS m) d) (rowsP (mX m) (mR m) d) (m (d, ref main_arg2)) (ofQueries (m (d, ref main_arg3)))
      (ofQueries (m (d, ref main_arg4))) (m (d, ref main_arg5)) (m (d, ref main_arg6)) e := by
  unfold logits
  rw [flat_at]
  have h : scores (V4 m d) (ix3 (⟨e.val / 512, by omega⟩ : Fin 256) (0 : Fin 1) (⟨e.val % 512, by omega⟩ : Fin 512))
      = scoreOf (V4 m d (ref main_v27_0)) (V4 m d (ref main_v27_1)) (V4 m d (ref main_arg2)) (V4 m d (ref main_v2)) (V4 m d (ref main_v5)) (V4 m d (ref main_v14))
          (V4 m d (ref main_v17)) (V4 m d (ref main_v28)) (V4 m d (ref main_v29)) e (⟨e.val / 2048, by omega⟩ : Fin 64) := by
    unfold scores
    have h1 : (⟨e.val / 512 * 512 + e.val % 512, by omega⟩ : Fin 131072) = e := Fin.ext (Nat.div_add_mod' _ _)
    have h2 : (⟨e.val / 512 / 4, by omega⟩ : Fin 64) = ⟨e.val / 2048, by omega⟩ := Fin.ext (Nat.div_div_eq_div_mul _ _ _)
    exact congr (congrArg _ h1) h2
  rw [h, at4_rows, at4_rows', rel_at]
  unfold scoreOf pairOf
  refine Finset.sum_congr rfl fun j _ => ?_
  rw [query_q, query_k]
  unfold lineOf
  refine congrArg₂ (· * ·) (congrArg₂ (· + ·) (congrArg₂ (· + ·) (Finset.sum_congr rfl fun k _ => congrArg _ ?_) (Finset.sum_congr rfl fun k _ => congrArg _ ?_)) rfl)
    (congrArg₂ (· + ·) (congrArg₂ (· + ·) (Finset.sum_congr rfl fun k _ => congrArg _ ?_) (Finset.sum_congr rfl fun k _ => congrArg _ ?_)) rfl)
  exacts [weights_q0 m d k j, weights_q1 m d k j, weights_k0 m d k j, weights_k1 m d k j]

end Cert.Proof.Value

end
-- ==== Proof.Value.Soft.lean ====
/-
  The softmax over a node's edges over the extended reals: whatever real shift is taken off at each node, the share of an
  edge's exponential in its node's sum is the same.
-/
module

public import Idealize.ShloMosaic.PureOps.Ideal.Laws
public import Mathlib.Analysis.SpecialFunctions.Log.Basic

@[expose] public section

noncomputable section

namespace Cert.Proof.Value

open Idealize.ShloMosaic

variable {E : Type} [DecidableEq E]

/-- A sum of reals is real. -/
theorem sum_coe (s : Finset E) (f : E → ℝ) : ∑ e ∈ s, ((f e : ℝ) : EReal) = ((∑ e ∈ s, f e : ℝ) : EReal) := by
  induction s using Finset.induction_on with
  | empty => simp
  | insert a s ha ih => rw [Finset.sum_insert ha, Finset.sum_insert ha, ih, EReal.coe_add]

/-- The share of edge `e` among the edges `s` of its node, by real scores `l`. -/
def shareOf (s : Finset E) (l : E → ℝ) (e : E) : EReal := ((Real.exp (l e) / ∑ e' ∈ s, Real.exp (l e') : ℝ) : EReal)

/-- Any real shift gives that share. -/
theorem share_eq (s : Finset E) (l : E → ℝ) (k : ℝ) (e : E) (he : e ∈ s) :
    Ideal.div (Ideal.exp ((l e : EReal) - (k : EReal))) (0 + ∑ e' ∈ s, Ideal.exp ((l e' : EReal) - (k : EReal))) = shareOf s l e := by
  have hx : ∀ e', Ideal.exp ((l e' : EReal) - (k : EReal)) = ((Real.exp (l e' - k) : ℝ) : EReal) := fun e' => by
    rw [← EReal.coe_sub, Ideal.exp_coe]
  simp only [hx]
  rw [zero_add, sum_coe]
  have hpos : 0 < ∑ e' ∈ s, Real.exp (l e' - k) := Finset.sum_pos (fun _ _ => Real.exp_pos _) ⟨e, he⟩
  have hpos' : 0 < ∑ e' ∈ s, Real.exp (l e') := Finset.sum_pos (fun _ _ => Real.exp_pos _) ⟨e, he⟩
  unfold Ideal.div shareOf
  rw [if_neg (by exact_mod_cast hpos.ne'), ← EReal.coe_inv, ← EReal.coe_mul]
  congr 1
  have hs : ∑ e' ∈ s, Real.exp (l e' - k) = (∑ e' ∈ s, Real.exp (l e')) * Real.exp (-k) := by
    rw [Finset.sum_mul]; exact Finset.sum_congr rfl fun e' _ => by rw [← Real.exp_add, sub_eq_add_neg]
  rw [hs, sub_eq_add_neg, Real.exp_add, ← div_eq_mul_inv]
  exact mul_div_mul_right _ _ (Real.exp_ne_zero _)

/-- The kernel's shift at a node is real: sixteen times the logarithm of a positive real. -/
theorem shift_real (s : Finset E) (l : E → ℝ) (a b d : ℝ) (hd : 0 < d) :
    ∃ k : ℝ, (b : EReal) * Ideal.log ((0 + ∑ e ∈ s, Ideal.exp ((l e : EReal) * (a : EReal))) + (d : EReal)) = (k : EReal) := by
  have hx : ∀ e', Ideal.exp ((l e' : EReal) * (a : EReal)) = ((Real.exp (l e' * a) : ℝ) : EReal) := fun e' => by
    rw [← EReal.coe_mul, Ideal.exp_coe]
  simp only [hx]
  rw [zero_add, sum_coe, ← EReal.coe_add, Ideal.log_coe, if_neg]
  · exact ⟨b * Real.log ((∑ e ∈ s, Real.exp (l e * a)) + d), by rw [EReal.coe_mul]⟩
  · have h : 0 ≤ ∑ e ∈ s, Real.exp (l e * a) := Finset.sum_nonneg fun _ _ => (Real.exp_pos _).le
    linarith

/-- An extended real whose magnitude is below the infinity is real. -/
theorem real_of_abs_lt (x : EReal) (h : max x (-x) < ⊤) : ∃ r : ℝ, x = (r : EReal) := by
  induction x with
  | bot => simp at h
  | top => simp at h
  | coe r => exact ⟨r, rfl⟩

end Cert.Proof.Value

end
-- ==== Proof.Value.Nodes.lean ====
/-
  The operations that go from edges to nodes and back, read at an entry when the row numbers are in range: the sum over a
  node's edges, and every edge's entry of an array over the nodes.
-/
module

public import proofs.«01_k».proof.Proof.Value.Terms
public import proofs.«01_k».proof.Proof.Value.Soft
public import Idealize.ShloMosaic.Lib.Pointwise
public import Idealize.ShloMosaic.Lib.Routing.OpsPair
public import Idealize.ShloMosaic.Lib.Routing.OpsSet

@[expose] public section

set_option maxRecDepth 16384

noncomputable section

namespace Cert.Proof.Value

open Cert.KernelIdeal Cert.KernelIdeal.Gen
open Idealize.ShloMosaic Idealize.ShloMosaic.TcCoe Idealize.ShloMosaic.StableHlo

/-- A scatter that adds: the entry and the updates that land on it. -/
theorem scatterAdd_at {S si u : Shape} {w : Nat} (d : ScatterDims S si u) (x : FVec Ideal S .f32) (idx : IVec si w) (upd : FVec Ideal u .f32) (i : S.Idx) :
    Host.scatterAdd d x idx upd i = x i + ∑ j ∈ Finset.univ.filter (fun j => d.resultIdx? j idx = some i), upd j := rfl

/-! The operations at an entry. -/
theorem divf_at {S : Shape} (x y : FVec Ideal S .f32) (i : S.Idx) : Host.divf x y i = Ideal.div (x i) (y i) := rfl
theorem mulf_at {S : Shape} (x y : FVec Ideal S .f32) (i : S.Idx) : mulf x y i = (x i * y i : EReal) := rfl
theorem addf_at {S : Shape} (x y : FVec Ideal S .f32) (i : S.Idx) : addf x y i = (x i + y i : EReal) := rfl
theorem subf_at {S : Shape} (x y : FVec Ideal S .f32) (i : S.Idx) : subf x y i = (x i - y i : EReal) := rfl
theorem exp_at {S : Shape} (x : FVec Ideal S .f32) (i : S.Idx) : Host.exp x i = Ideal.exp (x i) := rfl
theorem log_at {S : Shape} (x : FVec Ideal S .f32) (i : S.Idx) : Host.log x i = Ideal.log (x i) := rfl
theorem fill_at {S : Shape} (h) (b : BitVec 32) (i : S.Idx) :
    (broadcastInDim S ![] h (constant S_ .f32 b) : FVec Ideal S .f32) i = Ideal.ofBits .f32 b := rfl

/-- Row numbers as a column. -/
def column (s : IVec S131072 32) : IVec S131072x1 32 := broadcastInDim S131072x1 ![0] bcast_S131072_S131072x1_0 s

theorem column_at (s : IVec S131072 32) (e : Fin 131072) : column s (ix2 e (0 : Fin 1)) = s (ix1 e) := by
  pointwise [column]

variable (s : IVec S131072 32) (hs : ∀ e, (s e).toNat < 50000)
include hs

/-- Row numbers in range are not counted from the end. -/
theorem ofEdges_eq : ofEdges s = column s := by
  unfold ofEdges column
  refine congrArg _ (funext fun e => ?_)
  exact Routing.wrap_of_lt (s e) _ (by have := hs e; omega)

/-- The node of an edge. -/
def nodeOf (e : Fin 131072) : Fin 50000 := ⟨(s (ix1 e)).toNat, hs _⟩

theorem perEdge_at (x : FVec Ideal S50000 .f32) (e : Fin 131072) : perEdge s x (ix1 e) = x (ix1 (nodeOf s hs e)) := by
  unfold perEdge
  rw [ofEdges_eq s hs]
  refine Routing.gather_take1 (α := EReal) gather_S50000_S131072x1_S131072_n_0_n_n_0_1_1 rfl rfl rfl rfl x _ e (nodeOf s hs e) ?_ (by norm_num)
  exact (column_at s e).trans (by unfold nodeOf; rw [BitVec.ofNat_toNat, BitVec.setWidth_eq])

omit hs in
/-- The edges that land at a node. -/
def landing (v : Fin 50000) : Finset S131072.Idx :=
  Finset.univ.filter fun e => scatter_S50000_S131072x1_S131072_n_0_0_1.resultIdx? e (column s) = some (ix1 v)

theorem mem_landing (e : Fin 131072) (v : Fin 50000) : ix1 e ∈ landing s v ↔ nodeOf s hs e = v := by
  unfold landing
  rw [Finset.mem_filter]
  have h0 := Routing.resultIdx?_ix1 scatter_S50000_S131072x1_S131072_n_0_0_1 (ix1 e) (column s) v
  have h1 : scatter_S50000_S131072x1_S131072_n_0_0_1.start (ix1 e) (column s) 0 = (column s (ix2 e (0 : Fin 1))).toInt := by
    unfold ScatterDims.start
    rw [dif_pos (by decide)]
    refine congrArg (fun i => (column s i).toInt) (funext fun a => Fin.ext ?_)
    fin_cases a <;> rfl
  have h2 : scatter_S50000_S131072x1_S131072_n_0_0_1.window (ix1 e) 0 = 0 := rfl
  have hr := hs (ix1 e)
  rw [h1, h2, column_at, BitVec.toInt_eq_toNat_cond, if_pos (by omega)] at h0
  refine ⟨fun h => Fin.ext ?_, fun h => ⟨Finset.mem_univ _, h0.2 ?_⟩⟩
  · have := h0.1 h.2
    show (s (ix1 e)).toNat = v.val
    omega
  · have : (s (ix1 e)).toNat = v.val := congrArg Fin.val h
    omega

theorem sumInto_at (x : FVec Ideal S131072 .f32) (v : Fin 50000) : sumInto s x (ix1 v) = 0 + ∑ e ∈ landing s v, x e := by
  unfold sumInto landing
  rw [ofEdges_eq s hs]
  exact (scatterAdd_at _ _ _ _ _).trans (congrArg (· + _) Ideal.ofBits_zero_f32)

/-- A shift that is real at every node gives the share of an edge's exponential in its node's sum. -/
theorem share_at (L : FVec Ideal S131072 .f32) (l : S131072.Idx → ℝ) (hL : ∀ e, L e = (l e : EReal)) (c : FVec Ideal S50000 .f32)
    (hc : ∀ v, ∃ k : ℝ, c v = (k : EReal)) (e : Fin 131072) :
    share s (shifted s L c) (ix1 e) = shareOf (landing s (nodeOf s hs e)) l (ix1 e) := by
  obtain ⟨k, hk⟩ := hc (ix1 (nodeOf s hs e))
  have hx : ∀ e' : S131072.Idx, e' ∈ landing s (nodeOf s hs e) → shifted s L c e' = Ideal.exp ((l e' : EReal) - (k : EReal)) := fun e' he' => by
    obtain ⟨f, rfl⟩ : ∃ f : Fin 131072, e' = ix1 f := ⟨e' 0, eq_ix1 (n0 := 131072) e'⟩
    have hf := (mem_landing s hs f _).1 he'
    unfold shifted
    rw [exp_at, subf_at, perEdge_at s hs, hf, hk, hL]
  have ho := (mem_landing s hs e _).2 rfl
  unfold share
  rw [divf_at, perEdge_at s hs, sumInto_at s hs, hx _ ho, Finset.sum_congr rfl hx]
  exact share_eq _ l k _ ho

omit hs in
theorem sixteen : Ideal.ofBits .f32 0x41800000#32 = ((16 : ℝ) : EReal) := by
  simp [Ideal.ofBits, Ideal.ieee, -EReal.coe_mul]; norm_num
omit hs in
theorem sixteenth : Ideal.ofBits .f32 0x3D800000#32 = ((1 / 16 : ℝ) : EReal) := by
  simp [Ideal.ofBits, Ideal.ieee, -EReal.coe_mul]; norm_num
omit hs in
theorem tiny : ∃ x : ℝ, 0 < x ∧ Ideal.ofBits .f32 0x0DA24260#32 = (x : EReal) := by
  refine ⟨_, ?_, by simp [Ideal.ofBits, Ideal.ieee, -EReal.coe_mul]; rfl⟩
  norm_num

/-- The kernel's softmax. -/
theorem soft_at (L : FVec Ideal S131072 .f32) (l : S131072.Idx → ℝ) (hL : ∀ e, L e = (l e : EReal)) (e : Fin 131072) :
    soft s L (ix1 e) = shareOf (landing s (nodeOf s hs e)) l (ix1 e) := by
  refine share_at s hs L l hL _ (fun v => ?_) e
  obtain ⟨w, rfl⟩ : ∃ w : Fin 50000, v = ix1 w := ⟨v 0, eq_ix1 (n0 := 50000) v⟩
  obtain ⟨t, ht, hb⟩ := tiny
  obtain ⟨k, hk⟩ := shift_real (landing s w) l (1 / 16) 16 t ht
  refine ⟨k, ?_⟩
  rw [← hk, ← hb, ← sixteen, ← sixteenth]
  unfold shift
  rw [mulf_at, log_at, addf_at, sumInto_at s hs, fill_at, fill_at]
  refine congrArg (fun z => Ideal.ofBits .f32 0x41800000#32 * Ideal.log ((0 + z) + Ideal.ofBits .f32 0x0DA24260#32)) (Finset.sum_congr rfl fun f _ => ?_)
  rw [← hL, exp_at, mulf_at, fill_at]

end Cert.Proof.Value

end
-- ==== Proof.Value.Reference.lean ====
/-
  The reference's named arrays, in the kernel's terms: the same chosen edges, their ends and weights; its logits; its softmax.
-/
module

public import proofs.«01_k».proof.Proof.Value.Logits
public import proofs.«01_k».proof.Proof.Value.Nodes

@[expose] public section

set_option maxRecDepth 16384

noncomputable section

namespace Cert.Proof.Value

open Cert.KernelIdeal Cert.KernelIdeal.Gen Cert.Proof.Tile
open Cert.ReferenceIdeal.Value (res_main_v20 res_main_v27 res_main_v35 res_main_v44 res_main_v57 res_main_v68 res_main_v75 res_main_v77 res_main_v84 res_main_v91
  res_main_v98 res_main_v105 res_main_v155)
open Idealize.ShloMosaic Idealize.ShloMosaic.TcCoe Idealize.ShloMosaic.StableHlo

/-! ## The gathered rows -/

/-- The nodes' rows at the edges' ends. -/
theorem rows_eq (x : FVec Ideal S50000x128 .f32) (f : IVec S131072 32) (hf : ∀ e, (f e).toNat < 50000) :
    Host.gather Cert.ReferenceIdeal.gather_S50000x128_S131072x1_S131072x128_1_0_n_n_0_1_1128 x (ofEdges f) = rowsOf (F := Ideal) x f := by
  rw [ofEdges_eq f hf]
  funext y
  obtain ⟨e, k, rfl⟩ : ∃ (e : Fin 131072) (k : Fin 128), y = ix2 e k := ⟨y 0, y 1, eq_ix2 (n0 := 131072) (n1 := 128) y⟩
  have hr := hf (ix1 e)
  refine (Routing.gather_row (α := EReal) Cert.ReferenceIdeal.gather_S50000x128_S131072x1_S131072x128_1_0_n_n_0_1_1128 rfl rfl rfl rfl rfl x (column f) e k
    (rowNo (F := Ideal) (f (ix1 e))) ?_ (by norm_num)).trans ?_
  · refine (column_at f e).trans (BitVec.eq_of_toNat_eq ?_)
    show (f (ix1 e)).toNat = (BitVec.ofNat 32 (min (f (ix1 e)).toNat 49999)).toNat
    rw [BitVec.toNat_ofNat]; omega
  · have h1 : eIx ((ix2 e k : S131072x128.Idx) 0) = ix1 e := funext fun a => by fin_cases a; rfl
    unfold rowsOf
    rw [h1]
    refine congrArg x (funext fun a => ?_)
    fin_cases a <;> rfl

/-- A query's row at each of its edges, as the reference gathers it. -/
def queryRows (x : FVec Ideal S64x128 .f32) (q : IVec S131072 32) : FVec Ideal S131072x128 .f32 :=
  Host.gather Cert.ReferenceIdeal.gather_S64x128_S131072x1_S131072x128_1_0_n_n_0_1_1128 x
    (broadcastInDim S131072x1 ![0] bcast_S131072_S131072x1_0
      (select (cmpi .slt q (broadcastInDim S131072 ![] bcast_S_S131072 (constantI S_ 32 0#32)))
        (addi q (broadcastInDim S131072 ![] bcast_S_S131072 (constantI S_ 32 64#32))) q))

theorem queryRows_eq (x : FVec Ideal S64x128 .f32) (q : IVec S131072 32) (hq : ∀ e, (q e).toNat = (e 0).val / 2048) : queryRows x q = ofQueries x := by
  have hw : select (cmpi .slt q (broadcastInDim S131072 ![] bcast_S_S131072 (constantI S_ 32 0#32)))
      (addi q (broadcastInDim S131072 ![] bcast_S_S131072 (constantI S_ 32 64#32))) q = q := funext fun e => by
    refine Routing.wrap_of_lt (q e) _ ?_
    have he : (e 0).val < 131072 := (e 0).isLt
    have := hq e
    omega
  unfold queryRows
  rw [hw]
  funext y
  obtain ⟨e, k, rfl⟩ : ∃ (e : Fin 131072) (k : Fin 128), y = ix2 e k := ⟨y 0, y 1, eq_ix2 (n0 := 131072) (n1 := 128) y⟩
  have hr : (q (ix1 e)).toNat = e.val / 2048 := hq (ix1 e)
  have hb : (column q (ix2 e (0 : Fin 1))) = BitVec.ofNat 32 (⟨e.val / 2048, by omega⟩ : Fin 64).val := by
    refine (column_at q e).trans (BitVec.eq_of_toNat_eq ?_)
    rw [BitVec.toNat_ofNat, hr, Nat.mod_eq_of_lt (by omega)]
  exact Routing.gather_row (α := EReal) Cert.ReferenceIdeal.gather_S64x128_S131072x1_S131072x128_1_0_n_n_0_1_1128 rfl rfl rfl rfl rfl x (column q) e k
    ⟨e.val / 2048, by omega⟩ hb (by norm_num)

/-! ## The named arrays -/

variable (V : Valuation Cert.ReferenceIdeal.τ Cert.ReferenceIdeal.sig (Elt Ideal))

/-- The array `r` of the reference, as a valuation names it. -/
abbrev atR (r : Ref Cert.ReferenceIdeal.sig .tc) : DevRef Cert.ReferenceIdeal.τ Cert.ReferenceIdeal.sig :=
  Proc.devRef (τ := Cert.ReferenceIdeal.τ) (sig := Cert.ReferenceIdeal.sig) Proc.tc r

theorem ref_logits (e : Fin 131072) (hs : ∀ e, ((V (atR Cert.ReferenceIdeal.main_arg9) : IVec S131072 32) e).toNat < 50000)
    (ht : ∀ e, ((V (atR Cert.ReferenceIdeal.main_arg10) : IVec S131072 32) e).toNat < 50000)
    (hq : ∀ e, ((V (atR Cert.ReferenceIdeal.main_arg11) : IVec S131072 32) e).toNat = (e 0).val / 2048) :
    (res_main_v35 V : FVec Ideal S131072 .f32) (ix1 e)
      = pairOf (rowsOf (F := Ideal) (V (atR Cert.ReferenceIdeal.main_arg1)) (V (atR Cert.ReferenceIdeal.main_arg9)))
          (rowsOf (F := Ideal) (V (atR Cert.ReferenceIdeal.main_arg1)) (V (atR Cert.ReferenceIdeal.main_arg10)))
          (V (atR Cert.ReferenceIdeal.main_arg2)) (ofQueries (V (atR Cert.ReferenceIdeal.main_arg3))) (ofQueries (V (atR Cert.ReferenceIdeal.main_arg4)))
          (V (atR Cert.ReferenceIdeal.main_arg5)) (V (atR Cert.ReferenceIdeal.main_arg6)) e := by
  have h := pair_at
    (Host.gather Cert.ReferenceIdeal.gather_S50000x128_S131072x1_S131072x128_1_0_n_n_0_1_1128 (V (atR Cert.ReferenceIdeal.main_arg1)) (ofEdges (V (atR Cert.ReferenceIdeal.main_arg9))))
    (Host.gather Cert.ReferenceIdeal.gather_S50000x128_S131072x1_S131072x128_1_0_n_n_0_1_1128 (V (atR Cert.ReferenceIdeal.main_arg1)) (ofEdges (V (atR Cert.ReferenceIdeal.main_arg10))))
    (V (atR Cert.ReferenceIdeal.main_arg2)) (queryRows (V (atR Cert.ReferenceIdeal.main_arg3)) (V (atR Cert.ReferenceIdeal.main_arg11)))
    (queryRows (V (atR Cert.ReferenceIdeal.main_arg4)) (V (atR Cert.ReferenceIdeal.main_arg11)))
    (V (atR Cert.ReferenceIdeal.main_arg5)) (V (atR Cert.ReferenceIdeal.main_arg6)) e
  rw [rows_eq _ _ hs, rows_eq _ _ ht, queryRows_eq _ _ hq, queryRows_eq _ _ hq] at h
  rw [← h, ← rows_eq _ _ hs, ← rows_eq _ _ ht, ← queryRows_eq _ _ hq, ← queryRows_eq _ _ hq]
  rfl

/-- The reference's shift: the highest logit of a node's edges, or zero where that is no real number. -/
def refShift (x : FVec Ideal S50000 .f32) : FVec Ideal S50000 .f32 :=
  select (cmpf .olt (Host.absf x) (broadcastInDim S50000 ![] bcast_S_S50000 (constant S_ .f32 0x7F800000#32))) x
    (broadcastInDim S50000 ![] bcast_S_S50000 (constant S_ .f32 0x00000000#32))

theorem refShift_real (x : FVec Ideal S50000 .f32) (v : S50000.Idx) : ∃ k : ℝ, refShift x v = (k : EReal) := by
  show ∃ k : ℝ, Scalar.select (BitVec.ofBool (decide (max (x v) (-(x v)) < Ideal.ofBits .f32 0x7F800000#32))) (x v) (Ideal.ofBits .f32 0x00000000#32) = (k : EReal)
  by_cases h : max (x v) (-(x v)) < Ideal.ofBits .f32 0x7F800000#32
  · rw [decide_eq_true h]
    exact real_of_abs_lt _ (lt_of_lt_of_le h le_top)
  · rw [decide_eq_false h]
    exact ⟨0, Ideal.ofBits_zero_f32⟩

theorem ref_soft (hs : ∀ e, ((V (atR Cert.ReferenceIdeal.main_arg9) : IVec S131072 32) e).toNat < 50000) :
    (res_main_v68 V : FVec Ideal S131072 .f32)
      = share (V (atR Cert.ReferenceIdeal.main_arg9)) (shifted (V (atR Cert.ReferenceIdeal.main_arg9)) (res_main_v35 V) (refShift (res_main_v44 V))) := by
  unfold share sumInto
  rw [ofEdges_eq _ hs]
  rfl

theorem ref_best : (res_main_v84 V : IVec S8192 32)
    = chosen (mulf (φ := .f32) (res_main_v68 V) (perEdge (V (atR Cert.ReferenceIdeal.main_arg9)) (V (atR Cert.ReferenceIdeal.main_arg0)))) := rfl
theorem ref_begins : (res_main_v91 V : IVec S8192 32) = pick (F := Ideal) (e := .i32) (V (atR Cert.ReferenceIdeal.main_arg9)) (res_main_v84 V) := rfl
theorem ref_ends : (res_main_v98 V : IVec S8192 32) = pick (F := Ideal) (e := .i32) (V (atR Cert.ReferenceIdeal.main_arg10)) (res_main_v84 V) := rfl
theorem ref_weights : (res_main_v105 V : FVec Ideal S8192 .f32) = pick (F := Ideal) (e := .f32) (res_main_v68 V) (res_main_v84 V) := rfl

end Cert.Proof.Value

end
-- ==== Proof.Value.Finish.lean ====
/-
  The nodes' new rows: the closing call's and the reference's are the same function of the same messages. A node is marked
  in the kernel when the count of its chosen edges is above zero, and in the reference when one of them writes its flag.
-/
module

public import proofs.«01_k».proof.Proof.Value.Reference

@[expose] public section

set_option maxRecDepth 16384

noncomputable section

namespace Cert.Proof.Value

open Cert.KernelIdeal Cert.KernelIdeal.Gen
open Idealize.ShloMosaic Idealize.ShloMosaic.TcCoe Idealize.ShloMosaic.StableHlo

/-- The reference's flag: a node one of the chosen edges begins at. -/
def flags (p : IVec S8192 32) : IVec S50000 1 :=
  Host.scatter scatter_S50000_S8192x1_S8192_n_0_0_1 (fun _ b => b) (broadcastInDim S50000 ![] bcast_S_S50000 (constantI S_ 1 0#1)) (ofChosen p)
    (broadcastInDim S8192 ![] bcast_S_S8192 (constantI S_ 1 1#1))
/-- The kernel's count. -/
def counts (p : IVec S8192 32) : FVec Ideal S50000 .f32 := sumChosen p (broadcastInDim S8192 ![] bcast_S_S8192 (constant S_ .f32 0x3F800000#32))

theorem ogt_zero (y : EReal) : FloatOps.cmpf (F := Ideal) (φ := .f32) .ogt y 0 = BitVec.ofBool (decide (0 < y)) := rfl
theorem oge_zero (y : EReal) : FloatOps.cmpf (F := Ideal) (φ := .f32) .oge y 0 = BitVec.ofBool (decide (0 ≤ y)) := rfl

theorem marks_eq (p : IVec S8192 32) (v : S50000.Idx) : FloatOps.cmpf (F := Ideal) (φ := .f32) .ogt (counts p v) 0 = flags p v := by
  have hc : counts p v = 0 + ∑ _j ∈ Finset.univ.filter (fun j => scatter_S50000_S8192x1_S8192_n_0_0_1.resultIdx? j (ofChosen p) = some v), (1 : EReal) := by
    unfold counts sumChosen
    refine (scatterAdd_at _ _ _ _ _).trans ?_
    rw [fill_at, Ideal.ofBits_zero_f32]
    exact congrArg (0 + ·) (Finset.sum_congr rfl fun j _ => (fill_at _ _ j).trans Ideal.ofBits_one_f32)
  rw [ogt_zero, hc, zero_add]
  by_cases h : ∃ j, scatter_S50000_S8192x1_S8192_n_0_0_1.resultIdx? j (ofChosen p) = some v
  · obtain ⟨j, hj⟩ := h
    have hf : flags p v = 1#1 := Routing.scatter_set_hit _ _ _ _ v 1#1 (fun _ _ => rfl) j hj
    have hp : (0 : EReal) < ∑ _j ∈ Finset.univ.filter (fun j => scatter_S50000_S8192x1_S8192_n_0_0_1.resultIdx? j (ofChosen p) = some v), (1 : EReal) := by
      rw [show (1 : EReal) = ((1 : ℝ) : EReal) from rfl, sum_coe]
      exact_mod_cast Finset.sum_pos (fun _ _ => one_pos) ⟨j, Finset.mem_filter.2 ⟨Finset.mem_univ _, hj⟩⟩
    rw [hf, decide_eq_true hp]; rfl
  · have hf : flags p v = 0#1 := Routing.scatter_set_miss _ _ _ _ v fun j hj => h ⟨j, hj⟩
    have he : Finset.univ.filter (fun j => scatter_S50000_S8192x1_S8192_n_0_0_1.resultIdx? j (ofChosen p) = some v) = ∅ :=
      Finset.filter_eq_empty_iff.2 fun j _ hj => h ⟨j, hj⟩
    rw [hf, he, Finset.sum_empty, decide_eq_false (lt_irrefl _)]; rfl

/-- The two rectifiers agree at zero too. -/
theorem leaky_eq (y : EReal) : leaky y = Scalar.select (FloatOps.cmpf (F := Ideal) (φ := .f32) .oge y 0) y ((Ideal.ofBits .f32 0x3C23D70A#32 : EReal) * y) := by
  unfold leaky
  rw [ogt_zero, oge_zero]
  by_cases h : 0 < y
  · rw [decide_eq_true h, decide_eq_true h.le]
  · by_cases h' : 0 ≤ y
    · obtain rfl : y = 0 := le_antisymm (not_lt.1 h) h'
      rw [mul_zero]; unfold Scalar.select; split <;> split <;> rfl
    · rw [decide_eq_false h, decide_eq_false h']

/-- The reference's last linear layer, for any flags and messages. -/
def lastLayer (f : IVec S50000 1) (a x : FVec Ideal S50000x128 .f32) (w : FVec Ideal S128x128 .f32) (b : FVec Ideal S128 .f32) : FVec Ideal S50000x128 .f32 :=
  addf (Host.dotGeneral (F := Ideal) (φ₁ := .f32) (φ₂ := .f32) Cert.ReferenceIdeal.dot_S50000x128_S128x128_S50000x128_1_0_0_1_n_n none
      (select (broadcastInDim S50000x128 ![0, 1] Cert.ReferenceIdeal.Facts₀.bcast_S50000x1_S50000x128_0_1 (broadcastInDim S50000x1 ![0] Cert.ReferenceIdeal.Facts₀.bcast_S50000_S50000x1_0 f)) a x)
      (transpose S128x128 [1, 0] w transposes_S128x128_S128x128_1_0))
    (broadcastInDim S50000x128 ![0, 1] Cert.ReferenceIdeal.Facts₀.bcast_S1x128_S50000x128_0_1 (broadcastInDim S1x128 ![1] Cert.ReferenceIdeal.Facts₀.bcast_S128_S1x128_1 b))

theorem lastLayer_at (f : IVec S50000 1) (a x : FVec Ideal S50000x128 .f32) (w : FVec Ideal S128x128 .f32) (b : FVec Ideal S128 .f32) (v : Fin 50000) (c : Fin 128) :
    lastLayer f a x w b (ix2 v c) = (∑ k : Fin 128, Scalar.select (f (ix1 v)) (a (ix2 v k)) (x (ix2 v k)) * w (ix2 c k)) + b (ix1 c) := by
  pointwise [lastLayer]

theorem turned_at (w : FVec Ideal S128x128 .f32) (k c : Fin 128) :
    (truncf .bf16 (transpose S128x128 [1, 0] w transposes_S128x128_S128x128_1_0) bitsLt_bf16_f32 : FVec Ideal S128x128 .bf16) (ix2 k c) = w (ix2 c k) := by
  pointwise
theorem row_at (b : FVec Ideal S128 .f32) (c : Fin 128) : shapeCast S1x128 b shapeCasts_S128_S1x128 (ix2 (0 : Fin 1) c) = b (ix1 c) := by
  pointwise
theorem mark_at (x : FVec Ideal S50000 .f32) (v : Fin 50000) : shapeCast S50000x1 x shapeCasts_S50000_S50000x1 (ix2 v (0 : Fin 1)) = x (ix1 v) := by
  pointwise

end Cert.Proof.Value

end
-- ==== Proof.Value.Equal.lean ====
/-
  From arguments that are the same and satisfy the precondition, the kernel's two results are the reference's.
-/
module

public import proofs.«01_k».proof.Proof.Value.Finish
public import proofs.«01_k».proof.Proof.Host.Inputs

@[expose] public section

set_option maxRecDepth 16384

noncomputable section

namespace Cert.Proof.Value

open Cert.KernelIdeal Cert.KernelIdeal.Gen Cert.Proof.Host Cert.Proof.Tile
open Cert.ReferenceIdeal.Value (res_main_v35 res_main_v44 res_main_v68 res_main_v75 res_main_v84 res_main_v91 res_main_v98 res_main_v105 res_main_v155)
open Idealize.ShloMosaic Idealize.ShloMosaic.TcCoe Idealize.ShloMosaic.StableHlo

/-- A finite entry is real. -/
theorem real_of_finite {S : Shape} (x : FVec Ideal S .f32) (h : ∀ i, cmpf .olt (Host.absf x) (constant S .f32 0x7F800000#32) i = 1#1) (i : S.Idx) :
    ∃ r : ℝ, x i = (r : EReal) := by
  have hi : BitVec.ofBool (decide (max (x i) (-(x i)) < Ideal.ofBits .f32 0x7F800000#32)) = 1#1 := h i
  exact real_of_abs_lt _ (lt_of_lt_of_le (of_decide_eq_true ((WordArith.ofBool_eq_one_iff _).1 hi)) le_top)

variable (V : Valuation Cert.ReferenceIdeal.τ Cert.ReferenceIdeal.sig (Elt Ideal)) (m : (ℓ : Loc nD τ sig) → Buf (Elt Ideal) ℓ) (d : Dev nD)

/-- The reference's arguments are the kernel's. -/
structure Agree : Prop where
  a0 : (V (atR Cert.ReferenceIdeal.main_arg0) : FVec Ideal S50000 .f32) = m (d, ref main_arg0)
  a1 : (V (atR Cert.ReferenceIdeal.main_arg1) : FVec Ideal S50000x128 .f32) = m (d, ref main_arg1)
  a2 : (V (atR Cert.ReferenceIdeal.main_arg2) : FVec Ideal S131072x128 .f32) = m (d, ref main_arg2)
  a3 : (V (atR Cert.ReferenceIdeal.main_arg3) : FVec Ideal S64x128 .f32) = m (d, ref main_arg3)
  a4 : (V (atR Cert.ReferenceIdeal.main_arg4) : FVec Ideal S64x128 .f32) = m (d, ref main_arg4)
  a5 : (V (atR Cert.ReferenceIdeal.main_arg5) : FVec Ideal S512x512 .f32) = m (d, ref main_arg5)
  a6 : (V (atR Cert.ReferenceIdeal.main_arg6) : FVec Ideal S512x512 .f32) = m (d, ref main_arg6)
  a7 : (V (atR Cert.ReferenceIdeal.main_arg7) : FVec Ideal S128x128 .f32) = m (d, ref main_arg7)
  a8 : (V (atR Cert.ReferenceIdeal.main_arg8) : FVec Ideal S128 .f32) = m (d, ref main_arg8)
  a9 : (V (atR Cert.ReferenceIdeal.main_arg9) : IVec S131072 32) = m (d, ref main_arg9)
  a10 : (V (atR Cert.ReferenceIdeal.main_arg10) : IVec S131072 32) = m (d, ref main_arg10)
  a11 : (V (atR Cert.ReferenceIdeal.main_arg11) : IVec S131072 32) = m (d, ref main_arg11)

variable {V m d} (h : Agree V m d)
  (hin : Inputs (F := Ideal) (m (d, ref main_arg1)) (m (d, ref main_arg2)) (m (d, ref main_arg3)) (m (d, ref main_arg4)) (m (d, ref main_arg5)) (m (d, ref main_arg6))
    (m (d, ref main_arg9)) (m (d, ref main_arg10)) (m (d, ref main_arg11)))
include h hin

omit h in
/-- The kernel's logits are real. -/
theorem logits_real (e : S131072.Idx) : ∃ r : ℝ, logits m d e = (r : EReal) := by
  obtain ⟨f, rfl⟩ : ∃ f : Fin 131072, e = ix1 f := ⟨e 0, eq_ix1 (n0 := 131072) e⟩
  rw [logits_pair]
  exact pairOf_real _ _ _ _ _ _ _ (fun _ => real_of_finite _ hin.fin1 _) (fun _ => real_of_finite _ hin.fin1 _) (real_of_finite _ hin.fin2)
    (fun _ => real_of_finite _ hin.fin3 _) (fun _ => real_of_finite _ hin.fin4 _) (real_of_finite _ hin.fin5) (real_of_finite _ hin.fin6) f

theorem logits_eq : (res_main_v35 V : FVec Ideal S131072 .f32) = logits m d := by
  funext e
  obtain ⟨f, rfl⟩ : ∃ f : Fin 131072, e = ix1 f := ⟨e 0, eq_ix1 (n0 := 131072) e⟩
  rw [logits_pair]
  refine (ref_logits V f (by rw [h.a9]; exact hin.rows.1) (by rw [h.a10]; exact hin.rows.2) (by rw [h.a11]; exact hin.query)).trans ?_
  rw [h.a1, h.a2, h.a3, h.a4, h.a5, h.a6, h.a9, h.a10]
  rfl

theorem softs_eq : (res_main_v68 V : FVec Ideal S131072 .f32) = softs m d := by
  choose l hl using logits_real hin
  have hs : ∀ e, ((m (d, ref main_arg9) : IVec S131072 32) e).toNat < 50000 := hin.rows.1
  refine (ref_soft V (by rw [h.a9]; exact hs)).trans ?_
  rw [logits_eq h hin, h.a9]
  funext e
  obtain ⟨f, rfl⟩ : ∃ f : Fin 131072, e = ix1 f := ⟨e 0, eq_ix1 (n0 := 131072) e⟩
  exact (share_at _ hs _ l hl _ (refShift_real _) f).trans (soft_at _ hs _ l hl f).symm

theorem best_eq : (res_main_v84 V : IVec S8192 32) = best m d := by
  rw [ref_best, softs_eq h hin, h.a9, h.a0]; rfl
theorem begins_eq : (res_main_v91 V : IVec S8192 32) = begins m d := by
  rw [ref_begins, best_eq h hin, h.a9]; rfl
theorem ends_eq : (res_main_v98 V : IVec S8192 32) = ends m d := by
  rw [ref_ends, best_eq h hin, h.a10]; rfl
theorem weights_eq : (res_main_v105 V : FVec Ideal S8192 .f32) = pick (F := Ideal) (e := .f32) (softs m d) (best m d) := by
  rw [ref_weights, best_eq h hin, softs_eq h hin]

/-- The chosen edges' softmax times their beginnings' scores is what they carry of the scored edges. -/
theorem carried_eq : (mulf (φ := .f32) (res_main_v105 V) (pick (F := Ideal) (e := .f32) (res_main_v75 V) (res_main_v84 V)) : FVec Ideal S8192 .f32)
    = pick (F := Ideal) (e := .f32) (targets m d) (best m d) := by
  have h75 : (res_main_v75 V : FVec Ideal S131072 .f32) = perEdge (F := Ideal) (m (d, ref main_arg9)) (m (d, ref main_arg0)) := by
    rw [← h.a9, ← h.a0]; rfl
  rw [weights_eq h hin, best_eq h hin, h75]
  rfl

theorem score_eq : sumChosen (F := Ideal) (res_main_v98 V) (mulf (φ := .f32) (res_main_v105 V) (pick (F := Ideal) (e := .f32) (res_main_v75 V) (res_main_v84 V)))
    = V11 m d (ref main_v156) := by
  rw [carried_eq h hin, ends_eq h hin, result_score]

omit h hin in
/-- The reference's last layer by name. -/
theorem ref_layer : (res_main_v155 V : FVec Ideal S50000x128 .f32)
    = lastLayer (flags (res_main_v91 V)) (aggregate (V (atR Cert.ReferenceIdeal.main_arg1)) (res_main_v91 V) (res_main_v98 V) (res_main_v105 V))
        (V (atR Cert.ReferenceIdeal.main_arg1)) (V (atR Cert.ReferenceIdeal.main_arg7)) (V (atR Cert.ReferenceIdeal.main_arg8)) := rfl

theorem rows_eq' : (select (cmpf (φ := .f32) .oge (res_main_v155 V) (broadcastInDim S50000x128 ![] bcast_S_S50000x128 (constant S_ .f32 0x00000000#32))) (res_main_v155 V)
      (mulf (φ := .f32) (broadcastInDim S50000x128 ![] bcast_S_S50000x128 (constant S_ .f32 0x3C23D70A#32)) (res_main_v155 V)) : FVec Ideal S50000x128 .f32)
    = V11 m d (ref main_v155_1) := by
  rw [ref_layer, begins_eq h hin, ends_eq h hin, weights_eq h hin, h.a1, h.a7, h.a8, result_rows]
  funext i
  obtain ⟨v, c, rfl⟩ : ∃ (v : Fin 50000) (c : Fin 128), i = ix2 v c := ⟨i 0, i 1, eq_ix2 (n0 := 50000) (n1 := 128) i⟩
  have hm : (V9 m d (ref main_v153) : FVec Ideal S50000x1 .f32) (ix2 v (0 : Fin 1)) = counts (begins m d) (ix1 v) := by
    rw [at9_marks, at8_marks]; exact mark_at _ v
  have hx : V9 m d (ref main_arg1) = m (d, ref main_arg1) := kept9 (m := m) (d := d) (r := main_arg1) (by decide)
  have hw : ∀ k : Fin 128, (V9 m d (ref main_v25) : FVec Ideal S128x128 .bf16) (ix2 k c) = (m (d, ref main_arg7) : FVec Ideal S128x128 .f32) (ix2 c k) := fun k => by
    rw [at9_weights]; exact (congrFun (prep_l (Host.V0 m d)) (ix2 k c)).trans (turned_at _ k c)
  have hb : (V9 m d (ref main_v154) : FVec Ideal S1x128 .f32) (ix2 (0 : Fin 1) c) = (m (d, ref main_arg8) : FVec Ideal S128 .f32) (ix1 c) := by
    rw [at9_bias]; exact row_at _ c
  show Scalar.select (FloatOps.cmpf (F := Ideal) (φ := .f32) .oge _ (Ideal.ofBits .f32 0x00000000#32)) _ ((Ideal.ofBits .f32 0x3C23D70A#32 : EReal) * _) = _
  rw [Ideal.ofBits_zero_f32, ← leaky_eq, lastLayer_at]
  refine congrArg leaky ?_
  unfold line
  refine congrArg₂ (· + ·) (Finset.sum_congr rfl fun k _ => congrArg₂ (· * ·) ?_ (hw k).symm) hb.symm
  rw [← marks_eq, ← hm, at9_sum, hx]
  rfl

end Cert.Proof.Value

end
-- ==== Proof.lean ====
/-
  The certificate: the kernel runs and leaves the machine at rest, and over the reals its results are the reference's.
-/
module

public import proofs.«01_k».proof.Defs
public import proofs.«01_k».proof.Proof.Gen.ReferenceIdeal
public import proofs.«01_k».proof.Proof.Gen.ReferenceIdeal.Run
public import proofs.«01_k».proof.Proof.Gen.Pre_inputs_ok
public import proofs.«01_k».proof.Proof.Host.Frame
public import proofs.«01_k».proof.Proof.Value.Equal

@[expose] public section

namespace Cert.Proof

open Idealize.ShloMosaic Idealize.ShloMosaic.TcCoe Idealize.SL.Sem

/-- The reference: host operations alone, and no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same from memories that satisfy the precondition. -/
theorem frame_reference_pre : Cert.quiescent_ReferenceIdeal_pre_inputs_ok := fun m ρ _ => frame_reference m ρ trivial

open Cert.KernelIdeal Cert.Proof.Host in
/-- Both run, and from the same arguments their results are equal. -/
theorem equal_results : Cert.algebraic_KernelIdeal_ReferenceIdeal := fun m g m' g' hp hargs => by
  have hin := fun c : Dev nD => inputs_ok_all (F := Ideal) (hp c)
  have hag : ∀ c : Dev nD, Value.Agree (StableHlo.launchContents m' c) m c := fun c => by
    obtain ⟨a0, a1, a2, a3, a4, a5, a6, a7, a8, a9, a10, a11⟩ := hargs c
    exact ⟨a0, a1, a2, a3, a4, a5, a6, a7, a8, a9, a10, a11⟩
  refine ⟨fun c => V11 m c (ref main_v156), fun c => V11 m c (ref main_v155_1), ?_, ?_⟩
  · exact (θ_run defs _ _).mono (fun _ h c => ⟨h.at c _ (by decide), h.at c _ (by decide),
      h.kept c _ (by decide) (by decide), h.kept c _ (by decide) (by decide), h.kept c _ (by decide) (by decide), h.kept c _ (by decide) (by decide),
      h.kept c _ (by decide) (by decide), h.kept c _ (by decide) (by decide), h.kept c _ (by decide) (by decide), h.kept c _ (by decide) (by decide),
      h.kept c _ (by decide) (by decide), h.kept c _ (by decide) (by decide), h.kept c _ (by decide) (by decide), h.kept c _ (by decide) (by decide)⟩)
      (run_main (F := Ideal) m g fun c => (hin c).rows)
  · exact (θ_run Cert.ReferenceIdeal.defs _ _).mono (fun _ h c => ⟨(h c).1.trans (Value.score_eq (hag c) (hin c)),
      (h c).2.1.trans (Value.rows_eq' (hag c) (hin c)), (h c).2.2⟩) (Cert.ReferenceIdeal.Value.run (F := Ideal) m' g')

theorem claim : Cert.Claim :=
  ⟨Cert.Kernel.Gen.facts, Cert.KernelIdeal.Gen.facts, Cert.ReferenceIdeal.Gen.facts, Cert.Pre_inputs_ok.Gen.facts,
    Host.frame_kernel, Host.frame_ideal, frame_reference, frame_reference_pre, trivial, equal_results⟩

end Cert.Proof

end
